-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MergePrompt (m : (ℓ : Loc Cert.MergePrompt.nD Cert.MergePrompt.τ Cert.MergePrompt.sig) → Buf (Elt Bits) ℓ) : Prop :=
  True

def Pre_MergePromptIdeal (m : (ℓ : Loc Cert.MergePromptIdeal.nD Cert.MergePromptIdeal.τ Cert.MergePromptIdeal.sig) → Buf (Elt Ideal) ℓ) : Prop :=
  True

def Pre_MergePromptReferenceIdeal (m : (ℓ : Loc Cert.MergePromptReferenceIdeal.nD Cert.MergePromptReferenceIdeal.τ Cert.MergePromptReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MergePrompt [hMergePrompt : Cert.MergePrompt.Facts] : Prop :=
  ∀ (m : (ℓ : Loc Cert.MergePrompt.nD Cert.MergePrompt.τ Cert.MergePrompt.sig) → Buf (Elt Bits) ℓ) (g : Dev Cert.MergePrompt.nD → PrngReg), Pre_MergePrompt m →
    θ_run (Cert.MergePrompt.defs (F := Bits)) (onTc (τ := Cert.MergePrompt.τ) (Cert.MergePrompt.main (F := Bits))) ⟨m, fun _ => 0, g⟩ (fun r => (∀ c : Dev Cert.MergePrompt.nD,
      r.2.mem ((c.tc : Thread Cert.MergePrompt.nD Cert.MergePrompt.τ).loc Cert.MergePrompt.main_arg0) = m ((c.tc : Thread Cert.MergePrompt.nD Cert.MergePrompt.τ).loc Cert.MergePrompt.main_arg0)
      ∧ r.2.mem ((c.tc : Thread Cert.MergePrompt.nD Cert.MergePrompt.τ).loc Cert.MergePrompt.main_arg1) = m ((c.tc : Thread Cert.MergePrompt.nD Cert.MergePrompt.τ).loc Cert.MergePrompt.main_arg1)
      ∧ r.2.mem ((c.tc : Thread Cert.MergePrompt.nD Cert.MergePrompt.τ).loc Cert.MergePrompt.main_arg2) = m ((c.tc : Thread Cert.MergePrompt.nD Cert.MergePrompt.τ).loc Cert.MergePrompt.main_arg2)
      ∧ r.2.mem ((c.tc : Thread Cert.MergePrompt.nD Cert.MergePrompt.τ).loc Cert.MergePrompt.main_arg3) = m ((c.tc : Thread Cert.MergePrompt.nD Cert.MergePrompt.τ).loc Cert.MergePrompt.main_arg3)
      ∧ r.2.mem ((c.tc : Thread Cert.MergePrompt.nD Cert.MergePrompt.τ).loc Cert.MergePrompt.main_arg4) = m ((c.tc : Thread Cert.MergePrompt.nD Cert.MergePrompt.τ).loc Cert.MergePrompt.main_arg4)
      ∧ r.2.mem ((c.tc : Thread Cert.MergePrompt.nD Cert.MergePrompt.τ).loc Cert.MergePrompt.main_arg5) = m ((c.tc : Thread Cert.MergePrompt.nD Cert.MergePrompt.τ).loc Cert.MergePrompt.main_arg5)
      ∧ r.2.mem ((c.tc : Thread Cert.MergePrompt.nD Cert.MergePrompt.τ).loc Cert.MergePrompt.main_arg6) = m ((c.tc : Thread Cert.MergePrompt.nD Cert.MergePrompt.τ).loc Cert.MergePrompt.main_arg6)
      ∧ r.2.mem ((c.tc : Thread Cert.MergePrompt.nD Cert.MergePrompt.τ).loc Cert.MergePrompt.main_arg7) = m ((c.tc : Thread Cert.MergePrompt.nD Cert.MergePrompt.τ).loc Cert.MergePrompt.main_arg7)
      ∧ r.2.mem ((c.tc : Thread Cert.MergePrompt.nD Cert.MergePrompt.τ).loc Cert.MergePrompt.main_arg8) = m ((c.tc : Thread Cert.MergePrompt.nD Cert.MergePrompt.τ).loc Cert.MergePrompt.main_arg8)
      ∧ r.2.mem ((c.tc : Thread Cert.MergePrompt.nD Cert.MergePrompt.τ).loc Cert.MergePrompt.main_arg9) = m ((c.tc : Thread Cert.MergePrompt.nD Cert.MergePrompt.τ).loc Cert.MergePrompt.main_arg9)
      ∧ r.2.mem ((c.tc : Thread Cert.MergePrompt.nD Cert.MergePrompt.τ).loc Cert.MergePrompt.main_arg10) = m ((c.tc : Thread Cert.MergePrompt.nD Cert.MergePrompt.τ).loc Cert.MergePrompt.main_arg10)
      ∧ r.2.mem ((c.tc : Thread Cert.MergePrompt.nD Cert.MergePrompt.τ).loc Cert.MergePrompt.main_arg11) = m ((c.tc : Thread Cert.MergePrompt.nD Cert.MergePrompt.τ).loc Cert.MergePrompt.main_arg11)
      ∧ r.2.mem ((c.tc : Thread Cert.MergePrompt.nD Cert.MergePrompt.τ).loc Cert.MergePrompt.main_arg12) = m ((c.tc : Thread Cert.MergePrompt.nD Cert.MergePrompt.τ).loc Cert.MergePrompt.main_arg12)
      ∧ r.2.mem ((c.tc : Thread Cert.MergePrompt.nD Cert.MergePrompt.τ).loc Cert.MergePrompt.main_arg13) = m ((c.tc : Thread Cert.MergePrompt.nD Cert.MergePrompt.τ).loc Cert.MergePrompt.main_arg13)
      ∧ r.2.mem ((c.tc : Thread Cert.MergePrompt.nD Cert.MergePrompt.τ).loc Cert.MergePrompt.main_arg14) = m ((c.tc : Thread Cert.MergePrompt.nD Cert.MergePrompt.τ).loc Cert.MergePrompt.main_arg14))
      ∧ r.2.sem = fun _ => 0)

def quiescent_MergePromptIdeal [hMergePromptIdeal : Cert.MergePromptIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg), Pre_MergePromptIdeal m →
    θ_run (Cert.MergePromptIdeal.defs (F := Ideal)) (onTc (τ := Cert.MergePromptIdeal.τ) (Cert.MergePromptIdeal.main (F := Ideal))) ⟨m, fun _ => 0, g⟩ (fun r => (∀ c : Dev Cert.MergePromptIdeal.nD,
      r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
      ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
      ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
      ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
      ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4)
      ∧ r.2.mem ((c.tc : Thread Cert.MergePromptIdeal.nD Cert.MergePromptIdeal.τ).loc Cert.MergePromptIdeal.main_arg5) = m ((c.tc : Thread Cert.MergePromptIdeal.nD Cert.MergePromptIdeal.τ).loc Cert.MergePromptIdeal.main_arg5)
      ∧ r.2.mem ((c.tc : Thread Cert.MergePromptIdeal.nD Cert.MergePromptIdeal.τ).loc Cert.MergePromptIdeal.main_arg6) = m ((c.tc : Thread Cert.MergePromptIdeal.nD Cert.MergePromptIdeal.τ).loc Cert.MergePromptIdeal.main_arg6)
      ∧ r.2.mem ((c.tc : Thread Cert.MergePromptIdeal.nD Cert.MergePromptIdeal.τ).loc Cert.MergePromptIdeal.main_arg7) = m ((c.tc : Thread Cert.MergePromptIdeal.nD Cert.MergePromptIdeal.τ).loc Cert.MergePromptIdeal.main_arg7)
      ∧ r.2.mem ((c.tc : Thread Cert.MergePromptIdeal.nD Cert.MergePromptIdeal.τ).loc Cert.MergePromptIdeal.main_arg8) = m ((c.tc : Thread Cert.MergePromptIdeal.nD Cert.MergePromptIdeal.τ).loc Cert.MergePromptIdeal.main_arg8)
      ∧ r.2.mem ((c.tc : Thread Cert.MergePromptIdeal.nD Cert.MergePromptIdeal.τ).loc Cert.MergePromptIdeal.main_arg9) = m ((c.tc : Thread Cert.MergePromptIdeal.nD Cert.MergePromptIdeal.τ).loc Cert.MergePromptIdeal.main_arg9)
      ∧ r.2.mem ((c.tc : Thread Cert.MergePromptIdeal.nD Cert.MergePromptIdeal.τ).loc Cert.MergePromptIdeal.main_arg10) = m ((c.tc : Thread Cert.MergePromptIdeal.nD Cert.MergePromptIdeal.τ).loc Cert.MergePromptIdeal.main_arg10)
      ∧ r.2.mem ((c.tc : Thread Cert.MergePromptIdeal.nD Cert.MergePromptIdeal.τ).loc Cert.MergePromptIdeal.main_arg11) = m ((c.tc : Thread Cert.MergePromptIdeal.nD Cert.MergePromptIdeal.τ).loc Cert.MergePromptIdeal.main_arg11)
      ∧ r.2.mem ((c.tc : Thread Cert.MergePromptIdeal.nD Cert.MergePromptIdeal.τ).loc Cert.MergePromptIdeal.main_arg12) = m ((c.tc : Thread Cert.MergePromptIdeal.nD Cert.MergePromptIdeal.τ).loc Cert.MergePromptIdeal.main_arg12)
      ∧ r.2.mem ((c.tc : Thread Cert.MergePromptIdeal.nD Cert.MergePromptIdeal.τ).loc Cert.MergePromptIdeal.main_arg13) = m ((c.tc : Thread Cert.MergePromptIdeal.nD Cert.MergePromptIdeal.τ).loc Cert.MergePromptIdeal.main_arg13)
      ∧ r.2.mem ((c.tc : Thread Cert.MergePromptIdeal.nD Cert.MergePromptIdeal.τ).loc Cert.MergePromptIdeal.main_arg14) = m ((c.tc : Thread Cert.MergePromptIdeal.nD Cert.MergePromptIdeal.τ).loc Cert.MergePromptIdeal.main_arg14))
      ∧ r.2.sem = fun _ => 0)

def quiescent_MergePromptReferenceIdeal [hMergePromptReferenceIdeal : Cert.MergePromptReferenceIdeal.Facts] : Prop :=
  ∀ (m : (ℓ : Loc Cert.MergePromptReferenceIdeal.nD Cert.MergePromptReferenceIdeal.τ Cert.MergePromptReferenceIdeal.sig) → Buf (Elt Ideal) ℓ) (g : Dev Cert.MergePromptReferenceIdeal.nD → PrngReg), Pre_MergePromptReferenceIdeal m →
    θ_run (Cert.MergePromptReferenceIdeal.defs (F := Ideal)) (onTc (τ := Cert.MergePromptReferenceIdeal.τ) (Cert.MergePromptReferenceIdeal.main (F := Ideal))) ⟨m, fun _ => 0, g⟩ (fun r => (∀ c : Dev Cert.MergePromptReferenceIdeal.nD,
      r.2.mem ((c.tc : Thread Cert.MergePromptReferenceIdeal.nD Cert.MergePromptReferenceIdeal.τ).loc Cert.MergePromptReferenceIdeal.main_arg0) = m ((c.tc : Thread Cert.MergePromptReferenceIdeal.nD Cert.MergePromptReferenceIdeal.τ).loc Cert.MergePromptReferenceIdeal.main_arg0)
      ∧ r.2.mem ((c.tc : Thread Cert.MergePromptReferenceIdeal.nD Cert.MergePromptReferenceIdeal.τ).loc Cert.MergePromptReferenceIdeal.main_arg1) = m ((c.tc : Thread Cert.MergePromptReferenceIdeal.nD Cert.MergePromptReferenceIdeal.τ).loc Cert.MergePromptReferenceIdeal.main_arg1)
      ∧ r.2.mem ((c.tc : Thread Cert.MergePromptReferenceIdeal.nD Cert.MergePromptReferenceIdeal.τ).loc Cert.MergePromptReferenceIdeal.main_arg2) = m ((c.tc : Thread Cert.MergePromptReferenceIdeal.nD Cert.MergePromptReferenceIdeal.τ).loc Cert.MergePromptReferenceIdeal.main_arg2)
      ∧ r.2.mem ((c.tc : Thread Cert.MergePromptReferenceIdeal.nD Cert.MergePromptReferenceIdeal.τ).loc Cert.MergePromptReferenceIdeal.main_arg3) = m ((c.tc : Thread Cert.MergePromptReferenceIdeal.nD Cert.MergePromptReferenceIdeal.τ).loc Cert.MergePromptReferenceIdeal.main_arg3)
      ∧ r.2.mem ((c.tc : Thread Cert.MergePromptReferenceIdeal.nD Cert.MergePromptReferenceIdeal.τ).loc Cert.MergePromptReferenceIdeal.main_arg4) = m ((c.tc : Thread Cert.MergePromptReferenceIdeal.nD Cert.MergePromptReferenceIdeal.τ).loc Cert.MergePromptReferenceIdeal.main_arg4)
      ∧ r.2.mem ((c.tc : Thread Cert.MergePromptReferenceIdeal.nD Cert.MergePromptReferenceIdeal.τ).loc Cert.MergePromptReferenceIdeal.main_arg5) = m ((c.tc : Thread Cert.MergePromptReferenceIdeal.nD Cert.MergePromptReferenceIdeal.τ).loc Cert.MergePromptReferenceIdeal.main_arg5)
      ∧ r.2.mem ((c.tc : Thread Cert.MergePromptReferenceIdeal.nD Cert.MergePromptReferenceIdeal.τ).loc Cert.MergePromptReferenceIdeal.main_arg6) = m ((c.tc : Thread Cert.MergePromptReferenceIdeal.nD Cert.MergePromptReferenceIdeal.τ).loc Cert.MergePromptReferenceIdeal.main_arg6)
      ∧ r.2.mem ((c.tc : Thread Cert.MergePromptReferenceIdeal.nD Cert.MergePromptReferenceIdeal.τ).loc Cert.MergePromptReferenceIdeal.main_arg7) = m ((c.tc : Thread Cert.MergePromptReferenceIdeal.nD Cert.MergePromptReferenceIdeal.τ).loc Cert.MergePromptReferenceIdeal.main_arg7)
      ∧ r.2.mem ((c.tc : Thread Cert.MergePromptReferenceIdeal.nD Cert.MergePromptReferenceIdeal.τ).loc Cert.MergePromptReferenceIdeal.main_arg8) = m ((c.tc : Thread Cert.MergePromptReferenceIdeal.nD Cert.MergePromptReferenceIdeal.τ).loc Cert.MergePromptReferenceIdeal.main_arg8)
      ∧ r.2.mem ((c.tc : Thread Cert.MergePromptReferenceIdeal.nD Cert.MergePromptReferenceIdeal.τ).loc Cert.MergePromptReferenceIdeal.main_arg9) = m ((c.tc : Thread Cert.MergePromptReferenceIdeal.nD Cert.MergePromptReferenceIdeal.τ).loc Cert.MergePromptReferenceIdeal.main_arg9)
      ∧ r.2.mem ((c.tc : Thread Cert.MergePromptReferenceIdeal.nD Cert.MergePromptReferenceIdeal.τ).loc Cert.MergePromptReferenceIdeal.main_arg10) = m ((c.tc : Thread Cert.MergePromptReferenceIdeal.nD Cert.MergePromptReferenceIdeal.τ).loc Cert.MergePromptReferenceIdeal.main_arg10)
      ∧ r.2.mem ((c.tc : Thread Cert.MergePromptReferenceIdeal.nD Cert.MergePromptReferenceIdeal.τ).loc Cert.MergePromptReferenceIdeal.main_arg11) = m ((c.tc : Thread Cert.MergePromptReferenceIdeal.nD Cert.MergePromptReferenceIdeal.τ).loc Cert.MergePromptReferenceIdeal.main_arg11)
      ∧ r.2.mem ((c.tc : Thread Cert.MergePromptReferenceIdeal.nD Cert.MergePromptReferenceIdeal.τ).loc Cert.MergePromptReferenceIdeal.main_arg12) = m ((c.tc : Thread Cert.MergePromptReferenceIdeal.nD Cert.MergePromptReferenceIdeal.τ).loc Cert.MergePromptReferenceIdeal.main_arg12)
      ∧ r.2.mem ((c.tc : Thread Cert.MergePromptReferenceIdeal.nD Cert.MergePromptReferenceIdeal.τ).loc Cert.MergePromptReferenceIdeal.main_arg13) = m ((c.tc : Thread Cert.MergePromptReferenceIdeal.nD Cert.MergePromptReferenceIdeal.τ).loc Cert.MergePromptReferenceIdeal.main_arg13)
      ∧ r.2.mem ((c.tc : Thread Cert.MergePromptReferenceIdeal.nD Cert.MergePromptReferenceIdeal.τ).loc Cert.MergePromptReferenceIdeal.main_arg14) = m ((c.tc : Thread Cert.MergePromptReferenceIdeal.nD Cert.MergePromptReferenceIdeal.τ).loc Cert.MergePromptReferenceIdeal.main_arg14))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6)
      ∧ r.2.mem ((c.tc : Thread Cert.Gates.nD Cert.Gates.τ).loc Cert.Gates.main_arg7) = m ((c.tc : Thread Cert.Gates.nD Cert.Gates.τ).loc Cert.Gates.main_arg7)
      ∧ r.2.mem ((c.tc : Thread Cert.Gates.nD Cert.Gates.τ).loc Cert.Gates.main_arg8) = m ((c.tc : Thread Cert.Gates.nD Cert.Gates.τ).loc Cert.Gates.main_arg8)
      ∧ r.2.mem ((c.tc : Thread Cert.Gates.nD Cert.Gates.τ).loc Cert.Gates.main_arg9) = m ((c.tc : Thread Cert.Gates.nD Cert.Gates.τ).loc Cert.Gates.main_arg9)
      ∧ r.2.mem ((c.tc : Thread Cert.Gates.nD Cert.Gates.τ).loc Cert.Gates.main_arg10) = m ((c.tc : Thread Cert.Gates.nD Cert.Gates.τ).loc Cert.Gates.main_arg10)
      ∧ r.2.mem ((c.tc : Thread Cert.Gates.nD Cert.Gates.τ).loc Cert.Gates.main_arg11) = m ((c.tc : Thread Cert.Gates.nD Cert.Gates.τ).loc Cert.Gates.main_arg11)
      ∧ r.2.mem ((c.tc : Thread Cert.Gates.nD Cert.Gates.τ).loc Cert.Gates.main_arg12) = m ((c.tc : Thread Cert.Gates.nD Cert.Gates.τ).loc Cert.Gates.main_arg12)
      ∧ r.2.mem ((c.tc : Thread Cert.Gates.nD Cert.Gates.τ).loc Cert.Gates.main_arg13) = m ((c.tc : Thread Cert.Gates.nD Cert.Gates.τ).loc Cert.Gates.main_arg13))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
      ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
      ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9)
      ∧ r.2.mem ((c.tc : Thread Cert.GatesIdeal.nD Cert.GatesIdeal.τ).loc Cert.GatesIdeal.main_arg10) = m ((c.tc : Thread Cert.GatesIdeal.nD Cert.GatesIdeal.τ).loc Cert.GatesIdeal.main_arg10)
      ∧ r.2.mem ((c.tc : Thread Cert.GatesIdeal.nD Cert.GatesIdeal.τ).loc Cert.GatesIdeal.main_arg11) = m ((c.tc : Thread Cert.GatesIdeal.nD Cert.GatesIdeal.τ).loc Cert.GatesIdeal.main_arg11)
      ∧ r.2.mem ((c.tc : Thread Cert.GatesIdeal.nD Cert.GatesIdeal.τ).loc Cert.GatesIdeal.main_arg12) = m ((c.tc : Thread Cert.GatesIdeal.nD Cert.GatesIdeal.τ).loc Cert.GatesIdeal.main_arg12)
      ∧ r.2.mem ((c.tc : Thread Cert.GatesIdeal.nD Cert.GatesIdeal.τ).loc Cert.GatesIdeal.main_arg13) = m ((c.tc : Thread Cert.GatesIdeal.nD Cert.GatesIdeal.τ).loc Cert.GatesIdeal.main_arg13))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4)
      ∧ r.2.mem ((c.tc : Thread Cert.GatesReferenceIdeal.nD Cert.GatesReferenceIdeal.τ).loc Cert.GatesReferenceIdeal.main_arg5) = m ((c.tc : Thread Cert.GatesReferenceIdeal.nD Cert.GatesReferenceIdeal.τ).loc Cert.GatesReferenceIdeal.main_arg5)
      ∧ r.2.mem ((c.tc : Thread Cert.GatesReferenceIdeal.nD Cert.GatesReferenceIdeal.τ).loc Cert.GatesReferenceIdeal.main_arg6) = m ((c.tc : Thread Cert.GatesReferenceIdeal.nD Cert.GatesReferenceIdeal.τ).loc Cert.GatesReferenceIdeal.main_arg6)
      ∧ r.2.mem ((c.tc : Thread Cert.GatesReferenceIdeal.nD Cert.GatesReferenceIdeal.τ).loc Cert.GatesReferenceIdeal.main_arg7) = m ((c.tc : Thread Cert.GatesReferenceIdeal.nD Cert.GatesReferenceIdeal.τ).loc Cert.GatesReferenceIdeal.main_arg7)
      ∧ r.2.mem ((c.tc : Thread Cert.GatesReferenceIdeal.nD Cert.GatesReferenceIdeal.τ).loc Cert.GatesReferenceIdeal.main_arg8) = m ((c.tc : Thread Cert.GatesReferenceIdeal.nD Cert.GatesReferenceIdeal.τ).loc Cert.GatesReferenceIdeal.main_arg8)
      ∧ r.2.mem ((c.tc : Thread Cert.GatesReferenceIdeal.nD Cert.GatesReferenceIdeal.τ).loc Cert.GatesReferenceIdeal.main_arg9) = m ((c.tc : Thread Cert.GatesReferenceIdeal.nD Cert.GatesReferenceIdeal.τ).loc Cert.GatesReferenceIdeal.main_arg9)
      ∧ r.2.mem ((c.tc : Thread Cert.GatesReferenceIdeal.nD Cert.GatesReferenceIdeal.τ).loc Cert.GatesReferenceIdeal.main_arg10) = m ((c.tc : Thread Cert.GatesReferenceIdeal.nD Cert.GatesReferenceIdeal.τ).loc Cert.GatesReferenceIdeal.main_arg10)
      ∧ r.2.mem ((c.tc : Thread Cert.GatesReferenceIdeal.nD Cert.GatesReferenceIdeal.τ).loc Cert.GatesReferenceIdeal.main_arg11) = m ((c.tc : Thread Cert.GatesReferenceIdeal.nD Cert.GatesReferenceIdeal.τ).loc Cert.GatesReferenceIdeal.main_arg11)
      ∧ r.2.mem ((c.tc : Thread Cert.GatesReferenceIdeal.nD Cert.GatesReferenceIdeal.τ).loc Cert.GatesReferenceIdeal.main_arg12) = m ((c.tc : Thread Cert.GatesReferenceIdeal.nD Cert.GatesReferenceIdeal.τ).loc Cert.GatesReferenceIdeal.main_arg12)
      ∧ r.2.mem ((c.tc : Thread Cert.GatesReferenceIdeal.nD Cert.GatesReferenceIdeal.τ).loc Cert.GatesReferenceIdeal.main_arg13) = m ((c.tc : Thread Cert.GatesReferenceIdeal.nD Cert.GatesReferenceIdeal.τ).loc Cert.GatesReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v93) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v34) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MergePrompt_MergePromptIdeal : Prop :=
  True

def algebraic_MergePromptIdeal_MergePromptReferenceIdeal [hMergePromptIdeal : Cert.MergePromptIdeal.Facts] [hMergePromptReferenceIdeal : Cert.MergePromptReferenceIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg)
    (m' : (ℓ : Loc Cert.MergePromptReferenceIdeal.nD Cert.MergePromptReferenceIdeal.τ Cert.MergePromptReferenceIdeal.sig) → Buf (Elt Ideal) ℓ) (g' : Dev Cert.MergePromptReferenceIdeal.nD → PrngReg), Pre_MergePromptIdeal m →
    (∀ c : Dev Cert.MergePromptIdeal.nD,
      m' ((c.tc : Thread Cert.MergePromptReferenceIdeal.nD Cert.MergePromptReferenceIdeal.τ).loc Cert.MergePromptReferenceIdeal.main_arg0) = m ((c.tc : Thread Cert.MergePromptIdeal.nD Cert.MergePromptIdeal.τ).loc Cert.MergePromptIdeal.main_arg0)
      ∧ m' ((c.tc : Thread Cert.MergePromptReferenceIdeal.nD Cert.MergePromptReferenceIdeal.τ).loc Cert.MergePromptReferenceIdeal.main_arg1) = m ((c.tc : Thread Cert.MergePromptIdeal.nD Cert.MergePromptIdeal.τ).loc Cert.MergePromptIdeal.main_arg1)
      ∧ m' ((c.tc : Thread Cert.MergePromptReferenceIdeal.nD Cert.MergePromptReferenceIdeal.τ).loc Cert.MergePromptReferenceIdeal.main_arg2) = m ((c.tc : Thread Cert.MergePromptIdeal.nD Cert.MergePromptIdeal.τ).loc Cert.MergePromptIdeal.main_arg2)
      ∧ m' ((c.tc : Thread Cert.MergePromptReferenceIdeal.nD Cert.MergePromptReferenceIdeal.τ).loc Cert.MergePromptReferenceIdeal.main_arg3) = m ((c.tc : Thread Cert.MergePromptIdeal.nD Cert.MergePromptIdeal.τ).loc Cert.MergePromptIdeal.main_arg3)
      ∧ m' ((c.tc : Thread Cert.MergePromptReferenceIdeal.nD Cert.MergePromptReferenceIdeal.τ).loc Cert.MergePromptReferenceIdeal.main_arg4) = m ((c.tc : Thread Cert.MergePromptIdeal.nD Cert.MergePromptIdeal.τ).loc Cert.MergePromptIdeal.main_arg4)
      ∧ m' ((c.tc : Thread Cert.MergePromptReferenceIdeal.nD Cert.MergePromptReferenceIdeal.τ).loc Cert.MergePromptReferenceIdeal.main_arg5) = m ((c.tc : Thread Cert.MergePromptIdeal.nD Cert.MergePromptIdeal.τ).loc Cert.MergePromptIdeal.main_arg5)
      ∧ m' ((c.tc : Thread Cert.MergePromptReferenceIdeal.nD Cert.MergePromptReferenceIdeal.τ).loc Cert.MergePromptReferenceIdeal.main_arg6) = m ((c.tc : Thread Cert.MergePromptIdeal.nD Cert.MergePromptIdeal.τ).loc Cert.MergePromptIdeal.main_arg6)
      ∧ m' ((c.tc : Thread Cert.MergePromptReferenceIdeal.nD Cert.MergePromptReferenceIdeal.τ).loc Cert.MergePromptReferenceIdeal.main_arg7) = m ((c.tc : Thread Cert.MergePromptIdeal.nD Cert.MergePromptIdeal.τ).loc Cert.MergePromptIdeal.main_arg7)
      ∧ m' ((c.tc : Thread Cert.MergePromptReferenceIdeal.nD Cert.MergePromptReferenceIdeal.τ).loc Cert.MergePromptReferenceIdeal.main_arg8) = m ((c.tc : Thread Cert.MergePromptIdeal.nD Cert.MergePromptIdeal.τ).loc Cert.MergePromptIdeal.main_arg8)
      ∧ m' ((c.tc : Thread Cert.MergePromptReferenceIdeal.nD Cert.MergePromptReferenceIdeal.τ).loc Cert.MergePromptReferenceIdeal.main_arg9) = m ((c.tc : Thread Cert.MergePromptIdeal.nD Cert.MergePromptIdeal.τ).loc Cert.MergePromptIdeal.main_arg9)
      ∧ m' ((c.tc : Thread Cert.MergePromptReferenceIdeal.nD Cert.MergePromptReferenceIdeal.τ).loc Cert.MergePromptReferenceIdeal.main_arg10) = m ((c.tc : Thread Cert.MergePromptIdeal.nD Cert.MergePromptIdeal.τ).loc Cert.MergePromptIdeal.main_arg10)
      ∧ m' ((c.tc : Thread Cert.MergePromptReferenceIdeal.nD Cert.MergePromptReferenceIdeal.τ).loc Cert.MergePromptReferenceIdeal.main_arg11) = m ((c.tc : Thread Cert.MergePromptIdeal.nD Cert.MergePromptIdeal.τ).loc Cert.MergePromptIdeal.main_arg11)
      ∧ m' ((c.tc : Thread Cert.MergePromptReferenceIdeal.nD Cert.MergePromptReferenceIdeal.τ).loc Cert.MergePromptReferenceIdeal.main_arg12) = m ((c.tc : Thread Cert.MergePromptIdeal.nD Cert.MergePromptIdeal.τ).loc Cert.MergePromptIdeal.main_arg12)
      ∧ m' ((c.tc : Thread Cert.MergePromptReferenceIdeal.nD Cert.MergePromptReferenceIdeal.τ).loc Cert.MergePromptReferenceIdeal.main_arg13) = m ((c.tc : Thread Cert.MergePromptIdeal.nD Cert.MergePromptIdeal.τ).loc Cert.MergePromptIdeal.main_arg13)
      ∧ m' ((c.tc : Thread Cert.MergePromptReferenceIdeal.nD Cert.MergePromptReferenceIdeal.τ).loc Cert.MergePromptReferenceIdeal.main_arg14) = m ((c.tc : Thread Cert.MergePromptIdeal.nD Cert.MergePromptIdeal.τ).loc Cert.MergePromptIdeal.main_arg14)) →
    ∃ (v0 : (c : Dev Cert.MergePromptIdeal.nD) → Buf (Elt Ideal) ((c.tc : Thread Cert.MergePromptIdeal.nD Cert.MergePromptIdeal.τ).loc Cert.MergePromptIdeal.main_v0)),
      θ_run (Cert.MergePromptIdeal.defs (F := Ideal)) (onTc (τ := Cert.MergePromptIdeal.τ) (Cert.MergePromptIdeal.main (F := Ideal))) ⟨m, fun _ => 0, g⟩ (fun r => ∀ c : Dev Cert.MergePromptIdeal.nD,
          r.2.mem ((c.tc : Thread Cert.MergePromptIdeal.nD Cert.MergePromptIdeal.τ).loc Cert.MergePromptIdeal.main_v0) = v0 c
          ∧ r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
          ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
          ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
          ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
          ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4)
          ∧ r.2.mem ((c.tc : Thread Cert.MergePromptIdeal.nD Cert.MergePromptIdeal.τ).loc Cert.MergePromptIdeal.main_arg5) = m ((c.tc : Thread Cert.MergePromptIdeal.nD Cert.MergePromptIdeal.τ).loc Cert.MergePromptIdeal.main_arg5)
          ∧ r.2.mem ((c.tc : Thread Cert.MergePromptIdeal.nD Cert.MergePromptIdeal.τ).loc Cert.MergePromptIdeal.main_arg6) = m ((c.tc : Thread Cert.MergePromptIdeal.nD Cert.MergePromptIdeal.τ).loc Cert.MergePromptIdeal.main_arg6)
          ∧ r.2.mem ((c.tc : Thread Cert.MergePromptIdeal.nD Cert.MergePromptIdeal.τ).loc Cert.MergePromptIdeal.main_arg7) = m ((c.tc : Thread Cert.MergePromptIdeal.nD Cert.MergePromptIdeal.τ).loc Cert.MergePromptIdeal.main_arg7)
          ∧ r.2.mem ((c.tc : Thread Cert.MergePromptIdeal.nD Cert.MergePromptIdeal.τ).loc Cert.MergePromptIdeal.main_arg8) = m ((c.tc : Thread Cert.MergePromptIdeal.nD Cert.MergePromptIdeal.τ).loc Cert.MergePromptIdeal.main_arg8)
          ∧ r.2.mem ((c.tc : Thread Cert.MergePromptIdeal.nD Cert.MergePromptIdeal.τ).loc Cert.MergePromptIdeal.main_arg9) = m ((c.tc : Thread Cert.MergePromptIdeal.nD Cert.MergePromptIdeal.τ).loc Cert.MergePromptIdeal.main_arg9)
          ∧ r.2.mem ((c.tc : Thread Cert.MergePromptIdeal.nD Cert.MergePromptIdeal.τ).loc Cert.MergePromptIdeal.main_arg10) = m ((c.tc : Thread Cert.MergePromptIdeal.nD Cert.MergePromptIdeal.τ).loc Cert.MergePromptIdeal.main_arg10)
          ∧ r.2.mem ((c.tc : Thread Cert.MergePromptIdeal.nD Cert.MergePromptIdeal.τ).loc Cert.MergePromptIdeal.main_arg11) = m ((c.tc : Thread Cert.MergePromptIdeal.nD Cert.MergePromptIdeal.τ).loc Cert.MergePromptIdeal.main_arg11)
          ∧ r.2.mem ((c.tc : Thread Cert.MergePromptIdeal.nD Cert.MergePromptIdeal.τ).loc Cert.MergePromptIdeal.main_arg12) = m ((c.tc : Thread Cert.MergePromptIdeal.nD Cert.MergePromptIdeal.τ).loc Cert.MergePromptIdeal.main_arg12)
          ∧ r.2.mem ((c.tc : Thread Cert.MergePromptIdeal.nD Cert.MergePromptIdeal.τ).loc Cert.MergePromptIdeal.main_arg13) = m ((c.tc : Thread Cert.MergePromptIdeal.nD Cert.MergePromptIdeal.τ).loc Cert.MergePromptIdeal.main_arg13)
          ∧ r.2.mem ((c.tc : Thread Cert.MergePromptIdeal.nD Cert.MergePromptIdeal.τ).loc Cert.MergePromptIdeal.main_arg14) = m ((c.tc : Thread Cert.MergePromptIdeal.nD Cert.MergePromptIdeal.τ).loc Cert.MergePromptIdeal.main_arg14))
      ∧ θ_run (Cert.MergePromptReferenceIdeal.defs (F := Ideal)) (onTc (τ := Cert.MergePromptReferenceIdeal.τ) (Cert.MergePromptReferenceIdeal.main (F := Ideal))) ⟨m', fun _ => 0, g'⟩ (fun r => ∀ c : Dev Cert.MergePromptReferenceIdeal.nD,
          r.2.mem ((c.tc : Thread Cert.MergePromptReferenceIdeal.nD Cert.MergePromptReferenceIdeal.τ).loc Cert.MergePromptReferenceIdeal.main_v93) = v0 c
          ∧ r.2.mem ((c.tc : Thread Cert.MergePromptReferenceIdeal.nD Cert.MergePromptReferenceIdeal.τ).loc Cert.MergePromptReferenceIdeal.main_arg0) = m' ((c.tc : Thread Cert.MergePromptReferenceIdeal.nD Cert.MergePromptReferenceIdeal.τ).loc Cert.MergePromptReferenceIdeal.main_arg0)
          ∧ r.2.mem ((c.tc : Thread Cert.MergePromptReferenceIdeal.nD Cert.MergePromptReferenceIdeal.τ).loc Cert.MergePromptReferenceIdeal.main_arg1) = m' ((c.tc : Thread Cert.MergePromptReferenceIdeal.nD Cert.MergePromptReferenceIdeal.τ).loc Cert.MergePromptReferenceIdeal.main_arg1)
          ∧ r.2.mem ((c.tc : Thread Cert.MergePromptReferenceIdeal.nD Cert.MergePromptReferenceIdeal.τ).loc Cert.MergePromptReferenceIdeal.main_arg2) = m' ((c.tc : Thread Cert.MergePromptReferenceIdeal.nD Cert.MergePromptReferenceIdeal.τ).loc Cert.MergePromptReferenceIdeal.main_arg2)
          ∧ r.2.mem ((c.tc : Thread Cert.MergePromptReferenceIdeal.nD Cert.MergePromptReferenceIdeal.τ).loc Cert.MergePromptReferenceIdeal.main_arg3) = m' ((c.tc : Thread Cert.MergePromptReferenceIdeal.nD Cert.MergePromptReferenceIdeal.τ).loc Cert.MergePromptReferenceIdeal.main_arg3)
          ∧ r.2.mem ((c.tc : Thread Cert.MergePromptReferenceIdeal.nD Cert.MergePromptReferenceIdeal.τ).loc Cert.MergePromptReferenceIdeal.main_arg4) = m' ((c.tc : Thread Cert.MergePromptReferenceIdeal.nD Cert.MergePromptReferenceIdeal.τ).loc Cert.MergePromptReferenceIdeal.main_arg4)
          ∧ r.2.mem ((c.tc : Thread Cert.MergePromptReferenceIdeal.nD Cert.MergePromptReferenceIdeal.τ).loc Cert.MergePromptReferenceIdeal.main_arg5) = m' ((c.tc : Thread Cert.MergePromptReferenceIdeal.nD Cert.MergePromptReferenceIdeal.τ).loc Cert.MergePromptReferenceIdeal.main_arg5)
          ∧ r.2.mem ((c.tc : Thread Cert.MergePromptReferenceIdeal.nD Cert.MergePromptReferenceIdeal.τ).loc Cert.MergePromptReferenceIdeal.main_arg6) = m' ((c.tc : Thread Cert.MergePromptReferenceIdeal.nD Cert.MergePromptReferenceIdeal.τ).loc Cert.MergePromptReferenceIdeal.main_arg6)
          ∧ r.2.mem ((c.tc : Thread Cert.MergePromptReferenceIdeal.nD Cert.MergePromptReferenceIdeal.τ).loc Cert.MergePromptReferenceIdeal.main_arg7) = m' ((c.tc : Thread Cert.MergePromptReferenceIdeal.nD Cert.MergePromptReferenceIdeal.τ).loc Cert.MergePromptReferenceIdeal.main_arg7)
          ∧ r.2.mem ((c.tc : Thread Cert.MergePromptReferenceIdeal.nD Cert.MergePromptReferenceIdeal.τ).loc Cert.MergePromptReferenceIdeal.main_arg8) = m' ((c.tc : Thread Cert.MergePromptReferenceIdeal.nD Cert.MergePromptReferenceIdeal.τ).loc Cert.MergePromptReferenceIdeal.main_arg8)
          ∧ r.2.mem ((c.tc : Thread Cert.MergePromptReferenceIdeal.nD Cert.MergePromptReferenceIdeal.τ).loc Cert.MergePromptReferenceIdeal.main_arg9) = m' ((c.tc : Thread Cert.MergePromptReferenceIdeal.nD Cert.MergePromptReferenceIdeal.τ).loc Cert.MergePromptReferenceIdeal.main_arg9)
          ∧ r.2.mem ((c.tc : Thread Cert.MergePromptReferenceIdeal.nD Cert.MergePromptReferenceIdeal.τ).loc Cert.MergePromptReferenceIdeal.main_arg10) = m' ((c.tc : Thread Cert.MergePromptReferenceIdeal.nD Cert.MergePromptReferenceIdeal.τ).loc Cert.MergePromptReferenceIdeal.main_arg10)
          ∧ r.2.mem ((c.tc : Thread Cert.MergePromptReferenceIdeal.nD Cert.MergePromptReferenceIdeal.τ).loc Cert.MergePromptReferenceIdeal.main_arg11) = m' ((c.tc : Thread Cert.MergePromptReferenceIdeal.nD Cert.MergePromptReferenceIdeal.τ).loc Cert.MergePromptReferenceIdeal.main_arg11)
          ∧ r.2.mem ((c.tc : Thread Cert.MergePromptReferenceIdeal.nD Cert.MergePromptReferenceIdeal.τ).loc Cert.MergePromptReferenceIdeal.main_arg12) = m' ((c.tc : Thread Cert.MergePromptReferenceIdeal.nD Cert.MergePromptReferenceIdeal.τ).loc Cert.MergePromptReferenceIdeal.main_arg12)
          ∧ r.2.mem ((c.tc : Thread Cert.MergePromptReferenceIdeal.nD Cert.MergePromptReferenceIdeal.τ).loc Cert.MergePromptReferenceIdeal.main_arg13) = m' ((c.tc : Thread Cert.MergePromptReferenceIdeal.nD Cert.MergePromptReferenceIdeal.τ).loc Cert.MergePromptReferenceIdeal.main_arg13)
          ∧ r.2.mem ((c.tc : Thread Cert.MergePromptReferenceIdeal.nD Cert.MergePromptReferenceIdeal.τ).loc Cert.MergePromptReferenceIdeal.main_arg14) = m' ((c.tc : Thread Cert.MergePromptReferenceIdeal.nD Cert.MergePromptReferenceIdeal.τ).loc Cert.MergePromptReferenceIdeal.main_arg14))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)
      ∧ m' ((c.tc : Thread Cert.GatesReferenceIdeal.nD Cert.GatesReferenceIdeal.τ).loc Cert.GatesReferenceIdeal.main_arg5) = m ((c.tc : Thread Cert.GatesIdeal.nD Cert.GatesIdeal.τ).loc Cert.GatesIdeal.main_arg5)
      ∧ m' ((c.tc : Thread Cert.GatesReferenceIdeal.nD Cert.GatesReferenceIdeal.τ).loc Cert.GatesReferenceIdeal.main_arg6) = m ((c.tc : Thread Cert.GatesIdeal.nD Cert.GatesIdeal.τ).loc Cert.GatesIdeal.main_arg6)
      ∧ m' ((c.tc : Thread Cert.GatesReferenceIdeal.nD Cert.GatesReferenceIdeal.τ).loc Cert.GatesReferenceIdeal.main_arg7) = m ((c.tc : Thread Cert.GatesIdeal.nD Cert.GatesIdeal.τ).loc Cert.GatesIdeal.main_arg7)
      ∧ m' ((c.tc : Thread Cert.GatesReferenceIdeal.nD Cert.GatesReferenceIdeal.τ).loc Cert.GatesReferenceIdeal.main_arg8) = m ((c.tc : Thread Cert.GatesIdeal.nD Cert.GatesIdeal.τ).loc Cert.GatesIdeal.main_arg8)
      ∧ m' ((c.tc : Thread Cert.GatesReferenceIdeal.nD Cert.GatesReferenceIdeal.τ).loc Cert.GatesReferenceIdeal.main_arg9) = m ((c.tc : Thread Cert.GatesIdeal.nD Cert.GatesIdeal.τ).loc Cert.GatesIdeal.main_arg9)
      ∧ m' ((c.tc : Thread Cert.GatesReferenceIdeal.nD Cert.GatesReferenceIdeal.τ).loc Cert.GatesReferenceIdeal.main_arg10) = m ((c.tc : Thread Cert.GatesIdeal.nD Cert.GatesIdeal.τ).loc Cert.GatesIdeal.main_arg10)
      ∧ m' ((c.tc : Thread Cert.GatesReferenceIdeal.nD Cert.GatesReferenceIdeal.τ).loc Cert.GatesReferenceIdeal.main_arg11) = m ((c.tc : Thread Cert.GatesIdeal.nD Cert.GatesIdeal.τ).loc Cert.GatesIdeal.main_arg11)
      ∧ m' ((c.tc : Thread Cert.GatesReferenceIdeal.nD Cert.GatesReferenceIdeal.τ).loc Cert.GatesReferenceIdeal.main_arg12) = m ((c.tc : Thread Cert.GatesIdeal.nD Cert.GatesIdeal.τ).loc Cert.GatesIdeal.main_arg12)
      ∧ m' ((c.tc : Thread Cert.GatesReferenceIdeal.nD Cert.GatesReferenceIdeal.τ).loc Cert.GatesReferenceIdeal.main_arg13) = m ((c.tc : Thread Cert.GatesIdeal.nD Cert.GatesIdeal.τ).loc Cert.GatesIdeal.main_arg13)) →
    ∃ (v0 : (c : Dev Cert.GatesIdeal.nD) → Buf (Elt Ideal) ((c.tc : Thread Cert.GatesIdeal.nD Cert.GatesIdeal.τ).loc Cert.GatesIdeal.main_v0_4)) (v1 : (c : Dev Cert.GatesIdeal.nD) → Buf (Elt Ideal) ((c.tc : Thread Cert.GatesIdeal.nD Cert.GatesIdeal.τ).loc Cert.GatesIdeal.main_v0_5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_4) = v0 c
          ∧ r.2.mem ((c.tc : Thread Cert.GatesIdeal.nD Cert.GatesIdeal.τ).loc Cert.GatesIdeal.main_v0_5) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
          ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
          ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
          ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9)
          ∧ r.2.mem ((c.tc : Thread Cert.GatesIdeal.nD Cert.GatesIdeal.τ).loc Cert.GatesIdeal.main_arg10) = m ((c.tc : Thread Cert.GatesIdeal.nD Cert.GatesIdeal.τ).loc Cert.GatesIdeal.main_arg10)
          ∧ r.2.mem ((c.tc : Thread Cert.GatesIdeal.nD Cert.GatesIdeal.τ).loc Cert.GatesIdeal.main_arg11) = m ((c.tc : Thread Cert.GatesIdeal.nD Cert.GatesIdeal.τ).loc Cert.GatesIdeal.main_arg11)
          ∧ r.2.mem ((c.tc : Thread Cert.GatesIdeal.nD Cert.GatesIdeal.τ).loc Cert.GatesIdeal.main_arg12) = m ((c.tc : Thread Cert.GatesIdeal.nD Cert.GatesIdeal.τ).loc Cert.GatesIdeal.main_arg12)
          ∧ r.2.mem ((c.tc : Thread Cert.GatesIdeal.nD Cert.GatesIdeal.τ).loc Cert.GatesIdeal.main_arg13) = m ((c.tc : Thread Cert.GatesIdeal.nD Cert.GatesIdeal.τ).loc Cert.GatesIdeal.main_arg13))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v19) = v0 c
          ∧ r.2.mem ((c.tc : Thread Cert.GatesReferenceIdeal.nD Cert.GatesReferenceIdeal.τ).loc Cert.GatesReferenceIdeal.main_v26) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4)
          ∧ r.2.mem ((c.tc : Thread Cert.GatesReferenceIdeal.nD Cert.GatesReferenceIdeal.τ).loc Cert.GatesReferenceIdeal.main_arg5) = m' ((c.tc : Thread Cert.GatesReferenceIdeal.nD Cert.GatesReferenceIdeal.τ).loc Cert.GatesReferenceIdeal.main_arg5)
          ∧ r.2.mem ((c.tc : Thread Cert.GatesReferenceIdeal.nD Cert.GatesReferenceIdeal.τ).loc Cert.GatesReferenceIdeal.main_arg6) = m' ((c.tc : Thread Cert.GatesReferenceIdeal.nD Cert.GatesReferenceIdeal.τ).loc Cert.GatesReferenceIdeal.main_arg6)
          ∧ r.2.mem ((c.tc : Thread Cert.GatesReferenceIdeal.nD Cert.GatesReferenceIdeal.τ).loc Cert.GatesReferenceIdeal.main_arg7) = m' ((c.tc : Thread Cert.GatesReferenceIdeal.nD Cert.GatesReferenceIdeal.τ).loc Cert.GatesReferenceIdeal.main_arg7)
          ∧ r.2.mem ((c.tc : Thread Cert.GatesReferenceIdeal.nD Cert.GatesReferenceIdeal.τ).loc Cert.GatesReferenceIdeal.main_arg8) = m' ((c.tc : Thread Cert.GatesReferenceIdeal.nD Cert.GatesReferenceIdeal.τ).loc Cert.GatesReferenceIdeal.main_arg8)
          ∧ r.2.mem ((c.tc : Thread Cert.GatesReferenceIdeal.nD Cert.GatesReferenceIdeal.τ).loc Cert.GatesReferenceIdeal.main_arg9) = m' ((c.tc : Thread Cert.GatesReferenceIdeal.nD Cert.GatesReferenceIdeal.τ).loc Cert.GatesReferenceIdeal.main_arg9)
          ∧ r.2.mem ((c.tc : Thread Cert.GatesReferenceIdeal.nD Cert.GatesReferenceIdeal.τ).loc Cert.GatesReferenceIdeal.main_arg10) = m' ((c.tc : Thread Cert.GatesReferenceIdeal.nD Cert.GatesReferenceIdeal.τ).loc Cert.GatesReferenceIdeal.main_arg10)
          ∧ r.2.mem ((c.tc : Thread Cert.GatesReferenceIdeal.nD Cert.GatesReferenceIdeal.τ).loc Cert.GatesReferenceIdeal.main_arg11) = m' ((c.tc : Thread Cert.GatesReferenceIdeal.nD Cert.GatesReferenceIdeal.τ).loc Cert.GatesReferenceIdeal.main_arg11)
          ∧ r.2.mem ((c.tc : Thread Cert.GatesReferenceIdeal.nD Cert.GatesReferenceIdeal.τ).loc Cert.GatesReferenceIdeal.main_arg12) = m' ((c.tc : Thread Cert.GatesReferenceIdeal.nD Cert.GatesReferenceIdeal.τ).loc Cert.GatesReferenceIdeal.main_arg12)
          ∧ r.2.mem ((c.tc : Thread Cert.GatesReferenceIdeal.nD Cert.GatesReferenceIdeal.τ).loc Cert.GatesReferenceIdeal.main_arg13) = m' ((c.tc : Thread Cert.GatesReferenceIdeal.nD Cert.GatesReferenceIdeal.τ).loc Cert.GatesReferenceIdeal.main_arg13))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hFfn : Cert.Ffn.Facts) (hFfnIdeal : Cert.FfnIdeal.Facts) (hFfnReferenceIdeal : Cert.FfnReferenceIdeal.Facts) (hMergePrompt : Cert.MergePrompt.Facts) (hMergePromptIdeal : Cert.MergePromptIdeal.Facts) (hMergePromptReferenceIdeal : Cert.MergePromptReferenceIdeal.Facts) (hGates : Cert.Gates.Facts) (hGatesIdeal : Cert.GatesIdeal.Facts) (hGatesReferenceIdeal : Cert.GatesReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_MergePrompt (hMergePrompt := hMergePrompt)
    ∧ quiescent_MergePromptIdeal (hMergePromptIdeal := hMergePromptIdeal)
    ∧ quiescent_MergePromptReferenceIdeal (hMergePromptReferenceIdeal := hMergePromptReferenceIdeal)
    ∧ quiescent_Gates (hGates := hGates)
    ∧ quiescent_GatesIdeal (hGatesIdeal := hGatesIdeal)
    ∧ quiescent_GatesReferenceIdeal (hGatesReferenceIdeal := hGatesReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Ffn_FfnIdeal
    ∧ algebraic_FfnIdeal_FfnReferenceIdeal (hFfnIdeal := hFfnIdeal) (hFfnReferenceIdeal := hFfnReferenceIdeal)
    ∧ preserves_MergePrompt_MergePromptIdeal
    ∧ algebraic_MergePromptIdeal_MergePromptReferenceIdeal (hMergePromptIdeal := hMergePromptIdeal) (hMergePromptReferenceIdeal := hMergePromptReferenceIdeal)
    ∧ preserves_Gates_GatesIdeal
    ∧ algebraic_GatesIdeal_GatesReferenceIdeal (hGatesIdeal := hGatesIdeal) (hGatesReferenceIdeal := hGatesReferenceIdeal)
-- ==== Pre_finite.lean ====
abbrev S8x8x4096x128 : Shape := ⟨4, ![8, 8, 4096, 128]⟩
abbrev S8x4096x16 : Shape := ⟨3, ![8, 4096, 16]⟩
abbrev S_ : Shape := ⟨0, ![]⟩

class Facts : Prop where
  bcast_S_S8x8x4096x128 : S_.BroadcastsInDim S8x8x4096x128 (![] : Fin 0 → Fin S8x8x4096x128.rank)
  bcast_S_S8x4096x16 : S_.BroadcastsInDim S8x4096x16 (![] : Fin 0 → Fin S8x4096x16.rank)

variable [Facts]

def fn {F : FTy → Type} [FloatOps F] (main_arg0 : FVec F S8x8x4096x128 .bf16) (main_arg1 : FVec F S8x8x4096x128 .bf16) (main_arg2 : FVec F S8x8x4096x128 .bf16) (main_arg3 : FVec F S8x4096x16 .f32) (main_arg4 : FVec F S8x4096x16 .f32) : IVec S8x8x4096x128 1 × IVec S8x8x4096x128 1 × IVec S8x8x4096x128 1 × IVec S8x4096x16 1 × IVec S8x4096x16 1 :=
  let main_v0 : FVec F S8x8x4096x128 .bf16 := Host.absf main_arg0
  let main_cst : FVec F S_ .bf16 := constant S_ .bf16 0x7F80#16
  let main_v1 : FVec F S8x8x4096x128 .bf16 := broadcastInDim S8x8x4096x128 ![] bcast_S_S8x8x4096x128 main_cst
  let main_v2 : IVec S8x8x4096x128 1 := cmpf .olt main_v0 main_v1
  let main_v3 : FVec F S8x8x4096x128 .bf16 := Host.absf main_arg1
  let main_cst_0 : FVec F S_ .bf16 := constant S_ .bf16 0x7F80#16
  let main_v4 : FVec F S8x8x4096x128 .bf16 := broadcastInDim S8x8x4096x128 ![] bcast_S_S8x8x4096x128 main_cst_0
  let main_v5 : IVec S8x8x4096x128 1 := cmpf .olt main_v3 main_v4
  let main_v6 : FVec F S8x8x4096x128 .bf16 := Host.absf main_arg2
  let main_cst_1 : FVec F S_ .bf16 := constant S_ .bf16 0x7F80#16
  let main_v7 : FVec F S8x8x4096x128 .bf16 := broadcastInDim S8x8x4096x128 ![] bcast_S_S8x8x4096x128 main_cst_1
  let main_v8 : IVec S8x8x4096x128 1 := cmpf .olt main_v6 main_v7
  let main_v9 : FVec F S8x4096x16 .f32 := Host.absf main_arg3
  let main_cst_2 : FVec F S_ .f32 := constant S_ .f32 0x7F800000#32
  let main_v10 : FVec F S8x4096x16 .f32 := broadcastInDim S8x4096x16 ![] bcast_S_S8x4096x16 main_cst_2
  let main_v11 : IVec S8x4096x16 1 := cmpf .olt main_v9 main_v10
  let main_v12 : FVec F S8x4096x16 .f32 := Host.absf main_arg4
  let main_cst_3 : FVec F S_ .f32 := constant S_ .f32 0x7F800000#32
  let main_v13 : FVec F S8x4096x16 .f32 := broadcastInDim S8x4096x16 ![] bcast_S_S8x4096x16 main_cst_3
  let main_v14 : IVec S8x4096x16 1 := cmpf .olt main_v12 main_v13
  (main_v2, main_v5, main_v8, main_v11, main_v14)
-- ==== Kernel.lean ====
abbrev S8x8x4096x128 : Shape := ⟨4, ![8, 8, 4096, 128]⟩
abbrev S8x4096x16 : Shape := ⟨3, ![8, 4096, 16]⟩
abbrev S8x8x128x4096 : Shape := ⟨4, ![8, 8, 128, 4096]⟩
abbrev S8x32x128x16 : Shape := ⟨4, ![8, 32, 128, 16]⟩
abbrev S1x1x128x128x1 : Shape := ⟨5, ![1, 1, 128, 128, 1]⟩
abbrev S1x1x1x16 : Shape := ⟨4, ![1, 1, 1, 16]⟩
abbrev S_ : Shape := ⟨0, ![]⟩
abbrev S8x32x1x128x16 : Shape := ⟨5, ![8, 32, 1, 128, 16]⟩
abbrev S8x32x128x128x16 : Shape := ⟨5, ![8, 32, 128, 128, 16]⟩
abbrev S8x32x16 : Shape := ⟨3, ![8, 32, 16]⟩
abbrev S8x32x1x16 : Shape := ⟨4, ![8, 32, 1, 16]⟩
abbrev S8x4096x96 : Shape := ⟨3, ![8, 4096, 96]⟩
abbrev S8x4096x128 : Shape := ⟨3, ![8, 4096, 128]⟩
abbrev S8x4096x48 : Shape := ⟨3, ![8, 4096, 48]⟩
abbrev S8x48x4096 : Shape := ⟨3, ![8, 48, 4096]⟩
abbrev S1x8x512x128 : Shape := ⟨4, ![1, 8, 512, 128]⟩
abbrev S1x8x128x512 : Shape := ⟨4, ![1, 8, 128, 512]⟩
abbrev S1x512x128 : Shape := ⟨3, ![1, 512, 128]⟩
abbrev S1x48x512 : Shape := ⟨3, ![1, 48, 512]⟩
abbrev S16x128x128 : Shape := ⟨3, ![16, 128, 128]⟩
abbrev S128x128 : Shape := ⟨2, ![128, 128]⟩
abbrev S64x128 : Shape := ⟨2, ![64, 128]⟩
abbrev S1x1x128x128 : Shape := ⟨4, ![1, 1, 128, 128]⟩
abbrev S256x128 : Shape := ⟨2, ![256, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S128x256 : Shape := ⟨2, ![128, 256]⟩
abbrev S1x128x128 : Shape := ⟨3, ![1, 128, 128]⟩

abbrev nBuf : Space → Nat
  | .hbm => 51
  | .vmem => 29
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x4096x128, .bf16⟩
  | .hbm, ⟨3, _⟩ => ⟨S8x4096x16, .f32⟩
  | .hbm, ⟨4, _⟩ => ⟨S8x4096x16, .f32⟩
  | .hbm, ⟨5, _⟩ => ⟨S8x8x128x4096, .bf16⟩
  | .hbm, ⟨6, _⟩ => ⟨S8x32x128x16, .f32⟩
  | .hbm, ⟨7, _⟩ => ⟨S1x1x128x128x1, .i32⟩
  | .hbm, ⟨8, _⟩ => ⟨S1x1x128x128x1, .i32⟩
  | .hbm, ⟨9, _⟩ => ⟨S1x1x1x16, .i32⟩
  | .hbm, ⟨10, _⟩ => ⟨S_, .i32⟩
  | .hbm, ⟨11, _⟩ => ⟨S1x1x1x16, .i32⟩
  | .hbm, ⟨12, _⟩ => ⟨S1x1x1x16, .i1⟩
  | .hbm, ⟨13, _⟩ => ⟨S1x1x128x128x1, .i1⟩
  | .hbm, ⟨14, _⟩ => ⟨S8x32x1x128x16, .f32⟩
  | .hbm, ⟨15, _⟩ => ⟨S_, .f32⟩
  | .hbm, ⟨16, _⟩ => ⟨S_, .f32⟩
  | .hbm, ⟨17, _⟩ => ⟨S8x32x128x128x16, .i1⟩
  | .hbm, ⟨18, _⟩ => ⟨S8x32x128x128x16, .f32⟩
  | .hbm, ⟨19, _⟩ => ⟨S8x32x128x128x16, .f32⟩
  | .hbm, ⟨20, _⟩ => ⟨S8x32x128x128x16, .f32⟩
  | .hbm, ⟨21, _⟩ => ⟨S_, .f32⟩
  | .hbm, ⟨22, _⟩ => ⟨S8x32x128x16, .f32⟩
  | .hbm, ⟨23, _⟩ => ⟨S1x1x128x128x1, .i1⟩
  | .hbm, ⟨24, _⟩ => ⟨S8x32x1x128x16, .f32⟩
  | .hbm, ⟨25, _⟩ => ⟨S_, .f32⟩
  | .hbm, ⟨26, _⟩ => ⟨S_, .f32⟩
  | .hbm, ⟨27, _⟩ => ⟨S8x32x128x128x16, .i1⟩
  | .hbm, ⟨28, _⟩ => ⟨S8x32x128x128x16, .f32⟩
  | .hbm, ⟨29, _⟩ => ⟨S8x32x128x128x16, .f32⟩
  | .hbm, ⟨30, _⟩ => ⟨S8x32x128x128x16, .f32⟩
  | .hbm, ⟨31, _⟩ => ⟨S_, .f32⟩
  | .hbm, ⟨32, _⟩ => ⟨S8x32x128x16, .f32⟩
  | .hbm, ⟨33, _⟩ => ⟨S8x32x128x16, .i1⟩
  | .hbm, ⟨34, _⟩ => ⟨S8x32x128x16, .f32⟩
  | .hbm, ⟨35, _⟩ => ⟨S8x4096x16, .f32⟩
  | .hbm, ⟨36, _⟩ => ⟨S_, .f32⟩
  | .hbm, ⟨37, _⟩ => ⟨S8x32x16, .f32⟩
  | .hbm, ⟨38, _⟩ => ⟨S8x32x1x16, .f32⟩
  | .hbm, ⟨39, _⟩ => ⟨S8x32x128x16, .f32⟩
  | .hbm, ⟨40, _⟩ => ⟨S8x4096x16, .f32⟩
  | .hbm, ⟨41, _⟩ => ⟨S_, .f32⟩
  | .hbm, ⟨42, _⟩ => ⟨S8x4096x96, .f32⟩
  | .hbm, ⟨43, _⟩ => ⟨S8x4096x128, .f32⟩
  | .hbm, ⟨44, _⟩ => ⟨S8x4096x16, .f32⟩
  | .hbm, ⟨45, _⟩ => ⟨S8x4096x16, .f32⟩
  | .hbm, ⟨46, _⟩ => ⟨S8x4096x16, .f32⟩
  | .hbm, ⟨47, _⟩ => ⟨S8x4096x48, .f32⟩
  | .hbm, ⟨48, _⟩ => ⟨S8x48x4096, .f32⟩
  | .hbm, ⟨49, _⟩ => ⟨S8x8x4096x128, .bf16⟩
  | .hbm, ⟨50, _⟩ => ⟨S8x8x4096x128, .bf16⟩
  | .local _ .vmem, ⟨0, _⟩ => ⟨S1x8x512x128, .bf16⟩
  | .local _ .vmem, ⟨1, _⟩ => ⟨S1x8x512x128, .bf16⟩
  | .local _ .vmem, ⟨2, _⟩ => ⟨S1x8x512x128, .bf16⟩
  | .local _ .vmem, ⟨3, _⟩ => ⟨S1x8x512x128, .bf16⟩
  | .local _ .vmem, ⟨4, _⟩ => ⟨S1x8x512x128, .bf16⟩
  | .local _ .vmem, ⟨5, _⟩ => ⟨S1x8x512x128, .bf16⟩
  | .local _ .vmem, ⟨6, _⟩ => ⟨S1x8x128x512, .bf16⟩
  | .local _ .vmem, ⟨7, _⟩ => ⟨S1x8x128x512, .bf16⟩
  | .local _ .vmem, ⟨8, _⟩ => ⟨S1x512x128, .f32⟩
  | .local _ .vmem, ⟨9, _⟩ => ⟨S1x512x128, .f32⟩
  | .local _ .vmem, ⟨10, _⟩ => ⟨S1x48x512, .f32⟩
  | .local _ .vmem, ⟨11, _⟩ => ⟨S1x48x512, .f32⟩
  | .local _ .vmem, ⟨12, _⟩ => ⟨S1x8x512x128, .bf16⟩
  | .local _ .vmem, ⟨13, _⟩ => ⟨S1x8x512x128, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x8x128x512, .bf16⟩
  | .local _ .vmem, ⟨19, _⟩ => ⟨S1x8x128x512, .bf16⟩
  | .local _ .vmem, ⟨20, _⟩ => ⟨S1x512x128, .f32⟩
  | .local _ .vmem, ⟨21, _⟩ => ⟨S1x512x128, .f32⟩
  | .local _ .vmem, ⟨22, _⟩ => ⟨S1x48x512, .f32⟩
  | .local _ .vmem, ⟨23, _⟩ => ⟨S1x48x512, .f32⟩
  | .local _ .vmem, ⟨24, _⟩ => ⟨S1x8x512x128, .bf16⟩
  | .local _ .vmem, ⟨25, _⟩ => ⟨S1x8x512x128, .bf16⟩
  | .local _ .vmem, ⟨26, _⟩ => ⟨S1x8x512x128, .bf16⟩
  | .local _ .vmem, ⟨27, _⟩ => ⟨S1x8x512x128, .bf16⟩
  | .local _ .vmem, ⟨28, _⟩ => ⟨S16x128x128, .f32⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_call2_v0 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, c0_i32.toNat, v0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x48x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x48x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x8x4096x128 : Shape := ⟨4, ![8, 8, 4096, 128]⟩
abbrev S8x4096x16 : Shape := ⟨3, ![8, 4096, 16]⟩
abbrev S_ : Shape := ⟨0, ![]⟩
abbrev S8x16x128x128 : Shape := ⟨4, ![8, 16, 128, 128]⟩
abbrev S8x16x4096x128 : Shape := ⟨4, ![8, 16, 4096, 128]⟩
abbrev S4096x8x16x128 : Shape := ⟨4, ![4096, 8, 16, 128]⟩
abbrev S8x4096x8 : Shape := ⟨3, ![8, 4096, 8]⟩
abbrev S4096x8x16 : Shape := ⟨3, ![4096, 8, 16]⟩
abbrev S1x8x16x128 : Shape := ⟨4, ![1, 8, 16, 128]⟩
abbrev S8x16x128 : Shape := ⟨3, ![8, 16, 128]⟩
abbrev S1x8x16 : Shape := ⟨3, ![1, 8, 16]⟩
abbrev S8x16 : Shape := ⟨2, ![8, 16]⟩
abbrev S8x16x1x1 : Shape := ⟨4, ![8, 16, 1, 1]⟩
abbrev S8x16x1 : Shape := ⟨3, ![8, 16, 1]⟩
abbrev S8x16x128x1 : Shape := ⟨4, ![8, 16, 128, 1]⟩
abbrev S8x16x1x128 : Shape := ⟨4, ![8, 16, 1, 128]⟩

abbrev nBuf : Space → Nat
  | .hbm => 93
  | .vmem => 0
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x4096x128, .bf16⟩
  | .hbm, ⟨3, _⟩ => ⟨S8x4096x16, .f32⟩
  | .hbm, ⟨4, _⟩ => ⟨S8x4096x16, .f32⟩
  | .hbm, ⟨5, _⟩ => ⟨S_, .f32⟩
  | .hbm, ⟨6, _⟩ => ⟨S8x16x128x128, .f32⟩
  | .hbm, ⟨7, _⟩ => ⟨S8x8x4096x128, .f32⟩
  | .hbm, ⟨8, _⟩ => ⟨S8x8x4096x128, .f32⟩
  | .hbm, ⟨9, _⟩ => ⟨S8x16x4096x128, .f32⟩
  | .hbm, ⟨10, _⟩ => ⟨S4096x8x16x128, .f32⟩
  | .hbm, ⟨11, _⟩ => ⟨S8x8x4096x128, .f32⟩
  | .hbm, ⟨12, _⟩ => ⟨S8x8x4096x128, .f32⟩
  | .hbm, ⟨13, _⟩ => ⟨S8x16x4096x128, .f32⟩
  | .hbm, ⟨14, _⟩ => ⟨S4096x8x16x128, .f32⟩
  | .hbm, ⟨15, _⟩ => ⟨S8x8x4096x128, .f32⟩
  | .hbm, ⟨16, _⟩ => ⟨S8x8x4096x128, .f32⟩
  | .hbm, ⟨17, _⟩ => ⟨S8x16x4096x128, .f32⟩
  | .hbm, ⟨18, _⟩ => ⟨S4096x8x16x128, .f32⟩
  | .hbm, ⟨19, _⟩ => ⟨S8x4096x8, .f32⟩
  | .hbm, ⟨20, _⟩ => ⟨S8x4096x8, .f32⟩
  | .hbm, ⟨21, _⟩ => ⟨S8x4096x8, .f32⟩
  | .hbm, ⟨22, _⟩ => ⟨S8x4096x16, .f32⟩
  | .hbm, ⟨23, _⟩ => ⟨S4096x8x16, .f32⟩
  | .hbm, ⟨24, _⟩ => ⟨S8x4096x8, .f32⟩
  | .hbm, ⟨25, _⟩ => ⟨S8x4096x8, .f32⟩
  | .hbm, ⟨26, _⟩ => ⟨S8x4096x8, .f32⟩
  | .hbm, ⟨27, _⟩ => ⟨S8x4096x16, .f32⟩
  | .hbm, ⟨28, _⟩ => ⟨S4096x8x16, .f32⟩
  | .hbm, ⟨29, _⟩ => ⟨S_, .f32⟩
  | .hbm, ⟨30, _⟩ => ⟨S4096x8x16x128, .f32⟩
  | .hbm, ⟨31, _⟩ => ⟨S_, .i32⟩
  | .hbm, ⟨32, _⟩ => ⟨S4096x8x16x128, .f32⟩
  | .hbm, ⟨33, _⟩ => ⟨S4096x8x16x128, .f32⟩
  | .hbm, ⟨34, _⟩ => ⟨S4096x8x16x128, .f32⟩
  | .hbm, ⟨35, _⟩ => ⟨S4096x8x16, .f32⟩
  | .hbm, ⟨36, _⟩ => ⟨S4096x8x16, .f32⟩
  | .hbm, ⟨37, _⟩ => ⟨S_, .i32⟩
  | .hbm, ⟨38, _⟩ => ⟨S8x16x128x128, .f32⟩
  | .hbm, ⟨39, _⟩ => ⟨S4096x8x16x128, .f32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x8x16x128, .f32⟩
  | .hbm, ⟨46, _⟩ => ⟨S8x16x128, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x8x16x128, .f32⟩
  | .hbm, ⟨51, _⟩ => ⟨S8x16x128, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x8x16x128, .f32⟩
  | .hbm, ⟨56, _⟩ => ⟨S8x16x128, .f32⟩
  | .hbm, ⟨57, _⟩ => ⟨S_, .i32⟩
  | .hbm, ⟨58, _⟩ => ⟨S_, .i32⟩
  | .hbm, ⟨59, _⟩ => ⟨S1x8x16, .f32⟩
  | .hbm, ⟨60, _⟩ => ⟨S8x16, .f32⟩
  | .hbm, ⟨61, _⟩ => ⟨S_, .i32⟩
  | .hbm, ⟨62, _⟩ => ⟨S_, .i32⟩
  | .hbm, ⟨63, _⟩ => ⟨S1x8x16, .f32⟩
  | .hbm, ⟨64, _⟩ => ⟨S8x16, .f32⟩
  | .hbm, ⟨65, _⟩ => ⟨S8x16, .f32⟩
  | .hbm, ⟨66, _⟩ => ⟨S8x16x1x1, .f32⟩
  | .hbm, ⟨67, _⟩ => ⟨S8x16x128x128, .f32⟩
  | .hbm, ⟨68, _⟩ => ⟨S8x16x128x128, .f32⟩
  | .hbm, ⟨69, _⟩ => ⟨S8x16x128, .f32⟩
  | .hbm, ⟨70, _⟩ => ⟨S8x16x1, .f32⟩
  | .hbm, ⟨71, _⟩ => ⟨S8x16x128, .f32⟩
  | .hbm, ⟨72, _⟩ => ⟨S8x16x128, .f32⟩
  | .hbm, ⟨73, _⟩ => ⟨S8x16x128, .f32⟩
  | .hbm, ⟨74, _⟩ => ⟨S8x16x128x1, .f32⟩
  | .hbm, ⟨75, _⟩ => ⟨S8x16x1x128, .f32⟩
  | .hbm, ⟨76, _⟩ => ⟨S8x16x128x128, .f32⟩
  | .hbm, ⟨77, _⟩ => ⟨S8x16x128x128, .f32⟩
  | .hbm, ⟨78, _⟩ => ⟨S8x16x128x128, .f32⟩
  | .hbm, ⟨79, _⟩ => ⟨S8x16x128x128, .f32⟩
  | .hbm, ⟨80, _⟩ => ⟨S8x16x128, .f32⟩
  | .hbm, ⟨81, _⟩ => ⟨S1x8x16x128, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S4096x8x16x128, .f32⟩
  | .hbm, ⟨86, _⟩ => ⟨S_, .i32⟩
  | .hbm, ⟨87, _⟩ => ⟨S_, .i32⟩
  | .hbm, ⟨88, _⟩ => ⟨S8x16x4096x128, .f32⟩
  | .hbm, ⟨89, _⟩ => ⟨S8x16x4096x128, .bf16⟩
  | .hbm, ⟨90, _⟩ => ⟨S8x8x4096x128, .bf16⟩
  | .hbm, ⟨91, _⟩ => ⟨S8x8x4096x128, .bf16⟩
  | .hbm, ⟨92, _⟩ => ⟨S8x8x4096x128, .bf16⟩
  | _, _ => ⟨S8x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_c : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev main_v24_4 : Ref sig .tc := ⟨.hbm, 36, rfl⟩
abbrev main_v24_5 : Ref sig .tc := ⟨.hbm, 37, rfl⟩
abbrev main_v24_6 : Ref sig .tc := ⟨.hbm, 38, rfl⟩
abbrev main_v24_7 : Ref sig .tc := ⟨.hbm, 39, rfl⟩
abbrev main_while0c_c_8 : Ref sig .tc := ⟨.hbm, 40, rfl⟩
abbrev main_while0c_v30 : Ref sig .tc := ⟨.hbm, 41, rfl⟩
abbrev main_while0b_call5_c : Ref sig .tc := ⟨.hbm, 42, rfl⟩
abbrev main_while0b_call5_c_0 : Ref sig .tc := ⟨.hbm, 43, rfl⟩
abbrev main_while0b_call5_c_1 : Ref sig .tc := ⟨.hbm, 44, rfl⟩
abbrev main_while0b_call5_v0 : Ref sig .tc := ⟨.hbm, 45, rfl⟩
abbrev main_while0b_v30 : Ref sig .tc := ⟨.hbm, 46, rfl⟩
abbrev main_while0b_call6_c : Ref sig .tc := ⟨.hbm, 47, rfl⟩
abbrev main_while0b_call6_c_0 : Ref sig .tc := ⟨.hbm, 48, rfl⟩
abbrev main_while0b_call6_c_1 : Ref sig .tc := ⟨.hbm, 49, rfl⟩
abbrev main_while0b_call6_v0 : Ref sig .tc := ⟨.hbm, 50, rfl⟩
abbrev main_while0b_v31 : Ref sig .tc := ⟨.hbm, 51, rfl⟩
abbrev main_while0b_call7_c : Ref sig .tc := ⟨.hbm, 52, rfl⟩
abbrev main_while0b_call7_c_0 : Ref sig .tc := ⟨.hbm, 53, rfl⟩
abbrev main_while0b_call7_c_1 : Ref sig .tc := ⟨.hbm, 54, rfl⟩
abbrev main_while0b_call7_v0 : Ref sig .tc := ⟨.hbm, 55, rfl⟩
abbrev main_while0b_v32 : Ref sig .tc := ⟨.hbm, 56, rfl⟩
abbrev main_while0b_call8_c : Ref sig .tc := ⟨.hbm, 57, rfl⟩
abbrev main_while0b_call8_c_0 : Ref sig .tc := ⟨.hbm, 58, rfl⟩
abbrev main_while0b_call8_v0 : Ref sig .tc := ⟨.hbm, 59, rfl⟩
abbrev main_while0b_v33 : Ref sig .tc := ⟨.hbm, 60, rfl⟩
abbrev main_while0b_call9_c : Ref sig .tc := ⟨.hbm, 61, rfl⟩
abbrev main_while0b_call9_c_0 : Ref sig .tc := ⟨.hbm, 62, rfl⟩
abbrev main_while0b_call9_v0 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_v40 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_v49 : Ref sig .tc := ⟨.hbm, 79, rfl⟩
abbrev main_while0b_v50 : Ref sig .tc := ⟨.hbm, 80, rfl⟩
abbrev main_while0b_call10_v0 : Ref sig .tc := ⟨.hbm, 81, rfl⟩
abbrev main_while0b_call10_c : Ref sig .tc := ⟨.hbm, 82, rfl⟩
abbrev main_while0b_call10_c_0 : Ref sig .tc := ⟨.hbm, 83, rfl⟩
abbrev main_while0b_call10_c_1 : Ref sig .tc := ⟨.hbm, 84, rfl⟩
abbrev main_while0b_v51 : Ref sig .tc := ⟨.hbm, 85, rfl⟩
abbrev main_while0b_c_8 : Ref sig .tc := ⟨.hbm, 86, rfl⟩
abbrev main_while0b_v52 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩

abbrev nD : Nat := 1
abbrev τ : Topo := Topo.v7x

variable {F : FTy → Type} [FloatOps F]

abbrev main_while0_count : Scf.Loop 32 := ⟨0#32, 4096#32, 1#32⟩
-- ==== Merge.lean ====
abbrev S8x8x4096x128 : Shape := ⟨4, ![8, 8, 4096, 128]⟩
abbrev S8x4096x1024 : Shape := ⟨3, ![8, 4096, 1024]⟩
abbrev S1x128 : Shape := ⟨2, ![1, 128]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1x8x512x128 : Shape := ⟨4, ![1, 8, 512, 128]⟩
abbrev S1x512x1024 : Shape := ⟨3, ![1, 512, 1024]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 23
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x4096x1024, .bf16⟩
  | .hbm, ⟨3, _⟩ => ⟨S8x4096x1024, .bf16⟩
  | .hbm, ⟨4, _⟩ => ⟨S8x4096x1024, .bf16⟩
  | .hbm, ⟨5, _⟩ => ⟨S8x4096x1024, .f32⟩
  | .hbm, ⟨6, _⟩ => ⟨S1x128, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S8x4096x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x8x512x128, .bf16⟩
  | .local _ .vmem, ⟨3, _⟩ => ⟨S1x8x512x128, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x128, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x5632, .bf16⟩
  | .local _ .vmem, ⟨18, _⟩ => ⟨S2816x1024, .bf16⟩
  | .local _ .vmem, ⟨19, _⟩ => ⟨S1x1024, .f32⟩
  | .local _ .vmem, ⟨20, _⟩ => ⟨S1x1024, .f32⟩
  | .local _ .vmem, ⟨21, _⟩ => ⟨S1x512x1024, .f32⟩
  | .local _ .vmem, ⟨22, _⟩ => ⟨S1x512x1024, .f32⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeIdeal.lean ====
abbrev S8x8x4096x128 : Shape := ⟨4, ![8, 8, 4096, 128]⟩
abbrev S8x4096x1024 : Shape := ⟨3, ![8, 4096, 1024]⟩
abbrev S1x128 : Shape := ⟨2, ![1, 128]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1x8x512x128 : Shape := ⟨4, ![1, 8, 512, 128]⟩
abbrev S1x512x1024 : Shape := ⟨3, ![1, 512, 1024]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 23
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x4096x1024, .bf16⟩
  | .hbm, ⟨3, _⟩ => ⟨S8x4096x1024, .bf16⟩
  | .hbm, ⟨4, _⟩ => ⟨S8x4096x1024, .bf16⟩
  | .hbm, ⟨5, _⟩ => ⟨S8x4096x1024, .f32⟩
  | .hbm, ⟨6, _⟩ => ⟨S1x128, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S8x4096x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x8x512x128, .bf16⟩
  | .local _ .vmem, ⟨3, _⟩ => ⟨S1x8x512x128, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x128, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x5632, .bf16⟩
  | .local _ .vmem, ⟨18, _⟩ => ⟨S2816x1024, .bf16⟩
  | .local _ .vmem, ⟨19, _⟩ => ⟨S1x1024, .f32⟩
  | .local _ .vmem, ⟨20, _⟩ => ⟨S1x1024, .f32⟩
  | .local _ .vmem, ⟨21, _⟩ => ⟨S1x512x1024, .f32⟩
  | .local _ .vmem, ⟨22, _⟩ => ⟨S1x512x1024, .f32⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeReferenceIdeal.lean ====
abbrev S8x8x4096x128 : Shape := ⟨4, ![8, 8, 4096, 128]⟩
abbrev S8x4096x1024 : Shape := ⟨3, ![8, 4096, 1024]⟩
abbrev S1x128 : Shape := ⟨2, ![1, 128]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S8x4096x8x128 : Shape := ⟨4, ![8, 4096, 8, 128]⟩
abbrev S128 : Shape := ⟨1, ![128]⟩
abbrev S_ : Shape := ⟨0, ![]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 133
  | .vmem => 0
  | .smem => 0
  | _ => 0

abbrev hbmTy0_0 (i : Nat) : BufTy := match i % 128 with
  | 0 => ⟨S8x8x4096x128, .bf16⟩
  | 1 => ⟨S8x8x4096x128, .bf16⟩
  | 2 => ⟨S8x4096x1024, .bf16⟩
  | 3 => ⟨S8x4096x1024, .bf16⟩
  | 4 => ⟨S8x4096x1024, .bf16⟩
  | 5 => ⟨S8x4096x1024, .f32⟩
  | 6 => ⟨S1x128, .f32⟩
  | 7 => ⟨S1024x1024, .bf16⟩
  | 8 => ⟨S1024x1024, .bf16⟩
  | 9 => ⟨S1x1024, .f32⟩
  | 10 => ⟨S1x1024, .f32⟩
  | 11 => ⟨S1024x5632, .bf16⟩
  | 12 => ⟨S2816x1024, .bf16⟩
  | 13 => ⟨S1x1024, .f32⟩
  | 14 => ⟨S1x1024, .f32⟩
  | 15 => ⟨S8x8x4096x128, .f32⟩
  | 16 => ⟨S8x8x4096x128, .f32⟩
  | 17 => ⟨S8x8x4096x128, .f32⟩
  | 18 => ⟨S8x4096x8x128, .f32⟩
  | 19 => ⟨S128, .f32⟩
  | 20 => ⟨S8x4096x8x128, .f32⟩
  | 21 => ⟨S_, .f32⟩
  | 22 => ⟨S8x4096x8, .f32⟩
  | 23 => ⟨S8x4096x8x1, .f32⟩
  | 24 => ⟨S_, .f32⟩
  | 25 => ⟨S8x4096x8x1, .f32⟩
  | 26 => ⟨S8x4096x8x1, .f32⟩
  | 27 => ⟨S_, .f32⟩
  | 28 => ⟨S8x4096x8x1, .f32⟩
  | 29 => ⟨S8x4096x8x1, .f32⟩
  | 30 => ⟨S8x4096x8x1, .f32⟩
  | 31 => ⟨S8x4096x8x128, .f32⟩
  | 32 => ⟨S8x4096x8x128, .f32⟩
  | 33 => ⟨S1x1x1x128, .f32⟩
  | 34 => ⟨S8x4096x8x128, .f32⟩
  | 35 => ⟨S8x4096x8x128, .f32⟩
  | 36 => ⟨S8x4096x1024, .f32⟩
  | 37 => ⟨S8x4096x8x128, .f32⟩
  | 38 => ⟨S8x4096x8x128, .f32⟩
  | 39 => ⟨S8x4096x1024, .f32⟩
  | 40 => ⟨S8x4096x1024, .f32⟩
  | 41 => ⟨S1024x1024, .f32⟩
  | 42 => ⟨S8x4096x1024, .f32⟩
  | 43 => ⟨S8x4096x1024, .f32⟩
  | 44 => ⟨S8x4096x1024, .f32⟩
  | 45 => ⟨S8x4096x1024, .f32⟩
  | 46 => ⟨S1024x1024, .f32⟩
  | 47 => ⟨S8x4096x1024, .f32⟩
  | 48 => ⟨S8x4096x1024, .f32⟩
  | 49 => ⟨S_, .f32⟩
  | 50 => ⟨S8x4096, .f32⟩
  | 51 => ⟨S8x4096x1, .f32⟩
  | 52 => ⟨S_, .f32⟩
  | 53 => ⟨S8x4096x1, .f32⟩
  | 54 => ⟨S8x4096x1, .f32⟩
  | 55 => ⟨S_, .f32⟩
  | 56 => ⟨S8x4096x1, .f32⟩
  | 57 => ⟨S8x4096x1, .f32⟩
  | 58 => ⟨S8x4096x1, .f32⟩
  | 59 => ⟨S8x4096x1024, .f32⟩
  | 60 => ⟨S8x4096x1024, .f32⟩
  | 61 => ⟨S1x1x1024, .f32⟩
  | 62 => ⟨S8x4096x1024, .f32⟩
  | 63 => ⟨S8x4096x1024, .f32⟩
  | 64 => ⟨S8x4096x1024, .f32⟩
  | 65 => ⟨S8x4096x1024, .f32⟩
  | 66 => ⟨S_, .f32⟩
  | 67 => ⟨S8x4096, .f32⟩
  | 68 => ⟨S8x4096x1, .f32⟩
  | 69 => ⟨S_, .f32⟩
  | 70 => ⟨S8x4096x1, .f32⟩
  | 71 => ⟨S8x4096x1, .f32⟩
  | 72 => ⟨S_, .f32⟩
  | 73 => ⟨S8x4096x1, .f32⟩
  | 74 => ⟨S8x4096x1, .f32⟩
  | 75 => ⟨S8x4096x1, .f32⟩
  | 76 => ⟨S8x4096x1024, .f32⟩
  | 77 => ⟨S8x4096x1024, .f32⟩
  | 78 => ⟨S1x1x1024, .f32⟩
  | 79 => ⟨S8x4096x1024, .f32⟩
  | 80 => ⟨S8x4096x1024, .f32⟩
  | 81 => ⟨S1024x5632, .f32⟩
  | 82 => ⟨S8x4096x5632, .f32⟩
  | 83 => ⟨S8x4096x2816, .f32⟩
  | 84 => ⟨S8x4096x2816, .f32⟩
  | 85 => ⟨S8x4096x2816, .f32⟩
  | 86 => ⟨S8x4096x2816, .f32⟩
  | 87 => ⟨S_, .f32⟩
  | 88 => ⟨S8x4096x2816, .f32⟩
  | 89 => ⟨S8x4096x2816, .f32⟩
  | 90 => ⟨S_, .f32⟩
  | 91 => ⟨S8x4096x2816, .f32⟩
  | 92 => ⟨S8x4096x2816, .f32⟩
  | 93 => ⟨S8x4096x2816, .f32⟩
  | 94 => ⟨S8x4096x2816, .f32⟩
  | 95 => ⟨S2816x1024, .f32⟩
  | 96 => ⟨S8x4096x1024, .f32⟩
  | 97 => ⟨S8x4096x1024, .f32⟩
  | 98 => ⟨S_, .f32⟩
  | 99 => ⟨S8x4096, .f32⟩
  | 100 => ⟨S8x4096x1, .f32⟩
  | 101 => ⟨S_, .f32⟩
  | 102 => ⟨S8x4096x1, .f32⟩
  | 103 => ⟨S8x4096x1, .f32⟩
  | 104 => ⟨S_, .f32⟩
  | 105 => ⟨S8x4096x1, .f32⟩
  | 106 => ⟨S8x4096x1, .f32⟩
  | 107 => ⟨S8x4096x1, .f32⟩
  | 108 => ⟨S8x4096x1024, .f32⟩
  | 109 => ⟨S8x4096x1024, .f32⟩
  | 110 => ⟨S1x1x1024, .f32⟩
  | 111 => ⟨S8x4096x1024, .f32⟩
  | 112 => ⟨S8x4096x1024, .f32⟩
  | 113 => ⟨S_, .f32⟩
  | 114 => ⟨S8x4096x1024, .f32⟩
  | 115 => ⟨S8x4096x1024, .f32⟩
  | 116 => ⟨S8x4096x1024, .f32⟩
  | 117 => ⟨S8x4096x1024, .f32⟩
  | 118 => ⟨S_, .f32⟩
  | 119 => ⟨S8x4096, .f32⟩
  | 120 => ⟨S8x4096x1, .f32⟩
  | 121 => ⟨S_, .f32⟩
  | 122 => ⟨S8x4096x1, .f32⟩
  | 123 => ⟨S8x4096x1, .f32⟩
  | 124 => ⟨S_, .f32⟩
  | 125 => ⟨S8x4096x1, .f32⟩
  | 126 => ⟨S8x4096x1, .f32⟩
  | 127 => ⟨S8x4096x1, .f32⟩
  | _ => ⟨S8x8x4096x128, .bf16⟩

abbrev hbmTy0_1 (i : Nat) : BufTy := match i % 128 with
  | 0 => ⟨S8x4096x1024, .f32⟩
  | 1 => ⟨S8x4096x1024, .f32⟩
  | 2 => ⟨S1x1x1024, .f32⟩
  | 3 => ⟨S8x4096x1024, .f32⟩
  | 4 => ⟨S8x4096x1024, .f32⟩
  | _ => ⟨S8x8x4096x128, .bf16⟩

abbrev hbmTy (i : Nat) : BufTy := match i / 128 with
  | 0 => hbmTy0_0 i
  | 1 => hbmTy0_1 i
  | _ => ⟨S8x8x4096x128, .bf16⟩

abbrev bufTy : (tb : Table) → Fin (tcTables nBuf tb) → BufTy
  | .hbm, ⟨i, _⟩ => hbmTy i
  | _, _ => ⟨S8x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call0_v0 : Ref sig .tc := ⟨.hbm, 85, rfl⟩
abbrev main_call0_v1 : Ref sig .tc := ⟨.hbm, 86, rfl⟩
abbrev main_call0_cst : Ref sig .tc := ⟨.hbm, 87, rfl⟩
abbrev main_call0_v2 : Ref sig .tc := ⟨.hbm, 88, rfl⟩
abbrev main_call0_v3 : Ref sig .tc := ⟨.hbm, 89, rfl⟩
abbrev main_call0_cst_0 : Ref sig .tc := ⟨.hbm, 90, rfl⟩
abbrev main_call0_v4 : Ref sig .tc := ⟨.hbm, 91, rfl⟩
abbrev main_call0_v5 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_8 : Ref sig .tc := ⟨.hbm, 98, rfl⟩
abbrev main_v66 : Ref sig .tc := ⟨.hbm, 99, rfl⟩
abbrev main_v67 : Ref sig .tc := ⟨.hbm, 100, rfl⟩
abbrev main_cst_9 : Ref sig .tc := ⟨.hbm, 101, rfl⟩
abbrev main_v68 : Ref sig .tc := ⟨.hbm, 102, rfl⟩
abbrev main_v69 : Ref sig .tc := ⟨.hbm, 103, rfl⟩
abbrev main_cst_10 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_11 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_12 : Ref sig .tc := ⟨.hbm, 118, rfl⟩
abbrev main_v82 : Ref sig .tc := ⟨.hbm, 119, rfl⟩
abbrev main_v83 : Ref sig .tc := ⟨.hbm, 120, rfl⟩
abbrev main_cst_13 : Ref sig .tc := ⟨.hbm, 121, rfl⟩
abbrev main_v84 : Ref sig .tc := ⟨.hbm, 122, rfl⟩
abbrev main_v85 : Ref sig .tc := ⟨.hbm, 123, rfl⟩
abbrev main_cst_14 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩

abbrev nD : Nat := 1
abbrev τ : Topo := Topo.v7x

variable {F : FTy → Type} [FloatOps F]
-- ==== Ffn.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S1024x5632, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S2816x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== MergePrompt.lean ====
abbrev S8x8x8192x128 : Shape := ⟨4, ![8, 8, 8192, 128]⟩
abbrev S8x8192x1024 : Shape := ⟨3, ![8, 8192, 1024]⟩
abbrev S1x128 : Shape := ⟨2, ![1, 128]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1x8x512x128 : Shape := ⟨4, ![1, 8, 512, 128]⟩
abbrev S1x512x1024 : Shape := ⟨3, ![1, 512, 1024]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 23
  | .smem => 0
  | _ => 0

abbrev bufTy : (tb : Table) → Fin (tcTables nBuf tb) → BufTy
  | .hbm, ⟨0, _⟩ => ⟨S8x8x8192x128, .bf16⟩
  | .hbm, ⟨1, _⟩ => ⟨S8x8x8192x128, .bf16⟩
  | .hbm, ⟨2, _⟩ => ⟨S8x8192x1024, .bf16⟩
  | .hbm, ⟨3, _⟩ => ⟨S8x8192x1024, .bf16⟩
  | .hbm, ⟨4, _⟩ => ⟨S8x8192x1024, .bf16⟩
  | .hbm, ⟨5, _⟩ => ⟨S8x8192x1024, .f32⟩
  | .hbm, ⟨6, _⟩ => ⟨S1x128, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S8x8192x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x8x512x128, .bf16⟩
  | .local _ .vmem, ⟨3, _⟩ => ⟨S1x8x512x128, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x128, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x5632, .bf16⟩
  | .local _ .vmem, ⟨18, _⟩ => ⟨S2816x1024, .bf16⟩
  | .local _ .vmem, ⟨19, _⟩ => ⟨S1x1024, .f32⟩
  | .local _ .vmem, ⟨20, _⟩ => ⟨S1x1024, .f32⟩
  | .local _ .vmem, ⟨21, _⟩ => ⟨S1x512x1024, .f32⟩
  | .local _ .vmem, ⟨22, _⟩ => ⟨S1x512x1024, .f32⟩
  | _, _ => ⟨S8x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergePromptReferenceIdeal.lean ====
abbrev S8x8x8192x128 : Shape := ⟨4, ![8, 8, 8192, 128]⟩
abbrev S8x8192x1024 : Shape := ⟨3, ![8, 8192, 1024]⟩
abbrev S1x128 : Shape := ⟨2, ![1, 128]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S8x8192x8x128 : Shape := ⟨4, ![8, 8192, 8, 128]⟩
abbrev S128 : Shape := ⟨1, ![128]⟩
abbrev S_ : Shape := ⟨0, ![]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩

abbrev nBuf : Space → Nat
  | .hbm => 133
  | .vmem => 0
  | .smem => 0
  | _ => 0

abbrev hbmTy0_0 (i : Nat) : BufTy := match i % 128 with
  | 0 => ⟨S8x8x8192x128, .bf16⟩
  | 1 => ⟨S8x8x8192x128, .bf16⟩
  | 2 => ⟨S8x8192x1024, .bf16⟩
  | 3 => ⟨S8x8192x1024, .bf16⟩
  | 4 => ⟨S8x8192x1024, .bf16⟩
  | 5 => ⟨S8x8192x1024, .f32⟩
  | 6 => ⟨S1x128, .f32⟩
  | 7 => ⟨S1024x1024, .bf16⟩
  | 8 => ⟨S1024x1024, .bf16⟩
  | 9 => ⟨S1x1024, .f32⟩
  | 10 => ⟨S1x1024, .f32⟩
  | 11 => ⟨S1024x5632, .bf16⟩
  | 12 => ⟨S2816x1024, .bf16⟩
  | 13 => ⟨S1x1024, .f32⟩
  | 14 => ⟨S1x1024, .f32⟩
  | 15 => ⟨S8x8x8192x128, .f32⟩
  | 16 => ⟨S8x8x8192x128, .f32⟩
  | 17 => ⟨S8x8x8192x128, .f32⟩
  | 18 => ⟨S8x8192x8x128, .f32⟩
  | 19 => ⟨S128, .f32⟩
  | 20 => ⟨S8x8192x8x128, .f32⟩
  | 21 => ⟨S_, .f32⟩
  | 22 => ⟨S8x8192x8, .f32⟩
  | 23 => ⟨S8x8192x8x1, .f32⟩
  | 24 => ⟨S_, .f32⟩
  | 25 => ⟨S8x8192x8x1, .f32⟩
  | 26 => ⟨S8x8192x8x1, .f32⟩
  | 27 => ⟨S_, .f32⟩
  | 28 => ⟨S8x8192x8x1, .f32⟩
  | 29 => ⟨S8x8192x8x1, .f32⟩
  | 30 => ⟨S8x8192x8x1, .f32⟩
  | 31 => ⟨S8x8192x8x128, .f32⟩
  | 32 => ⟨S8x8192x8x128, .f32⟩
  | 33 => ⟨S1x1x1x128, .f32⟩
  | 34 => ⟨S8x8192x8x128, .f32⟩
  | 35 => ⟨S8x8192x8x128, .f32⟩
  | 36 => ⟨S8x8192x1024, .f32⟩
  | 37 => ⟨S8x8192x8x128, .f32⟩
  | 38 => ⟨S8x8192x8x128, .f32⟩
  | 39 => ⟨S8x8192x1024, .f32⟩
  | 40 => ⟨S8x8192x1024, .f32⟩
  | 41 => ⟨S1024x1024, .f32⟩
  | 42 => ⟨S8x8192x1024, .f32⟩
  | 43 => ⟨S8x8192x1024, .f32⟩
  | 44 => ⟨S8x8192x1024, .f32⟩
  | 45 => ⟨S8x8192x1024, .f32⟩
  | 46 => ⟨S1024x1024, .f32⟩
  | 47 => ⟨S8x8192x1024, .f32⟩
  | 48 => ⟨S8x8192x1024, .f32⟩
  | 49 => ⟨S_, .f32⟩
  | 50 => ⟨S8x8192, .f32⟩
  | 51 => ⟨S8x8192x1, .f32⟩
  | 52 => ⟨S_, .f32⟩
  | 53 => ⟨S8x8192x1, .f32⟩
  | 54 => ⟨S8x8192x1, .f32⟩
  | 55 => ⟨S_, .f32⟩
  | 56 => ⟨S8x8192x1, .f32⟩
  | 57 => ⟨S8x8192x1, .f32⟩
  | 58 => ⟨S8x8192x1, .f32⟩
  | 59 => ⟨S8x8192x1024, .f32⟩
  | 60 => ⟨S8x8192x1024, .f32⟩
  | 61 => ⟨S1x1x1024, .f32⟩
  | 62 => ⟨S8x8192x1024, .f32⟩
  | 63 => ⟨S8x8192x1024, .f32⟩
  | 64 => ⟨S8x8192x1024, .f32⟩
  | 65 => ⟨S8x8192x1024, .f32⟩
  | 66 => ⟨S_, .f32⟩
  | 67 => ⟨S8x8192, .f32⟩
  | 68 => ⟨S8x8192x1, .f32⟩
  | 69 => ⟨S_, .f32⟩
  | 70 => ⟨S8x8192x1, .f32⟩
  | 71 => ⟨S8x8192x1, .f32⟩
  | 72 => ⟨S_, .f32⟩
  | 73 => ⟨S8x8192x1, .f32⟩
  | 74 => ⟨S8x8192x1, .f32⟩
  | 75 => ⟨S8x8192x1, .f32⟩
  | 76 => ⟨S8x8192x1024, .f32⟩
  | 77 => ⟨S8x8192x1024, .f32⟩
  | 78 => ⟨S1x1x1024, .f32⟩
  | 79 => ⟨S8x8192x1024, .f32⟩
  | 80 => ⟨S8x8192x1024, .f32⟩
  | 81 => ⟨S1024x5632, .f32⟩
  | 82 => ⟨S8x8192x5632, .f32⟩
  | 83 => ⟨S8x8192x2816, .f32⟩
  | 84 => ⟨S8x8192x2816, .f32⟩
  | 85 => ⟨S8x8192x2816, .f32⟩
  | 86 => ⟨S8x8192x2816, .f32⟩
  | 87 => ⟨S_, .f32⟩
  | 88 => ⟨S8x8192x2816, .f32⟩
  | 89 => ⟨S8x8192x2816, .f32⟩
  | 90 => ⟨S_, .f32⟩
  | 91 => ⟨S8x8192x2816, .f32⟩
  | 92 => ⟨S8x8192x2816, .f32⟩
  | 93 => ⟨S8x8192x2816, .f32⟩
  | 94 => ⟨S8x8192x2816, .f32⟩
  | 95 => ⟨S2816x1024, .f32⟩
  | 96 => ⟨S8x8192x1024, .f32⟩
  | 97 => ⟨S8x8192x1024, .f32⟩
  | 98 => ⟨S_, .f32⟩
  | 99 => ⟨S8x8192, .f32⟩
  | 100 => ⟨S8x8192x1, .f32⟩
  | 101 => ⟨S_, .f32⟩
  | 102 => ⟨S8x8192x1, .f32⟩
  | 103 => ⟨S8x8192x1, .f32⟩
  | 104 => ⟨S_, .f32⟩
  | 105 => ⟨S8x8192x1, .f32⟩
  | 106 => ⟨S8x8192x1, .f32⟩
  | 107 => ⟨S8x8192x1, .f32⟩
  | 108 => ⟨S8x8192x1024, .f32⟩
  | 109 => ⟨S8x8192x1024, .f32⟩
  | 110 => ⟨S1x1x1024, .f32⟩
  | 111 => ⟨S8x8192x1024, .f32⟩
  | 112 => ⟨S8x8192x1024, .f32⟩
  | 113 => ⟨S_, .f32⟩
  | 114 => ⟨S8x8192x1024, .f32⟩
  | 115 => ⟨S8x8192x1024, .f32⟩
  | 116 => ⟨S8x8192x1024, .f32⟩
  | 117 => ⟨S8x8192x1024, .f32⟩
  | 118 => ⟨S_, .f32⟩
  | 119 => ⟨S8x8192, .f32⟩
  | 120 => ⟨S8x8192x1, .f32⟩
  | 121 => ⟨S_, .f32⟩
  | 122 => ⟨S8x8192x1, .f32⟩
  | 123 => ⟨S8x8192x1, .f32⟩
  | 124 => ⟨S_, .f32⟩
  | 125 => ⟨S8x8192x1, .f32⟩
  | 126 => ⟨S8x8192x1, .f32⟩
  | 127 => ⟨S8x8192x1, .f32⟩
  | _ => ⟨S8x8x8192x128, .bf16⟩

abbrev hbmTy0_1 (i : Nat) : BufTy := match i % 128 with
  | 0 => ⟨S8x8192x1024, .f32⟩
  | 1 => ⟨S8x8192x1024, .f32⟩
  | 2 => ⟨S1x1x1024, .f32⟩
  | 3 => ⟨S8x8192x1024, .f32⟩
  | 4 => ⟨S8x8192x1024, .f32⟩
  | _ => ⟨S8x8x8192x128, .bf16⟩

abbrev hbmTy (i : Nat) : BufTy := match i / 128 with
  | 0 => hbmTy0_0 i
  | 1 => hbmTy0_1 i
  | _ => ⟨S8x8x8192x128, .bf16⟩

abbrev bufTy : (tb : Table) → Fin (tcTables nBuf tb) → BufTy
  | .hbm, ⟨i, _⟩ => hbmTy i
  | _, _ => ⟨S8x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call0_v0 : Ref sig .tc := ⟨.hbm, 85, rfl⟩
abbrev main_call0_v1 : Ref sig .tc := ⟨.hbm, 86, rfl⟩
abbrev main_call0_cst : Ref sig .tc := ⟨.hbm, 87, rfl⟩
abbrev main_call0_v2 : Ref sig .tc := ⟨.hbm, 88, rfl⟩
abbrev main_call0_v3 : Ref sig .tc := ⟨.hbm, 89, rfl⟩
abbrev main_call0_cst_0 : Ref sig .tc := ⟨.hbm, 90, rfl⟩
abbrev main_call0_v4 : Ref sig .tc := ⟨.hbm, 91, rfl⟩
abbrev main_call0_v5 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_8 : Ref sig .tc := ⟨.hbm, 98, rfl⟩
abbrev main_v66 : Ref sig .tc := ⟨.hbm, 99, rfl⟩
abbrev main_v67 : Ref sig .tc := ⟨.hbm, 100, rfl⟩
abbrev main_cst_9 : Ref sig .tc := ⟨.hbm, 101, rfl⟩
abbrev main_v68 : Ref sig .tc := ⟨.hbm, 102, rfl⟩
abbrev main_v69 : Ref sig .tc := ⟨.hbm, 103, rfl⟩
abbrev main_cst_10 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_11 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_12 : Ref sig .tc := ⟨.hbm, 118, rfl⟩
abbrev main_v82 : Ref sig .tc := ⟨.hbm, 119, rfl⟩
abbrev main_v83 : Ref sig .tc := ⟨.hbm, 120, rfl⟩
abbrev main_cst_13 : Ref sig .tc := ⟨.hbm, 121, rfl⟩
abbrev main_v84 : Ref sig .tc := ⟨.hbm, 122, rfl⟩
abbrev main_v85 : Ref sig .tc := ⟨.hbm, 123, rfl⟩
abbrev main_cst_14 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩

abbrev nD : Nat := 1
abbrev τ : Topo := Topo.v7x

variable {F : FTy → Type} [FloatOps F]
-- ==== Gates.lean ====
abbrev S8x4096x1024 : Shape := ⟨3, ![8, 4096, 1024]⟩
abbrev S1x1024 : Shape := ⟨2, ![1, 1024]⟩
abbrev S1024x3584 : Shape := ⟨2, ![1024, 3584]⟩
abbrev S1024x3072 : Shape := ⟨2, ![1024, 3072]⟩
abbrev S1024x128 : Shape := ⟨2, ![1024, 128]⟩
abbrev S32x1024 : Shape := ⟨2, ![32, 1024]⟩
abbrev S5x3072 : Shape := ⟨2, ![5, 3072]⟩
abbrev S1x128 : Shape := ⟨2, ![1, 128]⟩
abbrev S16x1 : Shape := ⟨2, ![16, 1]⟩
abbrev S4x128x128 : Shape := ⟨3, ![4, 128, 128]⟩
abbrev S1x512 : Shape := ⟨2, ![1, 512]⟩
abbrev S512x1024 : Shape := ⟨2, ![512, 1024]⟩
abbrev S8x8x4096x128 : Shape := ⟨4, ![8, 8, 4096, 128]⟩
abbrev S8x8x128x4096 : Shape := ⟨4, ![8, 8, 128, 4096]⟩
abbrev S8x4096x128 : Shape := ⟨3, ![8, 4096, 128]⟩
abbrev S8x48x4096 : Shape := ⟨3, ![8, 48, 4096]⟩
abbrev S1x512x1024 : Shape := ⟨3, ![1, 512, 1024]⟩
abbrev S1x16x1024 : Shape := ⟨3, ![1, 16, 1024]⟩
abbrev S1x8x512x128 : Shape := ⟨4, ![1, 8, 512, 128]⟩
abbrev S1x8x128x512 : Shape := ⟨4, ![1, 8, 128, 512]⟩
abbrev S1x512x128 : Shape := ⟨3, ![1, 512, 128]⟩
abbrev S1x48x512 : Shape := ⟨3, ![1, 48, 512]⟩
abbrev S28x544x128 : Shape := ⟨3, ![28, 544, 128]⟩
abbrev S4x512x128 : Shape := ⟨3, ![4, 512, 128]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S544x1024 : Shape := ⟨2, ![544, 1024]⟩
abbrev S128x128 : Shape := ⟨2, ![128, 128]⟩
abbrev S512x128 : Shape := ⟨2, ![512, 128]⟩
abbrev S32x512 : Shape := ⟨2, ![32, 512]⟩
abbrev S16x512 : Shape := ⟨2, ![16, 512]⟩
abbrev S16x128 : Shape := ⟨2, ![16, 128]⟩
abbrev S1x128x128 : Shape := ⟨3, ![1, 128, 128]⟩
abbrev S1x16x128 : Shape := ⟨3, ![1, 16, 128]⟩
abbrev S1024x256 : Shape := ⟨2, ![1024, 256]⟩
abbrev S544x256 : Shape := ⟨2, ![544, 256]⟩
abbrev S544x128 : Shape := ⟨2, ![544, 128]⟩
abbrev S1x544x128 : Shape := ⟨3, ![1, 544, 128]⟩
abbrev S512x512 : Shape := ⟨2, ![512, 512]⟩
abbrev S512x256 : Shape := ⟨2, ![512, 256]⟩
abbrev S1x512x256 : Shape := ⟨3, ![1, 512, 256]⟩
abbrev S1x1x512x128 : Shape := ⟨4, ![1, 1, 512, 128]⟩
abbrev S128x512 : Shape := ⟨2, ![128, 512]⟩
abbrev S1x1x128x512 : Shape := ⟨4, ![1, 1, 128, 512]⟩

abbrev nBuf : Space → Nat
  | .hbm => 23
  | .vmem => 39
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1024x3584, .bf16⟩
  | .hbm, ⟨3, _⟩ => ⟨S1024x3072, .bf16⟩
  | .hbm, ⟨4, _⟩ => ⟨S1024x128, .bf16⟩
  | .hbm, ⟨5, _⟩ => ⟨S32x1024, .bf16⟩
  | .hbm, ⟨6, _⟩ => ⟨S5x3072, .f32⟩
  | .hbm, ⟨7, _⟩ => ⟨S1x128, .f32⟩
  | .hbm, ⟨8, _⟩ => ⟨S1x128, .f32⟩
  | .hbm, ⟨9, _⟩ => ⟨S16x1, .f32⟩
  | .hbm, ⟨10, _⟩ => ⟨S16x1, .f32⟩
  | .hbm, ⟨11, _⟩ => ⟨S4x128x128, .bf16⟩
  | .hbm, ⟨12, _⟩ => ⟨S1x512, .f32⟩
  | .hbm, ⟨13, _⟩ => ⟨S512x1024, .bf16⟩
  | .hbm, ⟨14, _⟩ => ⟨S8x8x4096x128, .bf16⟩
  | .hbm, ⟨15, _⟩ => ⟨S8x8x4096x128, .bf16⟩
  | .hbm, ⟨16, _⟩ => ⟨S8x8x4096x128, .bf16⟩
  | .hbm, ⟨17, _⟩ => ⟨S8x8x128x4096, .bf16⟩
  | .hbm, ⟨18, _⟩ => ⟨S8x4096x1024, .bf16⟩
  | .hbm, ⟨19, _⟩ => ⟨S8x4096x1024, .bf16⟩
  | .hbm, ⟨20, _⟩ => ⟨S8x4096x1024, .bf16⟩
  | .hbm, ⟨21, _⟩ => ⟨S8x4096x128, .f32⟩
  | .hbm, ⟨22, _⟩ => ⟨S8x48x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x3584, .bf16⟩
  | .local _ .vmem, ⟨8, _⟩ => ⟨S1024x3072, .bf16⟩
  | .local _ .vmem, ⟨9, _⟩ => ⟨S1024x128, .bf16⟩
  | .local _ .vmem, ⟨10, _⟩ => ⟨S32x1024, .bf16⟩
  | .local _ .vmem, ⟨11, _⟩ => ⟨S5x3072, .f32⟩
  | .local _ .vmem, ⟨12, _⟩ => ⟨S1x128, .f32⟩
  | .local _ .vmem, ⟨13, _⟩ => ⟨S1x128, .f32⟩
  | .local _ .vmem, ⟨14, _⟩ => ⟨S16x1, .f32⟩
  | .local _ .vmem, ⟨15, _⟩ => ⟨S16x1, .f32⟩
  | .local _ .vmem, ⟨16, _⟩ => ⟨S4x128x128, .bf16⟩
  | .local _ .vmem, ⟨17, _⟩ => ⟨S1x512, .f32⟩
  | .local _ .vmem, ⟨18, _⟩ => ⟨S512x1024, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x8x512x128, .bf16⟩
  | .local _ .vmem, ⟨22, _⟩ => ⟨S1x8x512x128, .bf16⟩
  | .local _ .vmem, ⟨23, _⟩ => ⟨S1x8x512x128, .bf16⟩
  | .local _ .vmem, ⟨24, _⟩ => ⟨S1x8x512x128, .bf16⟩
  | .local _ .vmem, ⟨25, _⟩ => ⟨S1x8x128x512, .bf16⟩
  | .local _ .vmem, ⟨26, _⟩ => ⟨S1x8x128x512, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x128, .f32⟩
  | .local _ .vmem, ⟨34, _⟩ => ⟨S1x512x128, .f32⟩
  | .local _ .vmem, ⟨35, _⟩ => ⟨S1x48x512, .f32⟩
  | .local _ .vmem, ⟨36, _⟩ => ⟨S1x48x512, .f32⟩
  | .local _ .vmem, ⟨37, _⟩ => ⟨S28x544x128, .f32⟩
  | .local _ .vmem, ⟨38, _⟩ => ⟨S4x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S5x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x48x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== GatesReferenceIdeal.lean ====
abbrev S8x4096x1024 : Shape := ⟨3, ![8, 4096, 1024]⟩
abbrev S1x1024 : Shape := ⟨2, ![1, 1024]⟩
abbrev S1024x3584 : Shape := ⟨2, ![1024, 3584]⟩
abbrev S1024x3072 : Shape := ⟨2, ![1024, 3072]⟩
abbrev S1024x128 : Shape := ⟨2, ![1024, 128]⟩
abbrev S32x1024 : Shape := ⟨2, ![32, 1024]⟩
abbrev S5x3072 : Shape := ⟨2, ![5, 3072]⟩
abbrev S1x128 : Shape := ⟨2, ![1, 128]⟩
abbrev S16x1 : Shape := ⟨2, ![16, 1]⟩
abbrev S4x128x128 : Shape := ⟨3, ![4, 128, 128]⟩
abbrev S1x512 : Shape := ⟨2, ![1, 512]⟩
abbrev S512x1024 : Shape := ⟨2, ![512, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1024x3584, .bf16⟩
  | .hbm, ⟨3, _⟩ => ⟨S1024x3072, .bf16⟩
  | .hbm, ⟨4, _⟩ => ⟨S1024x128, .bf16⟩
  | .hbm, ⟨5, _⟩ => ⟨S32x1024, .bf16⟩
  | .hbm, ⟨6, _⟩ => ⟨S5x3072, .f32⟩
  | .hbm, ⟨7, _⟩ => ⟨S1x128, .f32⟩
  | .hbm, ⟨8, _⟩ => ⟨S1x128, .f32⟩
  | .hbm, ⟨9, _⟩ => ⟨S16x1, .f32⟩
  | .hbm, ⟨10, _⟩ => ⟨S16x1, .f32⟩
  | .hbm, ⟨11, _⟩ => ⟨S4x128x128, .bf16⟩
  | .hbm, ⟨12, _⟩ => ⟨S1x512, .f32⟩
  | .hbm, ⟨13, _⟩ => ⟨S512x1024, .bf16⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S1024x3072, .f32⟩
  | .hbm, ⟨31, _⟩ => ⟨S8x4096x3072, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .bf16⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S8x4096x1024, .f32⟩
  | .hbm, ⟨52, _⟩ => ⟨S8x4096x1024, .f32⟩
  | .hbm, ⟨53, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩

abbrev nD : Nat := 1
abbrev τ : Topo := Topo.v7x

variable {F : FTy → Type} [FloatOps F]
-- ==== Proof.DeltaMath.lean ====
/- The gated delta rule over the reals. `state` and `read` are the recurrence token by token; the rest shows that a block of 128 tokens may be
   done at once: the rows `D` that enter the state solve a unit triangular system, and the inverse of that system is built by doubling
   on the two diagonal blocks of 64 rows, then by one block merge. `σ` orders the rows of a block in time, so that the
   same statements serve the direction that runs backward. -/
module

public import Mathlib.LinearAlgebra.Matrix.NonsingularInverse
public import Mathlib.Analysis.SpecialFunctions.Exp
public import Mathlib.Tactic.Ring
public import Mathlib.Tactic.Abel
public import Mathlib.Tactic.Linarith

@[expose] public section

noncomputable section

namespace Cert.Delta

open Matrix

/-- A square matrix of the head dimension, or of one block of tokens. -/
abbrev M := Matrix (Fin 128) (Fin 128) ℝ

/-! ## The recurrence -/

/-- What token `n` writes into the (already decayed) state `A`: `b (v - Aᵀ k)`. -/
def put (k v : Fin 128 → ℝ) (b : ℝ) (A : M) (e : Fin 128) : ℝ := b * (v e - ∑ d, k d * A d e)

/-- One token: the state decays by `exp g`, then takes `k (put …)ᵀ` in. -/
def next (k v : Fin 128 → ℝ) (b g : ℝ) (S : M) : M :=
  fun d e => Real.exp g * S d e + k d * put k v b (fun d e => Real.exp g * S d e) e

/-- The state before token `n`, from `S₀ = 0`. -/
def state (k v : ℕ → Fin 128 → ℝ) (b g : ℕ → ℝ) : ℕ → M
  | 0 => fun _ _ => 0
  | n + 1 => next (k n) (v n) (b n) (g n) (state k v b g n)

/-- What token `n` reads: its query against the state after it. -/
def read (q k v : ℕ → Fin 128 → ℝ) (b g : ℕ → ℝ) (n : ℕ) (e : Fin 128) : ℝ :=
  ∑ d, q n d * state k v b g (n + 1) d e

/-! ## A strictly triangular matrix is nilpotent -/

theorem pow_weight (P : M) (w : Fin 128 → ℕ) (hP : ∀ i j, P i j ≠ 0 → w j + 1 ≤ w i) (n : ℕ) :
    ∀ i j, (P ^ n) i j ≠ 0 → w j + n ≤ w i := by
  induction n with
  | zero =>
    intro i j h
    by_cases hij : i = j
    · subst hij; omega
    · exact absurd (by simp [Matrix.one_apply, hij]) h
  | succ n ih =>
    intro i j h
    rw [pow_succ, Matrix.mul_apply] at h
    obtain ⟨k, _, hk⟩ := Finset.exists_ne_zero_of_sum_ne_zero h
    have h1 := ih i k (left_ne_zero_of_mul hk)
    have h2 := hP k j (right_ne_zero_of_mul hk)
    omega

theorem pow_zero_of_weight (P : M) (w : Fin 128 → ℕ) (hw : ∀ i, w i < 64) (hP : ∀ i j, P i j ≠ 0 → w j + 1 ≤ w i) : P ^ 64 = 0 := by
  ext i j
  by_contra h
  have := pow_weight P w hP 64 i j h
  have := hw i
  omega

/-! ## The inverse -/

theorem double (P T : M) (n : ℕ) (h : (1 - P) * T = 1 - P ^ n) : (1 - P) * (T + T * P ^ n) = 1 - P ^ (n + n) := by
  rw [mul_add, ← mul_assoc, h, sub_mul, one_mul, pow_add]; abel

/-- One more squaring. -/
def grow (P : M) : ℕ → M
  | 0 => 1 + P
  | n + 1 => grow P n + grow P n * P ^ (2 ^ (n + 1))

theorem grow_spec (P : M) (n : ℕ) : (1 - P) * grow P n = 1 - P ^ (2 ^ (n + 1)) := by
  induction n with
  | zero => simp only [grow, zero_add, pow_one, pow_two]; rw [mul_add, mul_one, sub_mul, one_mul]; abel
  | succ n ih =>
    have := double P _ _ ih
    rw [grow, this, ← two_mul, ← pow_succ']

/-- The inverse of the block-diagonal part `1 - P`, and the merge of its two blocks across `Y`. -/
theorem merge_spec (P Y T : M) (h : (1 - P) * T = 1) (hY : Y * T * Y = 0) : (1 - P + Y) * (T - T * Y * T) = 1 := by
  have e : (1 - P + Y) * (T - T * Y * T) = (1 - P) * T - ((1 - P) * T) * Y * T + Y * T - (Y * T * Y) * T := by
    simp only [add_mul, mul_sub, mul_assoc]; abel
  rw [e, h, hY]; simp

theorem off_zero (Y T : M) (f : Fin 128 → ℕ) (a b : ℕ) (hab : a ≠ b) (hY : ∀ i j, Y i j ≠ 0 → f i = a ∧ f j = b)
    (hT : ∀ i j, T i j ≠ 0 → f i = f j) : Y * T * Y = 0 := by
  ext i j
  by_contra h
  rw [Matrix.mul_apply] at h
  obtain ⟨k, _, hk⟩ := Finset.exists_ne_zero_of_sum_ne_zero h
  have h1 := left_ne_zero_of_mul hk
  rw [Matrix.mul_apply] at h1
  obtain ⟨l, _, hl⟩ := Finset.exists_ne_zero_of_sum_ne_zero h1
  have ha := hY i l (left_ne_zero_of_mul hl)
  have hb := hT l k (right_ne_zero_of_mul hl)
  have hc := hY k j (right_ne_zero_of_mul hk)
  exact hab (by rw [← hc.1, ← hb, ha.2])

/-! ## A block of tokens at once -/

/-- The logarithm of the decay from the start of the block (token `n0`) through its first `t` tokens. -/
def cum (g : ℕ → ℝ) (n0 t : ℕ) : ℝ := ∑ j ∈ Finset.range t, g (n0 + j)

theorem cum_succ (g : ℕ → ℝ) (n0 t : ℕ) : cum g n0 (t + 1) = cum g n0 t + g (n0 + t) := by
  rw [cum, Finset.sum_range_succ]; rfl

section
variable (k v : ℕ → Fin 128 → ℝ) (b g : ℕ → ℝ) (n0 : ℕ)

/-- The state after `t` tokens of a block, from the state before it and the rows `D` the tokens write. -/
theorem state_block (D : ℕ → Fin 128 → ℝ)
    (hD : ∀ t < 128, ∀ e, D t e = b (n0 + t) * v (n0 + t) e
      - b (n0 + t) * Real.exp (cum g n0 (t + 1)) * (∑ d, k (n0 + t) d * state k v b g n0 d e)
      - ∑ j ∈ Finset.range t, (∑ d, k (n0 + t) d * k (n0 + j) d) * Real.exp (cum g n0 (t + 1) - cum g n0 (j + 1)) * b (n0 + t) * D j e)
    (t : ℕ) (ht : t ≤ 128) (d e : Fin 128) :
    state k v b g (n0 + t) d e = Real.exp (cum g n0 t) * state k v b g n0 d e
      + ∑ j ∈ Finset.range t, Real.exp (cum g n0 t - cum g n0 (j + 1)) * k (n0 + j) d * D j e := by
  induction t generalizing d e with
  | zero => simp [cum]
  | succ t ih =>
    have ih' := ih (by omega)
    have hA : ∀ d e, Real.exp (g (n0 + t)) * state k v b g (n0 + t) d e = Real.exp (cum g n0 (t + 1)) * state k v b g n0 d e
        + ∑ j ∈ Finset.range t, Real.exp (cum g n0 (t + 1) - cum g n0 (j + 1)) * k (n0 + j) d * D j e := by
      intro d e
      rw [ih' d e, mul_add, Finset.mul_sum, cum_succ, Real.exp_add]
      congr 1
      · ring
      · refine Finset.sum_congr rfl fun j _ => ?_
        rw [show cum g n0 t + g (n0 + t) - cum g n0 (j + 1) = g (n0 + t) + (cum g n0 t - cum g n0 (j + 1)) by ring, Real.exp_add]; ring
    have hput : put (k (n0 + t)) (v (n0 + t)) (b (n0 + t)) (fun d e => Real.exp (g (n0 + t)) * state k v b g (n0 + t) d e) e = D t e := by
      unfold put
      rw [hD t (by omega) e]
      simp only [hA, mul_add, Finset.sum_add_distrib]
      have h1 : ∑ d, k (n0 + t) d * ∑ j ∈ Finset.range t, Real.exp (cum g n0 (t + 1) - cum g n0 (j + 1)) * k (n0 + j) d * D j e
          = ∑ j ∈ Finset.range t, (∑ d, k (n0 + t) d * k (n0 + j) d) * Real.exp (cum g n0 (t + 1) - cum g n0 (j + 1)) * D j e := by
        simp only [Finset.mul_sum, Finset.sum_mul]
        rw [Finset.sum_comm]
        refine Finset.sum_congr rfl fun j _ => Finset.sum_congr rfl fun d _ => ?_
        ring
      have h2 : ∑ d, k (n0 + t) d * (Real.exp (cum g n0 (t + 1)) * state k v b g n0 d e)
          = Real.exp (cum g n0 (t + 1)) * ∑ d, k (n0 + t) d * state k v b g n0 d e := by
        rw [Finset.mul_sum]; exact Finset.sum_congr rfl fun d _ => by ring
      rw [h1, h2, mul_sub, mul_add, sub_sub]
      congr 1
      congr 1
      · ring
      · rw [Finset.mul_sum]; exact Finset.sum_congr rfl fun j _ => by ring
    show next (k (n0 + t)) (v (n0 + t)) (b (n0 + t)) (g (n0 + t)) (state k v b g (n0 + t)) d e = _
    rw [next, hput, hA, Finset.sum_range_succ, sub_self, Real.exp_zero, one_mul, add_assoc]

end

/-! ## The block's rows in time order -/

section
variable (σ : Fin 128 ≃ Fin 128)

theorem sum_order (f : ℕ → ℝ) : ∑ i : Fin 128, f (σ i) = ∑ t ∈ Finset.range 128, f t := by
  rw [Equiv.sum_comp σ (fun i : Fin 128 => f i), Finset.sum_range]

theorem sum_before (i : Fin 128) (f : ℕ → ℝ) :
    ∑ j : Fin 128, (if σ j < σ i then f (σ j) else 0) = ∑ t ∈ Finset.range (σ i), f t := by
  have := sum_order σ (fun t => if t < (σ i : ℕ) then f t else 0)
  simp only [Fin.lt_def]
  rw [this, ← Finset.sum_filter]
  congr 1
  ext t
  simp only [Finset.mem_filter, Finset.mem_range]
  have := (σ i).isLt
  omega

theorem sum_upto (i : Fin 128) (f : ℕ → ℝ) :
    ∑ j : Fin 128, (if σ j ≤ σ i then f (σ j) else 0) = ∑ t ∈ Finset.range (σ i + 1), f t := by
  have := sum_order σ (fun t => if t ≤ (σ i : ℕ) then f t else 0)
  simp only [Fin.le_def]
  rw [this, ← Finset.sum_filter]
  congr 1
  ext t
  simp only [Finset.mem_filter, Finset.mem_range]
  have := (σ i).isLt
  omega

variable (q k v : ℕ → Fin 128 → ℝ) (b g : ℕ → ℝ) (n0 : ℕ)

/-- The system that the rows written by a block solve. -/
def sys : M := fun i j =>
  if σ j < σ i then (∑ d, k (n0 + σ i) d * k (n0 + σ j) d) * Real.exp (cum g n0 (σ i + 1) - cum g n0 (σ j + 1)) * b (n0 + σ i) else 0

/-- Its right-hand side: what the tokens would write without each other. -/
def rhs (S : M) : M := fun i e =>
  b (n0 + σ i) * v (n0 + σ i) e - b (n0 + σ i) * Real.exp (cum g n0 (σ i + 1)) * ∑ d, k (n0 + σ i) d * S d e

variable {σ q k v b g n0}

theorem rows_of_inverse (T D : M) (hT : (1 + sys σ k b g n0) * T = 1)
    (hD : D = T * rhs σ k v b g n0 (state k v b g n0)) (t : ℕ) (ht : t < 128) (e : Fin 128) :
    D (σ.symm ⟨t, ht⟩) e = b (n0 + t) * v (n0 + t) e
      - b (n0 + t) * Real.exp (cum g n0 (t + 1)) * (∑ d, k (n0 + t) d * state k v b g n0 d e)
      - ∑ j ∈ Finset.range t, (∑ d, k (n0 + t) d * k (n0 + j) d) * Real.exp (cum g n0 (t + 1) - cum g n0 (j + 1)) * b (n0 + t)
        * (if h : j < 128 then D (σ.symm ⟨j, h⟩) e else 0) := by
  have h : (1 + sys σ k b g n0) * D = rhs σ k v b g n0 (state k v b g n0) := by rw [hD, ← mul_assoc, hT, one_mul]
  have h1 := congrFun (congrFun h (σ.symm ⟨t, ht⟩)) e
  rw [add_mul, one_mul, Matrix.add_apply, Matrix.mul_apply] at h1
  have h2 : ∑ j, sys σ k b g n0 (σ.symm ⟨t, ht⟩) j * D j e
      = ∑ j ∈ Finset.range t, (∑ d, k (n0 + t) d * k (n0 + j) d) * Real.exp (cum g n0 (t + 1) - cum g n0 (j + 1)) * b (n0 + t)
        * (if h : j < 128 then D (σ.symm ⟨j, h⟩) e else 0) := by
    have := sum_before σ (σ.symm ⟨t, ht⟩) (fun j => (∑ d, k (n0 + t) d * k (n0 + j) d) * Real.exp (cum g n0 (t + 1) - cum g n0 (j + 1)) * b (n0 + t)
        * (if h : j < 128 then D (σ.symm ⟨j, h⟩) e else 0))
    rw [Equiv.apply_symm_apply] at this
    rw [← this]
    refine Finset.sum_congr rfl fun j _ => ?_
    unfold sys
    rw [Equiv.apply_symm_apply]
    by_cases hj : σ j < ⟨t, ht⟩
    · simp [hj]
    · simp [hj]
  rw [h2] at h1
  rw [eq_sub_iff_add_eq, h1]
  unfold rhs
  rw [Equiv.apply_symm_apply]

theorem state_of_inverse (T D : M) (hT : (1 + sys σ k b g n0) * T = 1)
    (hD : D = T * rhs σ k v b g n0 (state k v b g n0)) (t : ℕ) (ht : t ≤ 128) (d e : Fin 128) :
    state k v b g (n0 + t) d e = Real.exp (cum g n0 t) * state k v b g n0 d e
      + ∑ j ∈ Finset.range t, Real.exp (cum g n0 t - cum g n0 (j + 1)) * k (n0 + j) d * (if h : j < 128 then D (σ.symm ⟨j, h⟩) e else 0) := by
  refine state_block k v b g n0 (fun j e => if h : j < 128 then D (σ.symm ⟨j, h⟩) e else 0) (fun t ht e => ?_) t ht d e
  rw [dif_pos ht]
  exact rows_of_inverse T D hT hD t ht e

/-- What the tokens of a block read. -/
theorem read_of_inverse (T D : M) (hT : (1 + sys σ k b g n0) * T = 1)
    (hD : D = T * rhs σ k v b g n0 (state k v b g n0)) (i e : Fin 128) :
    read q k v b g (n0 + σ i) e = ∑ d, (q (n0 + σ i) d * Real.exp (cum g n0 (σ i + 1))) * state k v b g n0 d e
      + ∑ j, (if σ j ≤ σ i then (∑ d, q (n0 + σ i) d * k (n0 + σ j) d) * Real.exp (cum g n0 (σ i + 1) - cum g n0 (σ j + 1)) else 0) * D j e := by
  have hs := fun d => state_of_inverse T D hT hD (σ i + 1) (by have := (σ i).isLt; omega) d e
  rw [read]
  simp only [add_assoc, hs, mul_add, Finset.sum_add_distrib]
  congr 1
  · exact Finset.sum_congr rfl fun d _ => by ring
  · have := sum_upto σ i (fun j => (∑ d, q (n0 + σ i) d * k (n0 + j) d) * Real.exp (cum g n0 (σ i + 1) - cum g n0 (j + 1))
        * (if h : j < 128 then D (σ.symm ⟨j, h⟩) e else 0))
    have h2 : ∀ j, (if σ j ≤ σ i then (∑ d, q (n0 + σ i) d * k (n0 + σ j) d) * Real.exp (cum g n0 (σ i + 1) - cum g n0 (σ j + 1)) else 0) * D j e
        = if σ j ≤ σ i then (∑ d, q (n0 + σ i) d * k (n0 + σ j) d) * Real.exp (cum g n0 (σ i + 1) - cum g n0 (σ j + 1))
          * (if h : (σ j : ℕ) < 128 then D (σ.symm ⟨σ j, h⟩) e else 0) else 0 := by
      intro j; by_cases hj : σ j ≤ σ i <;> simp [hj]
    simp only [h2]
    rw [this]
    simp only [Finset.mul_sum, Finset.sum_mul]
    rw [Finset.sum_comm]
    exact Finset.sum_congr rfl fun j _ => Finset.sum_congr rfl fun d _ => by ring

/-- The state after a block. -/
theorem after_of_inverse (T D : M) (hT : (1 + sys σ k b g n0) * T = 1)
    (hD : D = T * rhs σ k v b g n0 (state k v b g n0)) (d e : Fin 128) :
    state k v b g (n0 + 128) d e = state k v b g n0 d e * Real.exp (cum g n0 128)
      + ∑ j, (k (n0 + σ j) d * Real.exp (cum g n0 128 - cum g n0 (σ j + 1))) * D j e := by
  rw [state_of_inverse T D hT hD 128 le_rfl d e, mul_comm (Real.exp _)]
  congr 1
  have := sum_order σ (fun j => Real.exp (cum g n0 128 - cum g n0 (j + 1)) * k (n0 + j) d * (if h : j < 128 then D (σ.symm ⟨j, h⟩) e else 0))
  rw [← this]
  refine Finset.sum_congr rfl fun j _ => ?_
  simp only [(σ j).isLt, dif_pos, Fin.eta, Equiv.symm_apply_apply]
  ring

end

end Cert.Delta

end
-- ==== Proof.Tokens.lean ====
/- The order in which each chain takes its tokens: chains 0 to 7 forward in time, chains 8 to 15 backward, chain `c` on head `c mod 8`. -/
module

public import proofs.«01_k».proof.Proof.DeltaMath

@[expose] public section

noncomputable section

namespace Cert.Delta

/-- The time of chain `c`'s token `n`. -/
def time (c : Fin 16) (n : ℕ) : Fin 4096 := if (c : ℕ) < 8 then ⟨n % 4096, Nat.mod_lt _ (by decide)⟩ else Fin.rev ⟨n % 4096, Nat.mod_lt _ (by decide)⟩

/-- The head of chain `c`. -/
def head (c : Fin 16) : Fin 8 := ⟨c % 8, Nat.mod_lt _ (by decide)⟩

/-- The rows (queries, keys or values) of one chain in the order it takes them. -/
def row (x : Fin 8 → Fin 8 → Fin 4096 → Fin 128 → ℝ) (b : Fin 8) (c : Fin 16) (n : ℕ) (e : Fin 128) : ℝ := x b (head c) (time c n) e

/-- The gates (rates or log decays) of one chain in the order it takes them. -/
def gate (x : Fin 8 → Fin 4096 → Fin 16 → ℝ) (b : Fin 8) (c : Fin 16) (n : ℕ) : ℝ := x b (time c n) c

end Cert.Delta
-- ==== Proof.RefRead.lean ====
/- The reference's scan at the ideal values: after `k` steps its carried state and its results hold the recurrence of `DeltaMath`. -/
module

public import proofs.«01_k».proof.Proof.DeltaMath
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Cert.Delta

/-! ## One token's row of a scanned array -/

theorem row4_at (x : FVec Ideal S4096x8x16x128 .f32) (start : Fin 4 → Int) (k : Fin 4096) (h0 : start 0 = (k : ℕ)) (h1 : start 1 = 0)
    (h2 : start 2 = 0) (h3 : start 3 = 0) (h h') (b : Fin 8) (c : Fin 16) (e : Fin 128) :
    shapeCast S8x16x128 (Host.dynamicSlice S1x8x16x128 x start h) h' (ix3 b c e) = x (ix4 k b c e) := by
  pointwise
  congr 1
  funext a
  fin_cases a <;> ext <;> simp [Host.clampedStart, h0, h1, h2, h3] <;> omega

theorem row3_at (x : FVec Ideal S4096x8x16 .f32) (start : Fin 3 → Int) (k : Fin 4096) (h0 : start 0 = (k : ℕ)) (h1 : start 1 = 0)
    (h2 : start 2 = 0) (h h') (b : Fin 8) (c : Fin 16) :
    shapeCast S8x16 (Host.dynamicSlice S1x8x16 x start h) h' (ix2 b c) = x (ix3 k b c) := by
  pointwise
  congr 1
  funext a
  fin_cases a <;> ext <;> simp [Host.clampedStart, h0, h1, h2] <;> omega

theorem put4_at (x : FVec Ideal S4096x8x16x128 .f32) (u : FVec Ideal S1x8x16x128 .f32) (start : Fin 4 → Int) (k : Fin 4096)
    (h0 : start 0 = (k : ℕ)) (h1 : start 1 = 0) (h2 : start 2 = 0) (h3 : start 3 = 0) (h) (n : Fin 4096) (b : Fin 8) (c : Fin 16) (e : Fin 128) :
    Host.dynamicUpdateSlice x u start h (ix4 n b c e) = if n = k then u (ix4 0 b c e) else x (ix4 n b c e) := by
  have hs : Host.clampedStart S4096x8x16x128 S1x8x16x128 h.1 start 0 = k := Host.clampedStart_of_le _ _ _ _ h0 (by have := k.2; simpa using this)
  rw [Host.dynamicUpdateSlice_apply]
  by_cases hn : n = k
  · subst hn
    rw [if_pos rfl, dif_pos (by intro a; fin_cases a <;> simp [Host.clampedStart, h0, h1, h2, h3] <;> omega)]
    pointwise
    congr 1
    funext a
    fin_cases a <;> ext <;> simp [Host.clampedStart, h0, h1, h2, h3] <;> omega
  · rw [if_neg hn, dif_neg]
    intro hin
    have := hin 0
    rw [hs] at this
    refine hn (Fin.ext ?_)
    have h5 : (n : ℕ) < k + 1 := this.2
    have h6 : (k : ℕ) ≤ n := this.1
    omega

theorem dot_at (x : FVec Ideal S8x16x128 .f32) (s : FVec Ideal S8x16x128x128 .f32) (b : Fin 8) (c : Fin 16) (e : Fin 128) :
    Host.dotGeneral dot_S8x16x128_S8x16x128x128_S8x16x128_2_2_n_3_01_01 none x s (ix3 b c e) = ∑ d : Fin 128, x (ix3 b c d) * s (ix4 b c d e) := by
  pointwise

theorem bc_state (x : FVec Ideal S8x16 .f32) (b : Fin 8) (c : Fin 16) (d e : Fin 128) :
    broadcastInDim S8x16x128x128 ![0, 1, 2, 3] bcast_S8x16x1x1_S8x16x128x128_0_1_2_3 (broadcastInDim S8x16x1x1 ![0, 1] bcast_S8x16_S8x16x1x1_0_1 x) (ix4 b c d e) = x (ix2 b c) := by
  pointwise

theorem bc_key (x : FVec Ideal S8x16x128 .f32) (b : Fin 8) (c : Fin 16) (d e : Fin 128) :
    broadcastInDim S8x16x128x128 ![0, 1, 2, 3] bcast_S8x16x128x1_S8x16x128x128_0_1_2_3 (broadcastInDim S8x16x128x1 ![0, 1, 2] bcast_S8x16x128_S8x16x128x1_0_1_2 x) (ix4 b c d e) = x (ix3 b c d) := by
  pointwise

theorem bc_value (x : FVec Ideal S8x16x128 .f32) (b : Fin 8) (c : Fin 16) (d e : Fin 128) :
    broadcastInDim S8x16x128x128 ![0, 1, 2, 3] bcast_S8x16x1x128_S8x16x128x128_0_1_2_3 (broadcastInDim S8x16x1x128 ![0, 1, 3] bcast_S8x16x128_S8x16x1x128_0_1_3 x) (ix4 b c d e) = x (ix3 b c e) := by
  pointwise

theorem bc_rate (x : FVec Ideal S8x16 .f32) (b : Fin 8) (c : Fin 16) (e : Fin 128) :
    broadcastInDim S8x16x128 ![0, 1, 2] bcast_S8x16x1_S8x16x128_0_1_2 (broadcastInDim S8x16x1 ![0, 1] bcast_S8x16_S8x16x1_0_1 x) (ix3 b c e) = x (ix2 b c) := by
  pointwise

theorem bc_out (x : FVec Ideal S8x16x128 .f32) (b : Fin 8) (c : Fin 16) (e : Fin 128) :
    broadcastInDim S1x8x16x128 ![1, 2, 3] bcast_S8x16x128_S1x8x16x128_1_2_3 x (ix4 0 b c e) = x (ix3 b c e) := by
  pointwise

theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## One step -/

/-- The arrays a trip of the scan finds: token rows in the reals, the counter at `n`, and the state before token `n`. -/
structure At (Q K W : Fin 8 → Fin 16 → ℕ → Fin 128 → ℝ) (B G : Fin 8 → Fin 16 → ℕ → ℝ) (n : ℕ) (V : Valuation τ sig (Elt Ideal)) : Prop where
  q : ∀ (t : Fin 4096) b c e, (V (Proc.devRef .tc main_v24_0) : FVec Ideal S4096x8x16x128 .f32) (ix4 t b c e) = ((Q b c t e : ℝ) : EReal)
  k : ∀ (t : Fin 4096) b c e, (V (Proc.devRef .tc main_v24_1) : FVec Ideal S4096x8x16x128 .f32) (ix4 t b c e) = ((K b c t e : ℝ) : EReal)
  v : ∀ (t : Fin 4096) b c e, (V (Proc.devRef .tc main_v24_2) : FVec Ideal S4096x8x16x128 .f32) (ix4 t b c e) = ((W b c t e : ℝ) : EReal)
  b : ∀ (t : Fin 4096) b c, (V (Proc.devRef .tc main_v24_3) : FVec Ideal S4096x8x16 .f32) (ix3 t b c) = ((B b c t : ℝ) : EReal)
  g : ∀ (t : Fin 4096) b c, (V (Proc.devRef .tc main_v24_4) : FVec Ideal S4096x8x16 .f32) (ix3 t b c) = ((G b c t : ℝ) : EReal)
  i : ∀ j, (V (Proc.devRef .tc main_v24_5) : IVec S_ 32) j = BitVec.ofNat 32 n
  s : ∀ b c d e, (V (Proc.devRef .tc main_v24_6) : FVec Ideal S8x16x128x128 .f32) (ix4 b c d e)
      = ((state (K b c) (W b c) (B b c) (G b c) n d e : ℝ) : EReal)
  o : ∀ (t : Fin 4096) b c e, (t : ℕ) < n → (V (Proc.devRef .tc main_v24_7) : FVec Ideal S4096x8x16x128 .f32) (ix4 t b c e)
      = ((read (Q b c) (K b c) (W b c) (B b c) (G b c) t e : ℝ) : EReal)

section
variable {Q K W : Fin 8 → Fin 16 → ℕ → Fin 128 → ℝ} {B G : Fin 8 → Fin 16 → ℕ → ℝ} {n : ℕ} {V : Valuation τ sig (Elt Ideal)}

theorem word_int (hn : n < 4096) : (BitVec.ofNat 32 n).toInt = (n : ℤ) := by
  rw [BitVec.toInt_eq_toNat_of_lt] <;> rw [BitVec.toNat_ofNat, Nat.mod_eq_of_lt (by omega)]; omega

theorem key_at (hV : At Q K W B G n V) (hn : n < 4096) (b c e) : res_main_while0b_v31 V (ix3 b c e) = ((K b c n e : ℝ) : EReal) := by
  rw [← hV.k ⟨n, hn⟩ b c e]
  exact row4_at _ _ ⟨n, hn⟩ ((congrArg BitVec.toInt (hV.i _)).trans (word_int hn)) rfl rfl rfl _ _ b c e

theorem decayed_at (hV : At Q K W B G n V) (hn : n < 4096) (b c d e) :
    res_main_while0b_v38 V (ix4 b c d e) = ((Real.exp (G b c n) * state (K b c) (W b c) (B b c) (G b c) n d e : ℝ) : EReal) := by
  rw [EReal.coe_mul, ← hV.s b c d e, ← Ideal.exp_coe, ← hV.g ⟨n, hn⟩ b c]
  refine congrArg (· * _) ((bc_state _ b c d e).trans ?_)
  exact congrArg Ideal.exp (row3_at _ _ ⟨n, hn⟩ ((congrArg BitVec.toInt (hV.i _)).trans (word_int hn)) rfl rfl _ _ b c)

theorem next_at (hV : At Q K W B G n V) (hn : n < 4096) (b c d e) :
    res_main_while0b_v49 V (ix4 b c d e) = ((state (K b c) (W b c) (B b c) (G b c) (n + 1) d e : ℝ) : EReal) := by
  have e0 : state (K b c) (W b c) (B b c) (G b c) (n + 1) d e = Real.exp (G b c n) * state (K b c) (W b c) (B b c) (G b c) n d e
      + K b c n d * (B b c n * (W b c n e - ∑ a, K b c n a * (Real.exp (G b c n) * state (K b c) (W b c) (B b c) (G b c) n a e))) := rfl
  rw [e0, EReal.coe_add, ← decayed_at hV hn b c d e, EReal.coe_mul, ← key_at hV hn b c d, EReal.coe_mul, EReal.coe_sub, coe_sum',
    ← hV.b ⟨n, hn⟩ b c, ← hV.v ⟨n, hn⟩ b c e]
  refine congrArg (HAdd.hAdd (α := EReal) (β := EReal) (γ := EReal) _) (congrArg₂ (fun z w : EReal => z * w) (bc_key _ b c d e) ((bc_value _ b c d e).trans ?_))
  refine congrArg₂ (fun z w : EReal => z * w) ?_ (congrArg₂ (fun z w : EReal => z - w) ?_ ?_)
  · exact (bc_rate _ b c e).trans (row3_at _ _ ⟨n, hn⟩ ((congrArg BitVec.toInt (hV.i _)).trans (word_int hn)) rfl rfl _ _ b c)
  · exact row4_at _ _ ⟨n, hn⟩ ((congrArg BitVec.toInt (hV.i _)).trans (word_int hn)) rfl rfl rfl _ _ b c e
  · refine (dot_at _ _ b c e).trans (Finset.sum_congr rfl fun a _ => ?_)
    rw [key_at hV hn, decayed_at hV hn, ← EReal.coe_mul]

theorem At.step (hV : At Q K W B G n V) (hn : n < 4096) : At Q K W B G (n + 1) (STEP V) where
  q := by rw [STEP_main_v24_0]; exact hV.q
  k := by rw [STEP_main_v24_1]; exact hV.k
  v := by rw [STEP_main_v24_2]; exact hV.v
  b := by rw [STEP_main_v24_3]; exact hV.b
  g := by rw [STEP_main_v24_4]; exact hV.g
  i := fun j => by
    rw [STEP_main_v24_5]
    refine (congrArg (· + 1#32) (hV.i j)).trans ?_
    rw [BitVec.ofNat_add]
  s := by rw [STEP_main_v24_6]; exact next_at hV hn
  o := fun t b c e ht => by
    rw [STEP_main_v24_7]
    refine (put4_at _ _ _ ⟨n, hn⟩ ((congrArg BitVec.toInt (hV.i _)).trans (word_int hn)) rfl rfl rfl updateFits_S4096x8x16x128_S1x8x16x128 t b c e).trans ?_
    by_cases h : t = ⟨n, hn⟩
    · subst h
      have e1 : Delta.read (Q b c) (K b c) (W b c) (B b c) (G b c) n e
          = ∑ a, Q b c n a * state (K b c) (W b c) (B b c) (G b c) (n + 1) a e := rfl
      rw [if_pos rfl, bc_out, e1, coe_sum']
      refine (dot_at _ _ b c e).trans (Finset.sum_congr rfl fun a _ => ?_)
      rw [EReal.coe_mul, ← next_at hV hn, ← hV.q ⟨n, hn⟩]
      exact congrArg (· * _) (row4_at _ _ ⟨n, hn⟩ ((congrArg BitVec.toInt (hV.i _)).trans (word_int hn)) rfl rfl rfl _ _ b c a)
    · rw [if_neg h]
      exact hV.o t b c e (lt_of_le_of_ne (Nat.lt_succ_iff.mp ht) fun h' => h (Fin.ext h'))

theorem At.steps (hV : At Q K W B G 0 V) : ∀ n, n ≤ 4096 → At Q K W B G n (STEP^[n] V)
  | 0, _ => hV
  | n + 1, h => by rw [Function.iterate_succ_apply']; exact (At.steps hV n (by omega)).step (by omega)

end

end Cert.ReferenceIdeal.Value
-- ==== Proof.RefEntry.lean ====
/- The reference's arrays at the scan's entry, and its two results, at an index. -/
module

public import proofs.«01_k».proof.Proof.Tokens
public import proofs.«01_k».proof.Proof.RefRead

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Tactic Idealize.ShloMosaic.StableHlo Cert.Delta

/-- The rows of one array as the scan takes them: each head forward, then each head backward, time first. -/
def both (x : FVec Ideal S8x8x4096x128 .bf16) : FVec Ideal S4096x8x16x128 .f32 :=
  transpose S4096x8x16x128 [2, 0, 1, 3] (concatenate S8x16x4096x128 1 [⟨S8x8x4096x128, extf .f32 x bitsLt_bf16_f32⟩,
    ⟨S8x8x4096x128, Host.reverse [2] (extf .f32 x bitsLt_bf16_f32)⟩] concatenates_S8x8x4096x128_S8x8x4096x128_S8x16x4096x128_d1)
    transposes_S8x16x4096x128_S4096x8x16x128_2_0_1_3

/-- The gates as the scan takes them. -/
def gates (x : FVec Ideal S8x4096x16 .f32) : FVec Ideal S4096x8x16 .f32 :=
  transpose S4096x8x16 [1, 0, 2] (concatenate S8x4096x16 2 [⟨S8x4096x8, extractStridedSlice S8x4096x8 ![0, 0, 0] x slices_S8x4096x16_S8x4096x8_0_0_0⟩,
    ⟨S8x4096x8, Host.reverse [1] (extractStridedSlice S8x4096x8 ![0, 0, 8] x slices_S8x4096x16_S8x4096x8_0_0_8)⟩]
    concatenates_S8x4096x8_S8x4096x8_S8x4096x16_d2) transposes_S8x4096x16_S4096x8x16_1_0_2

theorem both_at (x : FVec Ideal S8x8x4096x128 .bf16) (t : Fin 4096) (b : Fin 8) (c : Fin 16) (e : Fin 128) :
    both x (ix4 t b c e) = x (ix4 b (head c) (time c t) e) := by
  pointwise [both]
  have ht : (t : ℕ) % 4096 = t := Nat.mod_eq_of_lt t.2
  by_cases h : (c : ℕ) < 8
  · rw [dif_pos h]
    have e1 : head c = ⟨c, h⟩ := Fin.ext (Nat.mod_eq_of_lt h)
    have e2 : time c t = t := by rw [time, if_pos h]; exact Fin.ext ht
    rw [e1, e2]
  · rw [dif_neg h]
    have e1 : head c = ⟨c - 8, by omega⟩ := Fin.ext (by show (c : ℕ) % 8 = c - 8; omega)
    have e2 : time c t = t.rev := by rw [time, if_neg h]; exact congrArg Fin.rev (Fin.ext ht)
    rw [e1, e2]
    simp

theorem gates_at (x : FVec Ideal S8x4096x16 .f32) (t : Fin 4096) (b : Fin 8) (c : Fin 16) :
    gates x (ix3 t b c) = x (ix3 b (time c t) c) := by
  pointwise [gates]
  have ht : (t : ℕ) % 4096 = t := Nat.mod_eq_of_lt t.2
  by_cases h : (c : ℕ) < 8
  · rw [dif_pos h]
    have e2 : time c t = t := by rw [time, if_pos h]; exact Fin.ext ht
    rw [e2]
  · rw [dif_neg h]
    have e2 : time c t = t.rev := by rw [time, if_neg h]; exact congrArg Fin.rev (Fin.ext ht)
    rw [e2]
    have e3 : (8 : ℕ) + (c - 8) = c := by omega
    simp [e3]

variable (m : (ℓ : Loc nD τ sig) → Buf (Elt Ideal) ℓ) (c : Dev nD)

theorem entry_q : entryContents preI m c (Proc.devRef .tc main_v24_0) = both (m ((c.tc : Thread nD τ).loc main_arg0)) := by
  simp only [entryContents, afterL_cons, afterL_nil]
  after_reads_simp
  rfl
theorem entry_k : entryContents preI m c (Proc.devRef .tc main_v24_1) = both (m ((c.tc : Thread nD τ).loc main_arg1)) := by
  simp only [entryContents, afterL_cons, afterL_nil]
  after_reads_simp
  rfl
theorem entry_v : entryContents preI m c (Proc.devRef .tc main_v24_2) = both (m ((c.tc : Thread nD τ).loc main_arg2)) := by
  simp only [entryContents, afterL_cons, afterL_nil]
  after_reads_simp
  rfl
theorem entry_b : entryContents preI m c (Proc.devRef .tc main_v24_3) = gates (m ((c.tc : Thread nD τ).loc main_arg3)) := by
  simp only [entryContents, afterL_cons, afterL_nil]
  after_reads_simp
  rfl
theorem entry_g : entryContents preI m c (Proc.devRef .tc main_v24_4) = gates (m ((c.tc : Thread nD τ).loc main_arg4)) := by
  simp only [entryContents, afterL_cons, afterL_nil]
  after_reads_simp
  rfl
theorem entry_s : entryContents preI m c (Proc.devRef .tc main_v24_6)
    = broadcastInDim S8x16x128x128 ![] bcast_S_S8x16x128x128 (constant (F := Ideal) S_ .f32 0x00000000#32) := by
  simp only [entryContents, afterL_cons, afterL_nil]
  after_reads_simp
  rfl

/-- The arrays at the scan's entry, where every argument holds reals. -/
theorem entry_at (q k v : Fin 8 → Fin 8 → Fin 4096 → Fin 128 → ℝ) (b g : Fin 8 → Fin 4096 → Fin 16 → ℝ)
    (hq : ∀ i h t e, (m ((c.tc : Thread nD τ).loc main_arg0) : FVec Ideal S8x8x4096x128 .bf16) (ix4 i h t e) = ((q i h t e : ℝ) : EReal))
    (hk : ∀ i h t e, (m ((c.tc : Thread nD τ).loc main_arg1) : FVec Ideal S8x8x4096x128 .bf16) (ix4 i h t e) = ((k i h t e : ℝ) : EReal))
    (hv : ∀ i h t e, (m ((c.tc : Thread nD τ).loc main_arg2) : FVec Ideal S8x8x4096x128 .bf16) (ix4 i h t e) = ((v i h t e : ℝ) : EReal))
    (hb : ∀ i t j, (m ((c.tc : Thread nD τ).loc main_arg3) : FVec Ideal S8x4096x16 .f32) (ix3 i t j) = ((b i t j : ℝ) : EReal))
    (hg : ∀ i t j, (m ((c.tc : Thread nD τ).loc main_arg4) : FVec Ideal S8x4096x16 .f32) (ix3 i t j) = ((g i t j : ℝ) : EReal)) :
    At (row q) (row k) (row v) (gate b) (gate g) 0 (entryContents preI m c) where
  q := fun t i j e => by rw [entry_q, both_at]; exact hq _ _ _ _
  k := fun t i j e => by rw [entry_k, both_at]; exact hk _ _ _ _
  v := fun t i j e => by rw [entry_v, both_at]; exact hv _ _ _ _
  b := fun t i j => by rw [entry_b, gates_at]; exact hb _ _ _
  g := fun t i j => by rw [entry_g, gates_at]; exact hg _ _ _
  i := fun j => by rw [ctr_entry]
  s := fun i j d e => by
    rw [entry_s]
    pointwise
    simp [state]
  o := fun t i j e h => absurd h (Nat.not_lt_zero _)

/-- The forward result, from what the scan leaves. -/
theorem forward_at {Q K W : Fin 8 → Fin 16 → ℕ → Fin 128 → ℝ} {B G : Fin 8 → Fin 16 → ℕ → ℝ} {V : Valuation τ sig (Elt Ideal)}
    (hV : At Q K W B G 4096 V) (i h : Fin 8) (t : Fin 4096) (e : Fin 128) :
    (out_main_v27 V : FVec Ideal S8x8x4096x128 .bf16) (ix4 i h t e)
      = ((Delta.read (Q i ⟨h, by omega⟩) (K i ⟨h, by omega⟩) (W i ⟨h, by omega⟩) (B i ⟨h, by omega⟩) (G i ⟨h, by omega⟩) t e : ℝ) : EReal) := by
  rw [← hV.o t i ⟨h, by omega⟩ e t.2]
  pointwise [out_main_v27]

/-- The backward result, from what the scan leaves. -/
theorem backward_at {Q K W : Fin 8 → Fin 16 → ℕ → Fin 128 → ℝ} {B G : Fin 8 → Fin 16 → ℕ → ℝ} {V : Valuation τ sig (Elt Ideal)}
    (hV : At Q K W B G 4096 V) (i h : Fin 8) (t : Fin 4096) (e : Fin 128) :
    (out_main_v29 V : FVec Ideal S8x8x4096x128 .bf16) (ix4 i h t e)
      = ((Delta.read (Q i ⟨8 + h, by omega⟩) (K i ⟨8 + h, by omega⟩) (W i ⟨8 + h, by omega⟩) (B i ⟨8 + h, by omega⟩) (G i ⟨8 + h, by omega⟩) t.rev e : ℝ) : EReal) := by
  rw [← hV.o t.rev i ⟨8 + h, by omega⟩ e t.rev.2]
  pointwise [out_main_v29]
  simp

end Cert.ReferenceIdeal.Value
-- ==== Proof.Chain.lean ====
/- What the kernel's body computes for one head, one direction and one block of 128 tokens, written once as a function of the blocks it
   loads. The body interleaves 64 such computations; `Pieces` shows that each of its stores holds one of them. -/
module

public import proofs.«01_k».proof.Proof.Gen.KernelIdeal
public import Idealize.ShloMosaic.Lib.Pipeline.Regions

@[expose] public section

noncomputable section

namespace Cert.KernelIdeal.Chain

open Cert.KernelIdeal Cert.KernelIdeal.Gen Idealize.ShloMosaic Idealize.SL.Sem

variable {F : FTy → Type} [FloatOps F]

/-! ## Masks -/

/-- Division rounding down, as it prints for integers of either sign. -/
def floorDiv (s : Shape) (x : IVec s 32) (n : BitVec 32) : IVec s 32 :=
  select
    (andi
      (cmpi .ne
        (subi (extui 32 (cmpi .sgt x (broadcast s 0#32)) natLt_1_32) (extui 32 (cmpi .slt x (broadcast s 0#32)) natLt_1_32))
        (broadcast s (Scalar.subi (Scalar.extui (Scalar.cmpi .sgt n 0#32)) (Scalar.extui (Scalar.cmpi .slt n 0#32)))))
      (cmpi .ne (remsi x (broadcast s n)) (broadcast s 0#32)))
    (subi (divsi x (broadcast s n)) (broadcast s 1#32))
    (divsi x (broadcast s n))

/-- The remainder with the divisor's sign, as it prints for a matrix of 64 rows. -/
def floorMod (x : IVec S64x128 32) (n : BitVec 32) : IVec S64x128 32 :=
  let n' : BitVec 32 := Scalar.select (Scalar.cmpi .eq n 0#32) 1#32 n
  let r := remsi x (broadcast S64x128 n')
  select
    (andi
      (xori (cmpi .slt r (broadcast S64x128 0#32))
        (broadcastTo S64x128 (broadcast S64x128 (Scalar.cmpi .slt n' 0#32)) broadcasts_S64x128_S64x128))
      (cmpi .ne r (broadcast S64x128 0#32)))
    (addi r (broadcast S64x128 n')) r

/-- Row and column numbers of a square block. -/
def rows : IVec S128x128 32 := iota .tc S128x128 32 [0] iota_S128x128_d0_w32
def cols : IVec S128x128 32 := iota .tc S128x128 32 [1] iota_S128x128_d1_w32
/-- Row and column numbers of a packed block. -/
def prows : IVec S64x128 32 := iota .tc S64x128 32 [0] iota_S64x128_d0_w32
def pcols : IVec S64x128 32 := iota .tc S64x128 32 [1] iota_S64x128_d1_w32

/-- On a diagonal block of 64 rows. -/
def same : IVec S128x128 1 := cmpi .eq (floorDiv S128x128 rows 64#32) (floorDiv S128x128 cols 64#32)
/-- Off the diagonal blocks of 64 rows (and on the one diagonal block of 128). -/
def off : IVec S128x128 1 :=
  andi (cmpi .eq (floorDiv S128x128 rows 128#32) (floorDiv S128x128 cols 128#32))
    (cmpi .ne (floorDiv S128x128 rows 64#32) (floorDiv S128x128 cols 64#32))
/-- In the first 64 columns. -/
def first : IVec S64x128 1 := cmpi .eq (floorMod (floorDiv S64x128 pcols 64#32) 2#32) (broadcast S64x128 0#32)

/-- A mask as numbers. -/
def num (m : IVec S128x128 1) : FVec F S128x128 .bf16 := truncf .bf16 (sitofp .f32 (extui 32 m natLt_1_32)) bitsLt_bf16_f32

/-- The packed identity. -/
def eye : FVec F S64x128 .f32 := sitofp .f32 (extui 32 (cmpi .eq prows (floorMod pcols 64#32)) natLt_1_32)

/-! ## The blocks loaded -/

def mat (x : Vec F S1x1x128x128 .bf16) : FVec F S128x128 .bf16 := shapeCast S128x128 x shapeCasts_S1x1x128x128_S128x128
def stm (x : Vec F S1x128x128 .f32) : FVec F S128x128 .f32 := shapeCast S128x128 x shapeCasts_S1x128x128_S128x128
def colm (x : Vec F S1x128x1 .f32) : FVec F S128x128 .f32 :=
  broadcastTo S128x128 (shapeCast S128x1 (shapeCast S128x1 x shapeCasts_S1x128x1_S128x1) shapeCasts_S128x1_S128x1) broadcasts_S128x1_S128x128
def rowm (x : Vec F S1x1x128 .f32) : FVec F S128x128 .f32 :=
  broadcastTo S128x128 (shapeCast S1x128 (shapeCast S1x128 x shapeCasts_S1x1x128_S1x128) shapeCasts_S1x128_S1x128) broadcasts_S1x128_S128x128

/-! ## The stages -/

def zero (s : Shape) : FVec F s .f32 := broadcast s (Scalar.ofBits .f32 0x00000000#32)

/-- Keys and queries against the keys. -/
def kq (lq lk lkt : Vec F S1x1x128x128 .bf16) : FVec F S256x128 .f32 :=
  matmul dot_S256x128_S128x128_S256x128_1_0_0_1_n_n none
    (concatenate S256x128 0 [⟨S128x128, mat lk⟩, ⟨S128x128, mat lq⟩] concatenates_S128x128_S128x128_S256x128_d0) (mat lkt)
    (constant S256x128 .f32 0x00000000#32)

/-- The decay from column's token to row's, where the column is not later; `d` is the direction. -/
def decay (d : Bool) (gcol : Vec F S1x128x1 .f32) (grow : Vec F S1x1x128 .f32) : FVec F S128x128 .f32 :=
  select (match d with | false => cmpi .sge rows cols | true => cmpi .sle rows cols) (exp (subf (colm gcol) (rowm grow))) (zero S128x128)

/-- The strict part of the system. -/
def sysv (d : Bool) (c : FVec F S256x128 .f32) (gcol bcol : Vec F S1x128x1 .f32) (grow : Vec F S1x1x128 .f32) : FVec F S128x128 .f32 :=
  select (match d with | false => cmpi .sgt rows cols | true => cmpi .slt rows cols)
    (mulf (mulf (extractStridedSlice S128x128 ![0, 0] c slices_S256x128_o0_0_S128x128) (decay d gcol grow)) (colm bcol)) (zero S128x128)

/-- The decayed scores of the queries. -/
def score (d : Bool) (c : FVec F S256x128 .f32) (gcol : Vec F S1x128x1 .f32) (grow : Vec F S1x1x128 .f32) : FVec F S128x128 .bf16 :=
  truncf .bf16 (mulf (extractStridedSlice S128x128 ![128, 0] c slices_S256x128_o128_0_S128x128) (decay d gcol grow)) bitsLt_bf16_f32

/-- The two diagonal blocks beside each other, with a minus. -/
def pack (x : FVec F S128x128 .f32) : FVec F S64x128 .f32 :=
  subf (zero S64x128)
    (addf (extractStridedSlice S64x128 ![0, 0] (select same x (zero S128x128)) slices_S128x128_o0_0_S64x128)
      (extractStridedSlice S64x128 ![64, 0] (select same x (zero S128x128)) slices_S128x128_o64_0_S64x128))

/-- Packed blocks laid back on the diagonal. -/
def diag (p : FVec F S64x128 .f32) : FVec F S128x128 .bf16 :=
  mulf (concatenate S128x128 0 [⟨S64x128, truncf .bf16 p bitsLt_bf16_f32⟩, ⟨S64x128, truncf .bf16 p bitsLt_bf16_f32⟩]
    concatenates_S64x128_S64x128_S128x128_d0) (num same)

/-- A packed product. -/
def pmul (p : FVec F S64x128 .f32) (w : FVec F S128x128 .bf16) : FVec F S64x128 .f32 :=
  matmul dot_S64x128_S128x128_S64x128_1_0_0_1_n_n none (truncf .bf16 p bitsLt_bf16_f32) w (constant S64x128 .f32 0x00000000#32)

/-- Two packed products at once. -/
def both (t p : FVec F S64x128 .f32) : FVec F S128x128 .f32 :=
  matmul dot_S128x128_S128x128_S128x128_1_0_0_1_n_n none
    (concatenate S128x128 0 [⟨S64x128, truncf .bf16 t bitsLt_bf16_f32⟩, ⟨S64x128, truncf .bf16 p bitsLt_bf16_f32⟩]
      concatenates_S64x128_S64x128_S128x128_d0) (diag p) (constant S128x128 .f32 0x00000000#32)

def upper (x : FVec F S128x128 .f32) : FVec F S64x128 .f32 := extractStridedSlice S64x128 ![0, 0] x slices_S128x128_o0_0_S64x128
def lower (x : FVec F S128x128 .f32) : FVec F S64x128 .f32 := extractStridedSlice S64x128 ![64, 0] x slices_S128x128_o64_0_S64x128

/-- One doubling: the partial sum takes the next power in, and the power is squared. -/
def grow1 (r : FVec F S64x128 .f32 × FVec F S64x128 .f32) : FVec F S64x128 .f32 × FVec F S64x128 .f32 :=
  (addf r.1 (upper (both r.1 r.2)), lower (both r.1 r.2))

/-- The inverse of the diagonal blocks, packed. -/
def inv (p : FVec F S64x128 .f32) : FVec F S64x128 .f32 :=
  let r := grow1 (grow1 (grow1 (grow1 (addf eye p, pmul p (diag p)))))
  addf r.1 (pmul r.1 (diag r.2))

/-- The block that merges them. -/
def cross (t : FVec F S64x128 .f32) (x : FVec F S128x128 .f32) : FVec F S64x128 .f32 :=
  pmul (pmul t (mulf (truncf .bf16 x bitsLt_bf16_f32) (num off))) (diag t)

/-- The inverse of the whole system. -/
def merge (d : Bool) (t z : FVec F S64x128 .f32) : FVec F S128x128 .f32 :=
  match d with
  | false => concatenate S128x128 0 [⟨S64x128, select first t (zero S64x128)⟩, ⟨S64x128, select first (subf (zero S64x128) z) t⟩]
      concatenates_S64x128_S64x128_S128x128_d0
  | true => concatenate S128x128 0 [⟨S64x128, select first t (subf (zero S64x128) z)⟩, ⟨S64x128, select first (zero S64x128) t⟩]
      concatenates_S64x128_S64x128_S128x128_d0

/-- The inverse against the scaled values and the scaled keys. -/
def uw (d : Bool) (x : FVec F S128x128 .f32) (lk lv : Vec F S1x1x128x128 .bf16) (gcol bcol : Vec F S1x128x1 .f32) : FVec F S128x256 .f32 :=
  matmul dot_S128x128_S128x256_S128x256_1_0_0_1_n_n none
    (truncf .bf16 (merge d (inv (pack x)) (cross (inv (pack x)) x)) bitsLt_bf16_f32)
    (concatenate S128x256 1
      [⟨S128x128, truncf .bf16 (mulf (extf .f32 (mat lv) bitsLt_bf16_f32) (colm bcol)) bitsLt_bf16_f32⟩,
       ⟨S128x128, truncf .bf16 (mulf (mulf (extf .f32 (mat lk) bitsLt_bf16_f32) (colm bcol)) (exp (colm gcol))) bitsLt_bf16_f32⟩]
      concatenates_S128x128_S128x128_S128x256_d1) (constant S128x256 .f32 0x00000000#32)

/-- The rows written into the state. -/
def wrote (u : FVec F S128x256 .f32) (s : Vec F S1x128x128 .f32) : FVec F S128x128 .bf16 :=
  truncf .bf16
    (subf (extractStridedSlice S128x128 ![0, 0] u slices_S128x256_o0_0_S128x128)
      (matmul dot_S128x128_S128x128_S128x128_1_0_0_1_n_n none
        (truncf .bf16 (extractStridedSlice S128x128 ![0, 128] u slices_S128x256_o0_128_S128x128) bitsLt_bf16_f32)
        (truncf .bf16 (stm s) bitsLt_bf16_f32) (constant S128x128 .f32 0x00000000#32))) bitsLt_bf16_f32

/-- What the queries read. -/
def reads (w qk : FVec F S128x128 .bf16) (lq : Vec F S1x1x128x128 .bf16) (gcol : Vec F S1x128x1 .f32) (s : Vec F S1x128x128 .f32) :
    FVec F S128x128 .f32 :=
  matmul dot_S128x256_S256x128_S128x128_1_0_0_1_n_n none
    (concatenate S128x256 1
      [⟨S128x128, truncf .bf16 (mulf (extf .f32 (mat lq) bitsLt_bf16_f32) (exp (colm gcol))) bitsLt_bf16_f32⟩, ⟨S128x128, qk⟩]
      concatenates_S128x128_S128x128_S128x256_d1)
    (concatenate S256x128 0 [⟨S128x128, truncf .bf16 (stm s) bitsLt_bf16_f32⟩, ⟨S128x128, w⟩] concatenates_S128x128_S128x128_S256x128_d0)
    (constant S128x128 .f32 0x00000000#32)

/-- The state after the block. -/
def after (w : FVec F S128x128 .bf16) (lkt : Vec F S1x1x128x128 .bf16) (erow trow : Vec F S1x1x128 .f32) (s : Vec F S1x128x128 .f32) :
    FVec F S128x128 .f32 :=
  addf (mulf (stm s) (rowm trow))
    (matmul dot_S128x128_S128x128_S128x128_1_0_0_1_n_n none
      (truncf .bf16 (mulf (extf .f32 (mat lkt) bitsLt_bf16_f32) (rowm erow)) bitsLt_bf16_f32) w (constant S128x128 .f32 0x00000000#32))

/-! ## The two values a block stores -/

/-- The rows written, from everything loaded. -/
def rowsOf (d : Bool) (lq lk lv lkt : Vec F S1x1x128x128 .bf16) (gcol bcol : Vec F S1x128x1 .f32) (grow : Vec F S1x1x128 .f32)
    (s : Vec F S1x128x128 .f32) : FVec F S128x128 .bf16 :=
  wrote (uw d (sysv d (kq lq lk lkt) gcol bcol grow) lk lv gcol bcol) s

def outOf (d : Bool) (lq lk lv lkt : Vec F S1x1x128x128 .bf16) (gcol bcol : Vec F S1x128x1 .f32) (grow : Vec F S1x1x128 .f32)
    (s : Vec F S1x128x128 .f32) : FVec F S1x1x128x128 .bf16 :=
  shapeCast S1x1x128x128
    (truncf .bf16 (reads (rowsOf d lq lk lv lkt gcol bcol grow s) (score d (kq lq lk lkt) gcol grow) lq gcol s) bitsLt_bf16_f32)
    shapeCasts_S128x128_S1x1x128x128

def stateOf (d : Bool) (lq lk lv lkt : Vec F S1x1x128x128 .bf16) (gcol bcol : Vec F S1x128x1 .f32) (grow erow trow : Vec F S1x1x128 .f32)
    (s : Vec F S1x128x128 .f32) : FVec F S1x128x128 .f32 :=
  shapeCast S1x128x128 (after (rowsOf d lq lk lv lkt gcol bcol grow s) lkt erow trow s) shapeCasts_S128x128_S1x128x128

end Cert.KernelIdeal.Chain

end
-- ==== Proof.Stages.lean ====
/- The stages of `Chain` at the ideal values, read at an index and carried to the reals: where every block loaded holds reals, so does every
   block computed, and it holds the function of reals written here. -/
module

public import proofs.«01_k».proof.Proof.Chain
public import Idealize.ShloMosaic.Lib.Pointwise

@[expose] public section

set_option maxRecDepth 16384

noncomputable section

namespace Cert.KernelIdeal.Chain

open Cert.KernelIdeal Cert.KernelIdeal.Gen Idealize.ShloMosaic

/-! ## Blocks of reals -/

/-- The block holds the reals `a`. -/
def Is {n m : ℕ} {φ : FTy} (x : FVec Ideal ⟨2, ![n, m]⟩ φ) (a : Fin n → Fin m → ℝ) : Prop := ∀ i j, x (ix2 i j) = ((a i j : ℝ) : EReal)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section
variable {n m : ℕ} {φ : FTy} {x y : FVec Ideal ⟨2, ![n, m]⟩ φ} {a b : Fin n → Fin m → ℝ}

theorem Is.add (hx : Is x a) (hy : Is y b) : Is (addf x y) (fun i j => a i j + b i j) := fun i j => by
  rw [EReal.coe_add, ← hx i j, ← hy i j]; rfl
theorem Is.sub (hx : Is x a) (hy : Is y b) : Is (subf x y) (fun i j => a i j - b i j) := fun i j => by
  rw [EReal.coe_sub, ← hx i j, ← hy i j]; rfl
theorem Is.mul (hx : Is x a) (hy : Is y b) : Is (mulf x y) (fun i j => a i j * b i j) := fun i j => by
  rw [EReal.coe_mul, ← hx i j, ← hy i j]; rfl
theorem Is.exp (hx : Is x a) : Is (Idealize.ShloMosaic.exp x) (fun i j => Real.exp (a i j)) := fun i j => by
  rw [← Ideal.exp_coe, ← hx i j]; rfl
theorem Is.select (p : Fin n → Fin m → Prop) [∀ i j, Decidable (p i j)] {c : IVec ⟨2, ![n, m]⟩ 1}
    (hc : ∀ i j, c (ix2 i j) = if p i j then 1#1 else 0#1) (hx : Is x a) (hy : Is y b) :
    Is (Idealize.ShloMosaic.select c x y) (fun i j => if p i j then a i j else b i j) := fun i j => by
  by_cases h : p i j
  · simp only [h, if_true, ← hx i j, ValueIdx.select_apply, hc, ↓reduceIte, Scalar.select]
    simp
  · simp only [h, if_false, ← hy i j, ValueIdx.select_apply, hc, ↓reduceIte, Scalar.select]
    simp
theorem Is.trunc {φ' : FTy} (h : φ'.bits < φ.bits) (hx : Is x a) : Is (truncf φ' x h) a := fun i j => by
  rw [← hx i j]; rfl
theorem Is.ext {φ' : FTy} (h : φ.bits < φ'.bits) (hx : Is x a) : Is (extf φ' x h) a := fun i j => by
  rw [← hx i j]; rfl
end

theorem is_zero (n m : ℕ) : Is (n := n) (m := m) (zero ⟨2, ![n, m]⟩) (fun _ _ => 0) := fun i j => by
  pointwise [zero]; simp

/-! ## The masks -/

theorem rows_at (i j : Fin 128) : rows (ix2 i j) = BitVec.ofNat 32 i := by pointwise [rows]
theorem cols_at (i j : Fin 128) : cols (ix2 i j) = BitVec.ofNat 32 j := by pointwise [cols]
theorem prows_at (i : Fin 64) (j : Fin 128) : prows (ix2 i j) = BitVec.ofNat 32 i := by pointwise [prows]
theorem pcols_at (i : Fin 64) (j : Fin 128) : pcols (ix2 i j) = BitVec.ofNat 32 j := by pointwise [pcols]

/-- `floorDiv` at one number. -/
def div1 (x n : BitVec 32) : BitVec 32 := floorDiv ⟨0, ![]⟩ (fun _ => x) n (fun a => a.elim0)

theorem floorDiv_at (s : Shape) (x : IVec s 32) (n : BitVec 32) (i : s.Idx) : floorDiv s x n i = div1 (x i) n := rfl

theorem div1_64 : ∀ i : Fin 128, div1 (BitVec.ofNat 32 i) 64#32 = BitVec.ofNat 32 (i / 64) := by decide +kernel
theorem div1_128 : ∀ i : Fin 128, div1 (BitVec.ofNat 32 i) 128#32 = 0#32 := by decide +kernel

theorem natWord (a b : ℕ) (ha : a < 2 ^ 32) (hb : b < 2 ^ 32) : (BitVec.ofNat 32 a = BitVec.ofNat 32 b) ↔ a = b := by
  constructor
  · intro h
    have := congrArg BitVec.toNat h
    rwa [BitVec.toNat_ofNat, BitVec.toNat_ofNat, Nat.mod_eq_of_lt ha, Nat.mod_eq_of_lt hb] at this
  · rintro rfl; rfl

theorem ofBool_ite (p : Prop) [Decidable p] (b : Bool) (h : b = true ↔ p) : BitVec.ofBool b = if p then 1#1 else 0#1 := by
  by_cases hp : p
  · rw [if_pos hp, h.mpr hp]; rfl
  · rw [if_neg hp, Bool.eq_false_iff.mpr (fun hb => hp (h.mp hb))]; rfl

theorem same_at (i j : Fin 128) : same (ix2 i j) = if (i : ℕ) / 64 = j / 64 then 1#1 else 0#1 := by
  show IntOp.cmpi .eq (floorDiv S128x128 rows 64#32 (ix2 i j)) (floorDiv S128x128 cols 64#32 (ix2 i j)) = _
  rw [floorDiv_at, floorDiv_at, rows_at, cols_at, div1_64, div1_64]
  refine ofBool_ite _ _ ?_
  rw [beq_iff_eq, natWord _ _ (by omega) (by omega)]

theorem off_at (i j : Fin 128) : off (ix2 i j) = if (i : ℕ) / 64 = j / 64 then 0#1 else 1#1 := by
  show IntOp.andi (IntOp.cmpi .eq (floorDiv S128x128 rows 128#32 (ix2 i j)) (floorDiv S128x128 cols 128#32 (ix2 i j)))
    (IntOp.cmpi .ne (floorDiv S128x128 rows 64#32 (ix2 i j)) (floorDiv S128x128 cols 64#32 (ix2 i j))) = _
  rw [floorDiv_at, floorDiv_at, floorDiv_at, floorDiv_at, rows_at, cols_at, div1_64, div1_64, div1_128, div1_128]
  have h : IntOp.cmpi .ne (BitVec.ofNat 32 (i / 64)) (BitVec.ofNat 32 (j / 64)) = if ¬ ((i : ℕ) / 64 = j / 64) then 1#1 else 0#1 := by
    refine ofBool_ite _ _ ?_
    rw [bne_iff_ne, ne_eq, natWord _ _ (by omega) (by omega)]
  rw [h]
  by_cases hp : (i : ℕ) / 64 = j / 64
  · rw [if_pos hp, if_neg (not_not.mpr hp)]; rfl
  · rw [if_neg hp, if_pos hp]; rfl

theorem first_at (i : Fin 64) (j : Fin 128) : first (ix2 i j) = if (j : ℕ) < 64 then 1#1 else 0#1 := by
  have h : ∀ j : Fin 128, first (ix2 0 j) = if (j : ℕ) < 64 then 1#1 else 0#1 := by decide +kernel
  rw [← h j]; rfl

theorem ge_at (i j : Fin 128) : cmpi .sge rows cols (ix2 i j) = if j ≤ i then 1#1 else 0#1 := by
  have h : ∀ i j : Fin 128, IntOp.cmpi .sge (BitVec.ofNat 32 i) (BitVec.ofNat 32 j) = if j ≤ i then 1#1 else 0#1 := by decide +kernel
  rw [← h i j, ← rows_at i j, ← cols_at i j]; rfl
theorem gt_at (i j : Fin 128) : cmpi .sgt rows cols (ix2 i j) = if j < i then 1#1 else 0#1 := by
  have h : ∀ i j : Fin 128, IntOp.cmpi .sgt (BitVec.ofNat 32 i) (BitVec.ofNat 32 j) = if j < i then 1#1 else 0#1 := by decide +kernel
  rw [← h i j, ← rows_at i j, ← cols_at i j]; rfl
theorem le_at (i j : Fin 128) : cmpi .sle rows cols (ix2 i j) = if i ≤ j then 1#1 else 0#1 := by
  have h : ∀ i j : Fin 128, IntOp.cmpi .sle (BitVec.ofNat 32 i) (BitVec.ofNat 32 j) = if i ≤ j then 1#1 else 0#1 := by decide +kernel
  rw [← h i j, ← rows_at i j, ← cols_at i j]; rfl
theorem lt_at (i j : Fin 128) : cmpi .slt rows cols (ix2 i j) = if i < j then 1#1 else 0#1 := by
  have h : ∀ i j : Fin 128, IntOp.cmpi .slt (BitVec.ofNat 32 i) (BitVec.ofNat 32 j) = if i < j then 1#1 else 0#1 := by decide +kernel
  rw [← h i j, ← rows_at i j, ← cols_at i j]; rfl

/-- A bit as a number. -/
theorem num_bit (p : Prop) [Decidable p] (b : BitVec 1) (h : b = if p then 1#1 else 0#1) :
    (((b.setWidth 32).toInt : ℝ) : EReal) = (((if p then 1 else 0 : ℝ)) : EReal) := by
  subst h
  by_cases hp : p <;> simp [hp]

theorem num_at (p : Fin 128 → Fin 128 → Prop) [∀ i j, Decidable (p i j)] (c : IVec S128x128 1)
    (hc : ∀ i j, c (ix2 i j) = if p i j then 1#1 else 0#1) : Is (num c) (fun i j => if p i j then 1 else 0) := fun i j => by
  rw [← num_bit (p i j) _ (hc i j)]; rfl

theorem eye_at : Is eye (fun i j => if (i : ℕ) = j % 64 then 1 else 0) := fun i j => by
  have h : ∀ (i : Fin 64) (j : Fin 128), cmpi .eq prows (floorMod pcols 64#32) (ix2 i j) = if (i : ℕ) = j % 64 then 1#1 else 0#1 := by
    decide +kernel
  rw [← num_bit _ _ (h i j)]; rfl

end Cert.KernelIdeal.Chain

end
-- ==== Proof.Values.lean ====
/- `Chain`'s stages carried to the reals: each holds the function of reals named beside it. -/
module

public import proofs.«01_k».proof.Proof.Stages
public import proofs.«01_k».proof.Proof.DeltaMath

@[expose] public section

set_option maxRecDepth 16384

noncomputable section

namespace Cert.KernelIdeal.Chain

open Cert.KernelIdeal Cert.KernelIdeal.Gen Idealize.ShloMosaic Cert.Delta

/-- A square block of reals, and two of its diagonal blocks beside each other. -/
abbrev Packed := Fin 64 → Fin 128 → ℝ

/-! ## Loads -/

theorem mat_is (x : Vec Ideal S1x1x128x128 .bf16) (a : M) (h : ∀ i j, x (ix4 0 0 i j) = ((a i j : ℝ) : EReal)) : Is (mat x) a := fun i j => by
  rw [← h i j]; pointwise [mat]
theorem stm_is (x : Vec Ideal S1x128x128 .f32) (a : M) (h : ∀ i j, x (ix3 0 i j) = ((a i j : ℝ) : EReal)) : Is (stm x) a := fun i j => by
  rw [← h i j]; pointwise [stm]
theorem colm_is (x : Vec Ideal S1x128x1 .f32) (a : Fin 128 → ℝ) (h : ∀ i, x (ix3 0 i 0) = ((a i : ℝ) : EReal)) : Is (colm x) (fun i _ => a i) :=
  fun i j => by rw [← h i]; pointwise [colm]
theorem rowm_is (x : Vec Ideal S1x1x128 .f32) (a : Fin 128 → ℝ) (h : ∀ i, x (ix3 0 0 i) = ((a i : ℝ) : EReal)) : Is (rowm x) (fun _ j => a j) :=
  fun i j => by rw [← h j]; pointwise [rowm]

/-! ## Cutting and joining -/

section
variable {φ : FTy}
theorem upper_is {x : FVec Ideal S128x128 .f32} {a : M} (h : Is x a) : Is (upper x) (fun i j => a (Fin.castLE (by decide) i) j) := fun i j => by
  rw [← h]; pointwise [upper]; rfl
theorem lower_is {x : FVec Ideal S128x128 .f32} {a : M} (h : Is x a) : Is (lower x) (fun i j => a ⟨64 + i, by omega⟩ j) := fun i j => by
  rw [← h]; pointwise [lower]
/-- One packed block on another. -/
def stack (a b : Packed) : M := fun i j => if h : (i : ℕ) < 64 then a ⟨i, h⟩ j else b ⟨i - 64, by omega⟩ j
theorem stack_is {x y : FVec Ideal S64x128 φ} {a b : Packed} (hx : Is x a) (hy : Is y b) :
    Is (concatenate S128x128 0 [⟨S64x128, x⟩, ⟨S64x128, y⟩] concatenates_S64x128_S64x128_S128x128_d0) (stack a b) := fun i j => by
  pointwise [stack]
  split
  · exact hx _ _
  · exact hy _ _
/-- One square block on another. -/
def tall (a b : M) : Fin 256 → Fin 128 → ℝ := fun i j => if h : (i : ℕ) < 128 then a ⟨i, h⟩ j else b ⟨i - 128, by omega⟩ j
theorem tall_is {x y : FVec Ideal S128x128 φ} {a b : M} (hx : Is x a) (hy : Is y b) :
    Is (concatenate S256x128 0 [⟨S128x128, x⟩, ⟨S128x128, y⟩] concatenates_S128x128_S128x128_S256x128_d0) (tall a b) := fun i j => by
  pointwise [tall]
  split
  · exact hx _ _
  · exact hy _ _
/-- One square block beside another. -/
def wide (a b : M) : Fin 128 → Fin 256 → ℝ := fun i j => if h : (j : ℕ) < 128 then a i ⟨j, h⟩ else b i ⟨j - 128, by omega⟩
theorem wide_is {x y : FVec Ideal S128x128 φ} {a b : M} (hx : Is x a) (hy : Is y b) :
    Is (concatenate S128x256 1 [⟨S128x128, x⟩, ⟨S128x128, y⟩] concatenates_S128x128_S128x128_S128x256_d1) (wide a b) := fun i j => by
  pointwise [wide]
  split
  · exact hx _ _
  · exact hy _ _
end

/-! ## Products -/

/-- A product of blocks of reals. -/
def dot {n k m : ℕ} (a : Fin n → Fin k → ℝ) (b : Fin k → Fin m → ℝ) : Fin n → Fin m → ℝ := fun i j => ∑ l, a i l * b l j

theorem dot_eq (a b : M) : dot a b = a * b := by ext i j; rw [Matrix.mul_apply]; rfl

theorem dot_coe {n k m : ℕ} {φ : FTy} {x : FVec Ideal ⟨2, ![n, k]⟩ φ} {y : FVec Ideal ⟨2, ![k, m]⟩ φ} {a : Fin n → Fin k → ℝ} {b : Fin k → Fin m → ℝ}
    (hx : Is x a) (hy : Is y b) (i : Fin n) (j : Fin m) : ((dot a b i j : ℝ) : EReal) = ∑ l, x (ix2 i l) * y (ix2 l j) := by
  rw [dot, coe_sum]
  exact Finset.sum_congr rfl fun l _ => by rw [EReal.coe_mul, hx, hy]

section
variable {φ : FTy}
theorem dot_256_128 {x : FVec Ideal S256x128 .bf16} {y : FVec Ideal S128x128 .bf16} {a : Fin 256 → Fin 128 → ℝ} {b : M} (hx : Is x a) (hy : Is y b) :
    Is (matmul dot_S256x128_S128x128_S256x128_1_0_0_1_n_n none x y (constant S256x128 .f32 0x00000000#32)) (dot a b) := fun i j => by
  rw [dot_coe hx hy]; pointwise
theorem dot_64_128 {x : FVec Ideal S64x128 .bf16} {y : FVec Ideal S128x128 .bf16} {a : Packed} {b : M} (hx : Is x a) (hy : Is y b) :
    Is (matmul dot_S64x128_S128x128_S64x128_1_0_0_1_n_n none x y (constant S64x128 .f32 0x00000000#32)) (dot a b) := fun i j => by
  rw [dot_coe hx hy]; pointwise
theorem dot_128_128 {x : FVec Ideal S128x128 .bf16} {y : FVec Ideal S128x128 .bf16} {a b : M} (hx : Is x a) (hy : Is y b) :
    Is (matmul dot_S128x128_S128x128_S128x128_1_0_0_1_n_n none x y (constant S128x128 .f32 0x00000000#32)) (dot a b) := fun i j => by
  rw [dot_coe hx hy]; pointwise
theorem dot_128_256 {x : FVec Ideal S128x128 .bf16} {y : FVec Ideal S128x256 .bf16} {a : M} {b : Fin 128 → Fin 256 → ℝ} (hx : Is x a) (hy : Is y b) :
    Is (matmul dot_S128x128_S128x256_S128x256_1_0_0_1_n_n none x y (constant S128x256 .f32 0x00000000#32)) (dot a b) := fun i j => by
  rw [dot_coe hx hy]; pointwise
theorem dot_256_long {x : FVec Ideal S128x256 .bf16} {y : FVec Ideal S256x128 .bf16} {a : Fin 128 → Fin 256 → ℝ} {b : Fin 256 → Fin 128 → ℝ}
    (hx : Is x a) (hy : Is y b) :
    Is (matmul dot_S128x256_S256x128_S128x128_1_0_0_1_n_n none x y (constant S128x128 .f32 0x00000000#32)) (dot a b) := fun i j => by
  rw [dot_coe hx hy]; pointwise
end

/-! ## The stages on reals -/

/-- Whether column `j`'s token is before row `i`'s, and whether it is not after it. -/
def lt (d : Bool) (j i : Fin 128) : Prop := match d with | false => j < i | true => i < j
def le (d : Bool) (j i : Fin 128) : Prop := match d with | false => j ≤ i | true => i ≤ j
instance (d : Bool) (i j : Fin 128) : Decidable (lt d i j) := by unfold lt; cases d <;> infer_instance
instance (d : Bool) (i j : Fin 128) : Decidable (le d i j) := by unfold le; cases d <;> infer_instance

def decayR (d : Bool) (gc gr : Fin 128 → ℝ) : M := fun i j => if le d j i then Real.exp (gc i - gr j) else 0
def sysR (d : Bool) (kk : M) (gc b gr : Fin 128 → ℝ) : M := fun i j => if lt d j i then kk i j * decayR d gc gr i j * b i else 0
def scoreR (d : Bool) (qk : M) (gc gr : Fin 128 → ℝ) : M := fun i j => qk i j * decayR d gc gr i j
/-- The entries on the diagonal blocks of 64. -/
def onR (x : M) : M := fun i j => if (i : ℕ) / 64 = j / 64 then x i j else 0
def packR (x : M) : Packed := fun i j => 0 - (onR x (Fin.castLE (by decide) i) j + onR x ⟨64 + i, by omega⟩ j)
def diagR (p : Packed) : M := fun i j => stack p p i j * (if (i : ℕ) / 64 = j / 64 then 1 else 0)
def eyeR : Packed := fun i j => if (i : ℕ) = j % 64 then 1 else 0
def growR (r : Packed × Packed) : Packed × Packed := (fun i j => r.1 i j + dot r.1 (diagR r.2) i j, dot r.2 (diagR r.2))
def invR (p : Packed) : Packed :=
  let r := growR (growR (growR (growR ((fun i j => eyeR i j + p i j), dot p (diagR p)))))
  fun i j => r.1 i j + dot r.1 (diagR r.2) i j
def crossR (t : Packed) (x : M) : Packed := dot (dot t (fun i j => x i j * (if (i : ℕ) / 64 = j / 64 then 0 else 1))) (diagR t)
def mergeR (d : Bool) (t z : Packed) : M :=
  match d with
  | false => stack (fun i j => if (j : ℕ) < 64 then t i j else 0) (fun i j => if (j : ℕ) < 64 then 0 - z i j else t i j)
  | true => stack (fun i j => if (j : ℕ) < 64 then t i j else 0 - z i j) (fun i j => if (j : ℕ) < 64 then 0 else t i j)
def uwR (d : Bool) (x k v : M) (gc b : Fin 128 → ℝ) : Fin 128 → Fin 256 → ℝ :=
  dot (mergeR d (invR (packR x)) (crossR (invR (packR x)) x)) (wide (fun i j => v i j * b i) (fun i j => k i j * b i * Real.exp (gc i)))
def wroteR (u : Fin 128 → Fin 256 → ℝ) (s : M) : M := fun i j =>
  u i (Fin.castLE (by decide) j) - dot (fun i (j : Fin 128) => u i ⟨128 + j, by omega⟩) s i j
def readsR (w qk q : M) (gc : Fin 128 → ℝ) (s : M) : M := dot (wide (fun i j => q i j * Real.exp (gc i)) qk) (tall s w)
def afterR (w kt : M) (er tr : Fin 128 → ℝ) (s : M) : M := fun i j => s i j * tr j + dot (fun i j => kt i j * er j) w i j

/-! ## Each stage holds its function -/

section
variable {lq lk lv lkt : Vec Ideal S1x1x128x128 .bf16} {gcol bcol : Vec Ideal S1x128x1 .f32} {grow erow trow : Vec Ideal S1x1x128 .f32}
  {s : Vec Ideal S1x128x128 .f32} {q k v kt sr : M} {gc b gr er tr : Fin 128 → ℝ} (d : Bool)

theorem kq_is (hq : Is (mat lq) q) (hk : Is (mat lk) k) (hkt : Is (mat lkt) kt) : Is (kq lq lk lkt) (dot (tall k q) kt) :=
  dot_256_128 (tall_is hk hq) hkt

theorem decay_is (hg : Is (colm gcol) (fun i _ => gc i)) (hr : Is (rowm grow) (fun _ j => gr j)) : Is (decay d gcol grow) (decayR d gc gr) := by
  cases d
  · exact Is.select (fun i j => le false j i) ge_at (hg.sub hr).exp (is_zero _ _)
  · exact Is.select (fun i j => le true j i) le_at (hg.sub hr).exp (is_zero _ _)

theorem sys_is {c : FVec Ideal S256x128 .f32} {cr : Fin 256 → Fin 128 → ℝ} (hc : Is c cr) (hg : Is (colm gcol) (fun i _ => gc i))
    (hb : Is (colm bcol) (fun i _ => b i)) (hr : Is (rowm grow) (fun _ j => gr j)) :
    Is (sysv d c gcol bcol grow) (sysR d (fun i j => cr (Fin.castLE (by decide) i) j) gc b gr) := by
  have h0 : Is (extractStridedSlice S128x128 ![0, 0] c slices_S256x128_o0_0_S128x128) (fun i j => cr (Fin.castLE (by decide) i) j) := fun i j => by
    rw [← hc]; pointwise; rfl
  cases d
  · exact Is.select (fun i j => lt false j i) gt_at ((h0.mul (decay_is false hg hr)).mul hb) (is_zero _ _)
  · exact Is.select (fun i j => lt true j i) lt_at ((h0.mul (decay_is true hg hr)).mul hb) (is_zero _ _)

theorem score_is {c : FVec Ideal S256x128 .f32} {cr : Fin 256 → Fin 128 → ℝ} (hc : Is c cr) (hg : Is (colm gcol) (fun i _ => gc i))
    (hr : Is (rowm grow) (fun _ j => gr j)) :
    Is (score d c gcol grow) (scoreR d (fun i j => cr ⟨128 + i, by omega⟩ j) gc gr) := by
  have h0 : Is (extractStridedSlice S128x128 ![128, 0] c slices_S256x128_o128_0_S128x128) (fun i j => cr ⟨128 + i, by omega⟩ j) := fun i j => by
    rw [← hc]; pointwise
  exact (h0.mul (decay_is d hg hr)).trunc _

theorem pack_is {x : FVec Ideal S128x128 .f32} {a : M} (h : Is x a) : Is (pack x) (packR a) := by
  have hs : Is (select same x (zero S128x128)) (onR a) := Is.select (fun i j => (i : ℕ) / 64 = j / 64) same_at h (is_zero _ _)
  exact (is_zero _ _).sub ((upper_is hs).add (lower_is hs))

theorem diag_is {p : FVec Ideal S64x128 .f32} {a : Packed} (h : Is p a) : Is (diag p) (diagR a) :=
  (stack_is (h.trunc _) (h.trunc _)).mul (num_at (fun i j => (i : ℕ) / 64 = j / 64) same same_at)

theorem pmul_is {p : FVec Ideal S64x128 .f32} {w : FVec Ideal S128x128 .bf16} {a : Packed} {c : M} (h : Is p a) (hw : Is w c) :
    Is (pmul p w) (dot a c) := dot_64_128 (h.trunc _) hw

theorem grow_is {r : FVec Ideal S64x128 .f32 × FVec Ideal S64x128 .f32} {a : Packed × Packed} (h1 : Is r.1 a.1) (h2 : Is r.2 a.2) :
    Is (grow1 r).1 (growR a).1 ∧ Is (grow1 r).2 (growR a).2 := by
  have hb : Is (both r.1 r.2) (dot (stack a.1 a.2) (diagR a.2)) := dot_128_128 (stack_is (h1.trunc _) (h2.trunc _)) (diag_is h2)
  constructor
  · exact h1.add (by
      have e : (fun i j => dot (stack a.1 a.2) (diagR a.2) (Fin.castLE (by decide) i) j) = dot a.1 (diagR a.2) := by
        funext i j; simp [dot, stack]
      exact e ▸ upper_is hb)
  · have e : (fun (i : Fin 64) j => dot (stack a.1 a.2) (diagR a.2) ⟨64 + i, by omega⟩ j) = dot a.2 (diagR a.2) := by
      funext i j; simp [dot, stack]
    have := lower_is hb
    rw [e] at this
    exact this

theorem inv_is {p : FVec Ideal S64x128 .f32} {a : Packed} (h : Is p a) : Is (inv p) (invR a) := by
  have h0 := grow_is (r := (addf eye p, pmul p (diag p))) (a := ((fun i j => eyeR i j + a i j), dot a (diagR a))) (eye_at.add h) (pmul_is h (diag_is h))
  have h1 := grow_is h0.1 h0.2
  have h2 := grow_is h1.1 h1.2
  have h3 := grow_is h2.1 h2.2
  exact h3.1.add (pmul_is h3.1 (diag_is h3.2))

theorem cross_is {t : FVec Ideal S64x128 .f32} {x : FVec Ideal S128x128 .f32} {a : Packed} {c : M} (h : Is t a) (hx : Is x c) :
    Is (cross t x) (crossR a c) := by
  have ho : Is (num off) (fun i j => if (i : ℕ) / 64 = j / 64 then 0 else 1) := by
    have := num_at (fun i j => ¬ ((i : ℕ) / 64 = j / 64)) off (fun i j => by rw [off_at]; split <;> simp_all)
    intro i j
    rw [this i j]
    congr 1
    by_cases hp : (i : ℕ) / 64 = j / 64 <;> simp [hp]
  exact pmul_is (pmul_is h ((hx.trunc _).mul ho)) (diag_is h)

theorem merge_is {t z : FVec Ideal S64x128 .f32} {a c : Packed} (h : Is t a) (hz : Is z c) : Is (merge d t z) (mergeR d a c) := by
  cases d
  · exact stack_is (Is.select (fun _ j => (j : ℕ) < 64) first_at h (is_zero _ _))
      (Is.select (fun _ j => (j : ℕ) < 64) first_at ((is_zero _ _).sub hz) h)
  · exact stack_is (Is.select (fun _ j => (j : ℕ) < 64) first_at h ((is_zero _ _).sub hz))
      (Is.select (fun _ j => (j : ℕ) < 64) first_at (is_zero _ _) h)

theorem uw_is {x : FVec Ideal S128x128 .f32} {xr : M} (hx : Is x xr) (hk : Is (mat lk) k) (hv : Is (mat lv) v)
    (hg : Is (colm gcol) (fun i _ => gc i)) (hb : Is (colm bcol) (fun i _ => b i)) :
    Is (uw d x lk lv gcol bcol) (uwR d xr k v gc b) :=
  dot_128_256 ((merge_is d (inv_is (pack_is hx)) (cross_is (inv_is (pack_is hx)) hx)).trunc _)
    (wide_is (((hv.ext _).mul hb).trunc _) ((((hk.ext _).mul hb).mul hg.exp).trunc _))

theorem wrote_is {u : FVec Ideal S128x256 .f32} {ur : Fin 128 → Fin 256 → ℝ} (hu : Is u ur) (hs : Is (stm s) sr) : Is (wrote u s) (wroteR ur sr) := by
  have h0 : Is (extractStridedSlice S128x128 ![0, 0] u slices_S128x256_o0_0_S128x128) (fun i j => ur i (Fin.castLE (by decide) j)) := fun i j => by
    rw [← hu]; pointwise; rfl
  have h1 : Is (extractStridedSlice S128x128 ![0, 128] u slices_S128x256_o0_128_S128x128) (fun i j => ur i ⟨128 + j, by omega⟩) := fun i j => by
    rw [← hu]; pointwise
  exact (h0.sub (dot_128_128 (h1.trunc _) (hs.trunc _))).trunc _

theorem reads_is {w qk : FVec Ideal S128x128 .bf16} {wr qkr : M} (hw : Is w wr) (hqk : Is qk qkr) (hq : Is (mat lq) q)
    (hg : Is (colm gcol) (fun i _ => gc i)) (hs : Is (stm s) sr) : Is (reads w qk lq gcol s) (readsR wr qkr q gc sr) :=
  dot_256_long (wide_is (((hq.ext _).mul hg.exp).trunc _) hqk) (tall_is (hs.trunc _) hw)

theorem after_is {w : FVec Ideal S128x128 .bf16} {wr : M} (hw : Is w wr) (hkt : Is (mat lkt) kt) (he : Is (rowm erow) (fun _ j => er j))
    (ht : Is (rowm trow) (fun _ j => tr j)) (hs : Is (stm s) sr) : Is (after w lkt erow trow s) (afterR wr kt er tr sr) :=
  (hs.mul ht).add (dot_128_128 (((hkt.ext _).mul he).trunc _) hw)

end

end Cert.KernelIdeal.Chain

end
-- ==== Proof.Inverse.lean ====
/- The packed doubling and the merge give the inverse of the whole system, and with it the block's rows, what its queries read and the state after it
   are those of the token-by-token recurrence. -/
module

public import proofs.«01_k».proof.Proof.Values

@[expose] public section

set_option maxRecDepth 16384

noncomputable section

namespace Cert.KernelIdeal.Chain

open Cert.Delta

/-- A packed block laid on the diagonal. -/
theorem diagR_apply (p : Packed) (i j : Fin 128) : diagR p i j = if (i : ℕ) / 64 = j / 64 then p ⟨i % 64, by omega⟩ j else 0 := by
  unfold diagR stack
  by_cases h : (i : ℕ) / 64 = j / 64
  · rw [if_pos h, if_pos h, mul_one]
    split
    · congr 2; omega
    · congr 2; omega
  · rw [if_neg h, if_neg h, mul_zero]

theorem diagR_mul (p q : Packed) : diagR (dot p (diagR q)) = diagR p * diagR q := by
  ext i j
  rw [Matrix.mul_apply, diagR_apply]
  by_cases h : (i : ℕ) / 64 = j / 64
  · rw [if_pos h]
    show (∑ l, p _ l * diagR q l j) = _
    refine Finset.sum_congr rfl fun l _ => ?_
    rw [diagR_apply, diagR_apply]
    by_cases hl : (l : ℕ) / 64 = j / 64
    · rw [if_pos hl, if_pos (by omega)]
    · rw [if_neg hl, mul_zero, mul_zero]
  · rw [if_neg h]
    refine (Finset.sum_eq_zero fun l _ => ?_).symm
    rw [diagR_apply, diagR_apply]
    by_cases hl : (l : ℕ) / 64 = j / 64
    · rw [if_neg (by omega), zero_mul]
    · rw [if_neg hl, mul_zero]

theorem diagR_add (p q : Packed) : diagR (fun i j => p i j + q i j) = diagR p + diagR q := by
  ext i j
  rw [Matrix.add_apply, diagR_apply, diagR_apply, diagR_apply]
  split <;> simp

theorem diagR_eye : diagR eyeR = 1 := by
  ext i j
  rw [diagR_apply, eyeR, Matrix.one_apply]
  by_cases h : (i : ℕ) / 64 = j / 64
  · rw [if_pos h]
    refine if_congr ?_ rfl rfl
    simp only [Fin.ext_iff]; omega
  · rw [if_neg h, if_neg (fun e => h (by rw [e]))]

theorem diagR_pack (x : M) : diagR (packR x) = - (onR x : M) := by
  ext i j
  rw [diagR_apply, Matrix.neg_apply]
  unfold packR onR
  by_cases h : (i : ℕ) / 64 = j / 64
  · rw [if_pos h, if_pos h]
    by_cases hi : (i : ℕ) < 64
    · rw [if_pos (by simp only [Fin.val_castLE]; omega), if_neg (by simp only; omega)]
      have : (Fin.castLE (by decide) (⟨i % 64, by omega⟩ : Fin 64) : Fin 128) = i := by ext; simp only [Fin.val_castLE]; omega
      rw [this]; ring
    · rw [if_neg (by simp only [Fin.val_castLE]; omega), if_pos (by simp only; omega)]
      have : (⟨64 + (i % 64 : ℕ), by omega⟩ : Fin 128) = i := by ext; simp only; omega
      rw [this]; ring
  · rw [if_neg h, if_neg h, neg_zero]

theorem diagR_inv (p : Packed) : diagR (invR p) = grow (diagR p) 5 := by
  have step : ∀ (r : Packed × Packed) (n : ℕ), diagR r.1 = grow (diagR p) n → diagR r.2 = diagR p ^ 2 ^ (n + 1) →
      diagR (growR r).1 = grow (diagR p) (n + 1) ∧ diagR (growR r).2 = diagR p ^ 2 ^ (n + 1 + 1) := by
    intro r n h1 h2
    constructor
    · show diagR (fun i j => r.1 i j + dot r.1 (diagR r.2) i j) = _
      rw [diagR_add, diagR_mul, h1, h2]; rfl
    · show diagR (dot r.2 (diagR r.2)) = _
      rw [diagR_mul, h2, ← pow_add, ← two_mul, ← pow_succ']
  have h0 := step ((fun i j => eyeR i j + p i j), dot p (diagR p)) 0 (by rw [diagR_add, diagR_eye]; rfl)
    (by show diagR (dot p (diagR p)) = _; rw [diagR_mul, zero_add, pow_one, pow_two])
  have h1 := step _ _ h0.1 h0.2
  have h2 := step _ _ h1.1 h1.2
  have h3 := step _ _ h2.1 h2.2
  show diagR (fun i j => _ + dot _ (diagR _) i j) = _
  rw [diagR_add, diagR_mul, h3.1, h3.2]; rfl

/-- The entries off the diagonal blocks of 64. -/
def offR (x : M) : M := fun i j => x i j * (if (i : ℕ) / 64 = j / 64 then 0 else 1)

theorem on_off (x : M) : x = onR x + offR x := by
  ext i j
  show x i j = onR x i j + offR x i j
  unfold onR offR
  split <;> simp

theorem dot_off (t : Packed) (x : M) (i j : Fin 128) : (diagR t * offR x) i j = ∑ l : Fin 128, (if (i : ℕ) / 64 = l / 64 then t ⟨i % 64, by omega⟩ l * offR x l j else 0) := by
  rw [Matrix.mul_apply]
  refine Finset.sum_congr rfl fun l _ => ?_
  rw [diagR_apply]
  split <;> simp

/-- In the half that the merge fills. -/
def Far (d : Bool) (i j : Fin 128) : Prop := match d with | false => 64 ≤ (i : ℕ) ∧ (j : ℕ) < 64 | true => (i : ℕ) < 64 ∧ 64 ≤ (j : ℕ)
instance (d : Bool) (i j : Fin 128) : Decidable (Far d i j) := by unfold Far; cases d <;> infer_instance

/-- Half of an entry off the diagonal: in the lower half forward, in the upper half backward. -/
theorem merge_eq (d : Bool) (x : M) (hx : ∀ i j, x i j ≠ 0 → lt d j i) (t : Packed) :
    (mergeR d t (crossR t x) : M) = diagR t - diagR t * offR x * diagR t := by
  have hoff : ∀ l m : Fin 128, offR x l m ≠ 0 → lt d m l ∧ (l : ℕ) / 64 ≠ m / 64 := by
    intro l m h
    unfold offR at h
    refine ⟨hx l m (left_ne_zero_of_mul h), fun e => ?_⟩
    rw [if_pos e, mul_zero] at h
    exact h rfl
  have key : ∀ i j : Fin 128, (diagR t * offR x * diagR t) i j
      = if Far d i j then crossR t x ⟨i % 64, by omega⟩ j else 0 := by
    intro i j
    rw [Matrix.mul_apply]
    have e1 : ∀ l : Fin 128, (diagR t * offR x) i l * diagR t l j
        = if Far d i j then
            dot t (offR x) ⟨i % 64, by omega⟩ l * diagR t l j else 0 := by
      intro l
      by_cases hl : (l : ℕ) / 64 = j / 64
      swap
      · rw [diagR_apply, if_neg hl, mul_zero, mul_zero, ite_self]
      split
      · rename_i hc
        congr 1
        rw [dot_off]
        show _ = ∑ n, t _ n * offR x n l
        refine Finset.sum_congr rfl fun n _ => ?_
        split
        · rfl
        · rename_i hn
          by_contra hne
          have hne' : offR x n l ≠ 0 := fun e => hne (by rw [e, mul_zero])
          obtain ⟨h1, h2⟩ := hoff n l hne'
          cases d <;> simp only [lt, Far, Fin.lt_def] at h1 hc <;> omega
      · rename_i hc
        rw [dot_off]
        rw [Finset.sum_eq_zero, zero_mul]
        intro n _
        split
        · rename_i hn
          by_contra hne
          obtain ⟨h1, h2⟩ := hoff n l (right_ne_zero_of_mul hne)
          cases d <;> simp only [lt, Far, Fin.lt_def] at h1 hc <;> omega
        · rfl
    rw [Finset.sum_congr rfl fun l _ => e1 l]
    split
    · rfl
    · exact Finset.sum_const_zero
  ext i j
  rw [Matrix.sub_apply, key, diagR_apply]
  have hi := i.isLt
  have hj := j.isLt
  have same : ∀ h : (i : ℕ) < 64, (⟨i, h⟩ : Fin 64) = ⟨i % 64, by omega⟩ := fun h => by ext; simp only; omega
  have same' : ∀ h : ¬ (i : ℕ) < 64, (⟨i - 64, by omega⟩ : Fin 64) = ⟨i % 64, by omega⟩ := fun h => by ext; simp only; omega
  cases d <;> by_cases h1 : (i : ℕ) < 64 <;> by_cases h2 : (j : ℕ) < 64
  · rw [if_pos (show (i : ℕ) / 64 = j / 64 by omega), if_neg (show ¬ Far false i j by simp only [Far]; omega)]
    simp only [mergeR, stack, dif_pos h1, if_pos h2, same h1, sub_zero]
  · rw [if_neg (show ¬ (i : ℕ) / 64 = j / 64 by omega), if_neg (show ¬ Far false i j by simp only [Far]; omega)]
    simp only [mergeR, stack, dif_pos h1, if_neg h2, sub_zero]
  · rw [if_neg (show ¬ (i : ℕ) / 64 = j / 64 by omega), if_pos (show Far false i j by simp only [Far]; omega)]
    simp only [mergeR, stack, dif_neg h1, if_pos h2, same' h1]
  · rw [if_pos (show (i : ℕ) / 64 = j / 64 by omega), if_neg (show ¬ Far false i j by simp only [Far]; omega)]
    simp only [mergeR, stack, dif_neg h1, if_neg h2, same' h1, sub_zero]
  · rw [if_pos (show (i : ℕ) / 64 = j / 64 by omega), if_neg (show ¬ Far true i j by simp only [Far]; omega)]
    simp only [mergeR, stack, dif_pos h1, if_pos h2, same h1, sub_zero]
  · rw [if_neg (show ¬ (i : ℕ) / 64 = j / 64 by omega), if_pos (show Far true i j by simp only [Far]; omega)]
    simp only [mergeR, stack, dif_pos h1, if_neg h2, same h1]
  · rw [if_neg (show ¬ (i : ℕ) / 64 = j / 64 by omega), if_neg (show ¬ Far true i j by simp only [Far]; omega)]
    simp only [mergeR, stack, dif_neg h1, if_pos h2, sub_zero]
  · rw [if_pos (show (i : ℕ) / 64 = j / 64 by omega), if_neg (show ¬ Far true i j by simp only [Far]; omega)]
    simp only [mergeR, stack, dif_neg h1, if_neg h2, same' h1, sub_zero]

/-- A position within its diagonal block, counted in the direction's order. -/
def weight (d : Bool) (i : Fin 128) : ℕ := match d with | false => i % 64 | true => 63 - i % 64

theorem inverse (d : Bool) (x : M) (hx : ∀ i j, x i j ≠ 0 → lt d j i) :
    (1 + x) * (mergeR d (invR (packR x)) (crossR (invR (packR x)) x) : M) = 1 := by
  rw [merge_eq d x hx, diagR_inv, diagR_pack]
  have hon : ∀ i j : Fin 128, onR x i j ≠ 0 → (i : ℕ) / 64 = j / 64 ∧ lt d j i := by
    intro i j h
    unfold onR at h
    split at h
    · exact ⟨by assumption, hx i j h⟩
    · exact absurd rfl h
  have hP : (1 - -(onR x : M)) * grow (-(onR x : M)) 5 = 1 := by
    rw [grow_spec]
    have : (-(onR x : M)) ^ 2 ^ (5 + 1) = 0 := by
      refine pow_zero_of_weight _ (weight d) (fun i => by unfold weight; cases d <;> simp only <;> omega) (fun i j h => ?_)
      obtain ⟨h1, h2⟩ := hon i j (by rw [Matrix.neg_apply] at h; exact neg_ne_zero.mp h)
      unfold weight
      cases d <;> simp only [lt, Fin.lt_def] at h2 ⊢ <;> omega
    rw [this, sub_zero]
  have hT : ∀ i j : Fin 128, grow (-(onR x : M)) 5 i j ≠ 0 → (i : ℕ) / 64 = j / 64 := by
    intro i j h
    rw [← diagR_pack, ← diagR_inv, diagR_apply] at h
    by_contra hn
    rw [if_neg hn] at h
    exact h rfl
  have hY : offR x * grow (-(onR x : M)) 5 * offR x = 0 := by
    have hoff : ∀ i j : Fin 128, offR x i j ≠ 0 → lt d j i ∧ (i : ℕ) / 64 ≠ j / 64 := by
      intro l m h
      unfold offR at h
      refine ⟨hx l m (left_ne_zero_of_mul h), fun e => ?_⟩
      rw [if_pos e, mul_zero] at h
      exact h rfl
    cases d
    · refine off_zero _ _ (fun i => i / 64) 1 0 (by decide) (fun i j h => ?_) hT
      obtain ⟨h1, h2⟩ := hoff i j h
      simp only [lt, Fin.lt_def] at h1
      constructor <;> omega
    · refine off_zero _ _ (fun i => i / 64) 0 1 (by decide) (fun i j h => ?_) hT
      obtain ⟨h1, h2⟩ := hoff i j h
      simp only [lt, Fin.lt_def] at h1
      constructor <;> omega
  have := merge_spec _ _ _ hP hY
  rw [sub_neg_eq_add, add_assoc, ← on_off] at this
  exact this

end Cert.KernelIdeal.Chain

end
-- ==== Proof.Block.lean ====
/- One block of 128 tokens against the recurrence: from the state before the block, the block stores what each token reads and the state after it. -/
module

public import proofs.«01_k».proof.Proof.Inverse

@[expose] public section

set_option maxRecDepth 16384

noncomputable section

namespace Cert.KernelIdeal.Chain

open Cert.KernelIdeal Cert.KernelIdeal.Gen Idealize.ShloMosaic Cert.Delta

/-- The order in which a direction visits the rows of a block. -/
def order (d : Bool) : Equiv.Perm (Fin 128) := match d with | false => Equiv.refl _ | true => Fin.revPerm

theorem lt_order (d : Bool) (i j : Fin 128) : lt d j i ↔ order d j < order d i := by
  cases d
  · rfl
  · exact (Fin.rev_lt_rev (i := j) (j := i)).symm
theorem le_order (d : Bool) (i j : Fin 128) : le d j i ↔ order d j ≤ order d i := by
  cases d
  · rfl
  · exact (Fin.rev_le_rev (i := j) (j := i)).symm

section
variable (d : Bool) (q k v : ℕ → Fin 128 → ℝ) (b g : ℕ → ℝ) (n0 : ℕ)

/-- The block's rows of a sequence. -/
def blk (x : ℕ → Fin 128 → ℝ) : M := fun i e => x (n0 + order d i) e
/-- The decays' running sums. -/
def run : Fin 128 → ℝ := fun i => cum g n0 (order d i + 1)

/-- The system the block solves, as the stages compute it. -/
def sysB : M := sysR d (fun i j => dot (tall (blk d n0 k) (blk d n0 q)) (fun e j => blk d n0 k j e) (Fin.castLE (by decide) i) j)
  (run d g n0) (fun i => b (n0 + order d i)) (run d g n0)

theorem sysB_eq : sysB d q k b g n0 = sys (order d) k b g n0 := by
  funext i j
  unfold sysB sysR sys decayR
  by_cases h : lt d j i
  · have hle : le d j i := (le_order d i j).mpr ((lt_order d i j).mp h).le
    rw [if_pos h, if_pos hle, if_pos ((lt_order d i j).mp h)]
    congr 2
    simp [dot, tall, blk]
  · rw [if_neg h, if_neg (fun h' => h ((lt_order d i j).mpr h'))]

/-- The rows the block writes, as the stages compute them. -/
def rowsB (S : M) : M := wroteR (uwR d (sysB d q k b g n0) (blk d n0 k) (blk d n0 v) (run d g n0) (fun i => b (n0 + order d i))) S

theorem rowsB_eq (S : M) : ∃ T : M, (1 + sys (order d) k b g n0) * T = 1 ∧ rowsB d q k v b g n0 S = T * rhs (order d) k v b g n0 S := by
  have hx : ∀ i j, sysB d q k b g n0 i j ≠ 0 → lt d j i := fun i j h => by
    by_contra hn
    exact h (by unfold sysB sysR; rw [if_neg hn])
  refine ⟨_, sysB_eq d q k b g n0 ▸ inverse d _ hx, ?_⟩
  rw [← sysB_eq d q k b g n0]
  ext i e
  rw [Matrix.mul_apply]
  unfold rowsB wroteR uwR
  generalize mergeR d (invR (packR (sysB d q k b g n0))) (crossR (invR (packR (sysB d q k b g n0))) (sysB d q k b g n0)) = T
  have e1 : dot T (wide (fun i j => blk d n0 v i j * b (n0 + order d i)) (fun i j => blk d n0 k i j * b (n0 + order d i) * Real.exp (run d g n0 i)))
      i (Fin.castLE (by decide) e) = ∑ j, T i j * (b (n0 + order d j) * v (n0 + order d j) e) := by
    refine Finset.sum_congr rfl fun j _ => ?_
    simp only [wide, Fin.val_castLE, Fin.is_lt, ↓reduceDIte, blk]
    ring
  have e2 : ∀ a : Fin 128, dot T (wide (fun i j => blk d n0 v i j * b (n0 + order d i)) (fun i j => blk d n0 k i j * b (n0 + order d i) * Real.exp (run d g n0 i)))
      i ⟨128 + a, by omega⟩ = ∑ j, T i j * (b (n0 + order d j) * Real.exp (cum g n0 (order d j + 1)) * k (n0 + order d j) a) := by
    intro a
    refine Finset.sum_congr rfl fun j _ => ?_
    have h1 : ¬ (128 + (a : ℕ) < 128) := by omega
    have h2 : (⟨128 + (a : ℕ) - 128, by omega⟩ : Fin 128) = a := by ext; simp
    simp only [wide, h1, ↓reduceDIte, h2, blk, run]
    ring
  rw [e1]
  show _ - ∑ a : Fin 128, _ * S a e = _
  simp only [e2]
  simp only [rhs, mul_sub, Finset.sum_sub_distrib, Finset.sum_mul, Finset.mul_sum]
  congr 1
  rw [Finset.sum_comm]
  exact Finset.sum_congr rfl fun j _ => Finset.sum_congr rfl fun a _ => by ring

end

section
variable {lq lk lv lkt : Vec Ideal S1x1x128x128 .bf16} {gcol bcol : Vec Ideal S1x128x1 .f32} {grow erow trow : Vec Ideal S1x1x128 .f32}
  {s : Vec Ideal S1x128x128 .f32} {q k v : ℕ → Fin 128 → ℝ} {b g : ℕ → ℝ} {n0 : ℕ} {d : Bool}

theorem rows_is (hq : ∀ i e, lq (ix4 0 0 i e) = ((q (n0 + order d i) e : ℝ) : EReal)) (hk : ∀ i e, lk (ix4 0 0 i e) = ((k (n0 + order d i) e : ℝ) : EReal))
    (hv : ∀ i e, lv (ix4 0 0 i e) = ((v (n0 + order d i) e : ℝ) : EReal)) (hkt : ∀ e j, lkt (ix4 0 0 e j) = ((k (n0 + order d j) e : ℝ) : EReal))
    (hgc : ∀ i, gcol (ix3 0 i 0) = ((cum g n0 (order d i + 1) : ℝ) : EReal)) (hb : ∀ i, bcol (ix3 0 i 0) = ((b (n0 + order d i) : ℝ) : EReal))
    (hgr : ∀ i, grow (ix3 0 0 i) = ((cum g n0 (order d i + 1) : ℝ) : EReal))
    (hs : ∀ a e, s (ix3 0 a e) = ((state k v b g n0 a e : ℝ) : EReal)) :
    Is (rowsOf d lq lk lv lkt gcol bcol grow s) (rowsB d q k v b g n0 (state k v b g n0)) := by
  have Hq : Is (mat lq) (blk d n0 q) := mat_is lq _ hq
  have Hk : Is (mat lk) (blk d n0 k) := mat_is lk _ hk
  have Hv : Is (mat lv) (blk d n0 v) := mat_is lv _ hv
  have Hkt : Is (mat lkt) (fun e j => blk d n0 k j e) := mat_is lkt _ hkt
  have Hg := colm_is gcol (run d g n0) hgc
  have Hb := colm_is bcol (fun i => b (n0 + order d i)) hb
  have Hr := rowm_is grow (run d g n0) hgr
  have Hs : Is (stm s) (state k v b g n0) := stm_is s _ hs
  exact wrote_is (uw_is d (sys_is d (kq_is Hq Hk Hkt) Hg Hb Hr) Hk Hv Hg Hb) Hs

theorem out_is (hq : ∀ i e, lq (ix4 0 0 i e) = ((q (n0 + order d i) e : ℝ) : EReal)) (hk : ∀ i e, lk (ix4 0 0 i e) = ((k (n0 + order d i) e : ℝ) : EReal))
    (hv : ∀ i e, lv (ix4 0 0 i e) = ((v (n0 + order d i) e : ℝ) : EReal)) (hkt : ∀ e j, lkt (ix4 0 0 e j) = ((k (n0 + order d j) e : ℝ) : EReal))
    (hgc : ∀ i, gcol (ix3 0 i 0) = ((cum g n0 (order d i + 1) : ℝ) : EReal)) (hb : ∀ i, bcol (ix3 0 i 0) = ((b (n0 + order d i) : ℝ) : EReal))
    (hgr : ∀ i, grow (ix3 0 0 i) = ((cum g n0 (order d i + 1) : ℝ) : EReal))
    (hs : ∀ a e, s (ix3 0 a e) = ((state k v b g n0 a e : ℝ) : EReal)) (i e : Fin 128) :
    outOf d lq lk lv lkt gcol bcol grow s (ix4 0 0 i e) = ((read q k v b g (n0 + order d i) e : ℝ) : EReal) := by
  have Hq : Is (mat lq) (blk d n0 q) := mat_is lq _ hq
  have Hk : Is (mat lk) (blk d n0 k) := mat_is lk _ hk
  have Hkt : Is (mat lkt) (fun e j => blk d n0 k j e) := mat_is lkt _ hkt
  have Hg := colm_is gcol (run d g n0) hgc
  have Hr := rowm_is grow (run d g n0) hgr
  have Hs : Is (stm s) (state k v b g n0) := stm_is s _ hs
  have Hw := rows_is hq hk hv hkt hgc hb hgr hs
  have Ho := (reads_is Hw (score_is d (kq_is Hq Hk Hkt) Hg Hr) Hq Hg Hs).trunc bitsLt_bf16_f32
  obtain ⟨T, hT, hD⟩ := rowsB_eq d q k v b g n0 (state k v b g n0)
  rw [read_of_inverse T _ hT hD]
  have e1 : outOf d lq lk lv lkt gcol bcol grow s (ix4 0 0 i e) = truncf (F := Ideal) .bf16 (reads (rowsOf d lq lk lv lkt gcol bcol grow s)
      (score d (kq lq lk lkt) gcol grow) lq gcol s) bitsLt_bf16_f32 (ix2 i e) := by
    unfold outOf
    generalize truncf (F := Ideal) .bf16 (reads _ _ lq gcol s) bitsLt_bf16_f32 = z
    pointwise
  rw [e1, Ho]
  congr 1
  unfold readsR dot
  rw [Fin.sum_univ_two_halves 128 128 rfl]
  congr 1
  · refine Finset.sum_congr rfl fun j _ => ?_
    simp only [wide, tall, scoreR, decayR]
    have h1 : ¬ (128 + (j : ℕ) < 128) := by omega
    have h2 : (⟨128 + (j : ℕ) - 128, by omega⟩ : Fin 128) = j := by ext; simp
    have h3 : ¬ (128 + (i : ℕ) < 128) := by omega
    have h4 : (⟨128 + (i : ℕ) - 128, by omega⟩ : Fin 128) = i := by ext; simp
    simp only [h1, ↓reduceDIte, h2, h3, h4, le_order, run, blk]
    split <;> simp

theorem after_block (hq : ∀ i e, lq (ix4 0 0 i e) = ((q (n0 + order d i) e : ℝ) : EReal)) (hk : ∀ i e, lk (ix4 0 0 i e) = ((k (n0 + order d i) e : ℝ) : EReal))
    (hv : ∀ i e, lv (ix4 0 0 i e) = ((v (n0 + order d i) e : ℝ) : EReal)) (hkt : ∀ e j, lkt (ix4 0 0 e j) = ((k (n0 + order d j) e : ℝ) : EReal))
    (hgc : ∀ i, gcol (ix3 0 i 0) = ((cum g n0 (order d i + 1) : ℝ) : EReal)) (hb : ∀ i, bcol (ix3 0 i 0) = ((b (n0 + order d i) : ℝ) : EReal))
    (hgr : ∀ i, grow (ix3 0 0 i) = ((cum g n0 (order d i + 1) : ℝ) : EReal))
    (her : ∀ i, erow (ix3 0 0 i) = ((Real.exp (cum g n0 128 - cum g n0 (order d i + 1)) : ℝ) : EReal))
    (htr : ∀ i, trow (ix3 0 0 i) = ((Real.exp (cum g n0 128) : ℝ) : EReal))
    (hs : ∀ a e, s (ix3 0 a e) = ((state k v b g n0 a e : ℝ) : EReal)) (a e : Fin 128) :
    stateOf d lq lk lv lkt gcol bcol grow erow trow s (ix3 0 a e) = ((state k v b g (n0 + 128) a e : ℝ) : EReal) := by
  have Hkt : Is (mat lkt) (fun e j => blk d n0 k j e) := mat_is lkt _ hkt
  have Hs : Is (stm s) (state k v b g n0) := stm_is s _ hs
  have He := rowm_is erow _ her
  have Ht := rowm_is trow _ htr
  have Ho := after_is (rows_is hq hk hv hkt hgc hb hgr hs) Hkt He Ht Hs
  obtain ⟨T, hT, hD⟩ := rowsB_eq d q k v b g n0 (state k v b g n0)
  rw [after_of_inverse T _ hT hD]
  have e1 : stateOf d lq lk lv lkt gcol bcol grow erow trow s (ix3 0 a e)
      = after (rowsOf d lq lk lv lkt gcol bcol grow s) lkt erow trow s (ix2 a e) := by
    unfold stateOf
    generalize after (rowsOf d lq lk lv lkt gcol bcol grow s) lkt erow trow s = z
    pointwise
  rw [e1, Ho]
  rfl

end

end Cert.KernelIdeal.Chain

end
-- ==== Proof.Pieces.lean ====
/- The stores of the kernel's body at one grid point, as lists: the 64 states written over the carried scratch, the 32 blocks of each
   output. Each store holds the value of `Chain` at the blocks that its head, its direction and its tokens name. -/
module

public import proofs.«01_k».proof.Proof.Chain
public import proofs.«01_k».proof.Proof.Gen.KernelIdeal.Frame.RunB
import all proofs.«01_k».proof.Proof.Gen.KernelIdeal.Frame.RunA
import all proofs.«01_k».proof.Proof.Gen.KernelIdeal.Frame.RunB
import all proofs.«01_k».proof.Proof.Gen.KernelIdeal.Skeleton

@[expose] public section

set_option maxRecDepth 16384

noncomputable section

namespace Cert.KernelIdeal.Pieces

open Cert.KernelIdeal Cert.KernelIdeal.Gen Cert.KernelIdeal.Chain Idealize.ShloMosaic Idealize.ShloMosaic.TcCoe Idealize.SL.Sem

variable {F : FTy → Type} [FloatOps F]

/-- The store number `k` of the states: its group of tokens, its head, its direction. -/
def grp (k : ℕ) : ℕ := k / 16 % 4
def hd (k : ℕ) : ℕ := k / 2 % 8
def bwd (k : ℕ) : Bool := Nat.beq (k % 2) 1

/-- The first token of a group, in the direction's block: the backward direction takes the groups from the last. -/
def tok (d : Bool) (o : ℕ) : ℕ := match d with | false => 128 * (o % 4) | true => 128 * (3 - o % 4)

theorem tok_le (d : Bool) (o : ℕ) : tok d o ≤ 384 := by
  cases d <;> simp only [tok] <;> omega

/-- A direction's place among the sixteen states. -/
def slot (d : Bool) (h : ℕ) : ℕ := match d with | false => h % 8 | true => 8 + h % 8

theorem slot_lt (d : Bool) (h : ℕ) : slot d h < 16 := by
  cases d <;> simp only [slot] <;> omega

/-- What one direction loads from at a grid point: queries, keys, values, transposed keys, columns and rows of the gates. -/
structure Inputs (F : FTy → Type) where
  q : Memref sig .tc .vmem S1x8x512x128 .bf16
  hq : q.IsWhole
  k : Memref sig .tc .vmem S1x8x512x128 .bf16
  hk : k.IsWhole
  v : Memref sig .tc .vmem S1x8x512x128 .bf16
  hv : v.IsWhole
  kt : Memref sig .tc .vmem S1x8x128x512 .bf16
  hkt : kt.IsWhole
  col : Memref sig .tc .vmem S1x512x128 .f32
  hcol : col.IsWhole
  row : Memref sig .tc .vmem S1x48x512 .f32
  hrow : row.IsWhole
  xq : Vec F S1x8x512x128 .bf16
  xk : Vec F S1x8x512x128 .bf16
  xv : Vec F S1x8x512x128 .bf16
  xkt : Vec F S1x8x128x512 .bf16
  xcol : Vec F S1x512x128 .f32
  xrow : Vec F S1x48x512 .f32

theorem fits_tile (h t : ℕ) (ht : t ≤ 384) :
    ∀ a, (![0, h % 8, t, 0] : Fin 4 → ℕ) a + S1x1x128x128.size a ≤ S1x8x512x128.size a := by
  intro a
  fin_cases a <;> simp [S1x1x128x128, S1x8x512x128] <;> omega

theorem fits_turn (h t : ℕ) (ht : t ≤ 384) :
    ∀ a, (![0, h % 8, 0, t] : Fin 4 → ℕ) a + S1x1x128x128.size a ≤ S1x8x128x512.size a := by
  intro a
  fin_cases a <;> simp [S1x1x128x128, S1x8x128x512] <;> omega

theorem fits_col (t j : ℕ) (ht : t ≤ 384) (hj : j < 128) :
    ∀ a, (![0, t, j] : Fin 3 → ℕ) a + S1x128x1.size a ≤ S1x512x128.size a := by
  intro a
  fin_cases a <;> simp [S1x128x1, S1x512x128] <;> omega

theorem fits_row (t j : ℕ) (ht : t ≤ 384) (hj : j < 48) :
    ∀ a, (![0, j, t] : Fin 3 → ℕ) a + S1x1x128.size a ≤ S1x48x512.size a := by
  intro a
  fin_cases a <;> simp [S1x1x128, S1x48x512] <;> omega

theorem fits_state (j : ℕ) (hj : j < 16) :
    ∀ a, (![j, 0, 0] : Fin 3 → ℕ) a + S1x128x128.size a ≤ S16x128x128.size a := by
  intro a
  fin_cases a <;> simp [S1x128x128, S16x128x128] <;> omega

/-- One block of 128 tokens of one head. -/
def tile (a : Memref sig .tc .vmem S1x8x512x128 .bf16) (ha : a.IsWhole) (x : Vec F S1x8x512x128 .bf16) (d : Bool) (h o : ℕ) :
    Vec F S1x1x128x128 .bf16 :=
  View.readAt (Elt F) a.view (Rect.unit (s := S1x8x512x128) ![0, h % 8, tok d o, 0] S1x1x128x128.size (fits_tile h _ (tok_le d o))).toLoadRect
    (ha.unread x)

/-- The same of the transposed keys. -/
def turn (I : Inputs F) (d : Bool) (h o : ℕ) : Vec F S1x1x128x128 .bf16 :=
  View.readAt (Elt F) I.kt.view
    (Rect.unit (s := S1x8x128x512) ![0, h % 8, 0, tok d o] S1x1x128x128.size (fits_turn h _ (tok_le d o))).toLoadRect (I.hkt.unread I.xkt)

theorem lane_lt (g : ℕ) (d : Bool) (h : ℕ) (hg : g < 3) : g * 16 + slot d h < 48 := by
  have := slot_lt d h
  omega

/-- One column of the gates at 128 tokens: group `g`, the direction's head. -/
def lane (I : Inputs F) (d : Bool) (h o g : ℕ) (hg : g < 3) : Vec F S1x128x1 .f32 :=
  View.readAt (Elt F) I.col.view
    (Rect.unit (s := S1x512x128) ![0, tok d o, g * 16 + slot d h] S1x128x1.size
      (fits_col _ _ (tok_le d o) ((lane_lt g d h hg).trans (by decide)))).toLoadRect (I.hcol.unread I.xcol)

/-- One row of the gates at 128 tokens. -/
def line (I : Inputs F) (d : Bool) (h o g : ℕ) (hg : g < 3) : Vec F S1x1x128 .f32 :=
  View.readAt (Elt F) I.row.view
    (Rect.unit (s := S1x48x512) ![0, g * 16 + slot d h, tok d o] S1x1x128.size (fits_row _ _ (tok_le d o) (lane_lt g d h hg))).toLoadRect
    (I.hrow.unread I.xrow)

/-- The rows one head writes in one direction at one group of tokens, over the state before. -/
def rowsAt (I : Inputs F) (d : Bool) (h o : ℕ) (s : Vec F S1x128x128 .f32) : FVec F S128x128 .bf16 :=
  rowsOf d (tile I.q I.hq I.xq d h o) (tile I.k I.hk I.xk d h o) (tile I.v I.hv I.xv d h o) (turn I d h o)
    (lane I d h o 0 (by decide)) (lane I d h o 1 (by decide)) (line I d h o 0 (by decide)) s

/-- The output block; the body loads the state once for the rows and once more for the queries. -/
def outAt (I : Inputs F) (d : Bool) (h o : ℕ) (s s' : Vec F S1x128x128 .f32) : FVec F S1x1x128x128 .bf16 :=
  shapeCast S1x1x128x128
    (truncf .bf16
      (reads (rowsAt I d h o s)
        (score d (kq (tile I.q I.hq I.xq d h o) (tile I.k I.hk I.xk d h o) (turn I d h o)) (lane I d h o 0 (by decide))
          (line I d h o 0 (by decide)))
        (tile I.q I.hq I.xq d h o) (lane I d h o 0 (by decide)) s') bitsLt_bf16_f32)
    shapeCasts_S128x128_S1x1x128x128

/-- The state after the group; the body loads the state once for the rows and once more for what is left of it. -/
def stateAt (I : Inputs F) (d : Bool) (h o : ℕ) (s s' : Vec F S1x128x128 .f32) : FVec F S1x128x128 .f32 :=
  shapeCast S1x128x128
    (after (rowsAt I d h o s) (turn I d h o) (line I d h o 1 (by decide)) (line I d h o 2 (by decide)) s')
    shapeCasts_S128x128_S1x128x128

/-- The place of one state in the scratch. -/
def place (d : Bool) (h : ℕ) : Rect S16x128x128 := Rect.unit (s := S16x128x128) ![slot d h, 0, 0] S1x128x128.size (fits_state _ (slot_lt d h))

/-- The three loads of one state: four stores are prepared together, their rows one such round ahead. -/
def early (k : ℕ) : ℕ := 4 * (k / 4 - 1)
def round (k : ℕ) : ℕ := 4 * (k / 4)

/-- The first `k` states stored, newest first, over the stores `init`; `load` is what a load of one state reads after given stores. -/
def states (I : Bool → Inputs F) (init : List (View.Piece (Elt F) S16x128x128 .f32))
    (load : ℕ → List (View.Piece (Elt F) S16x128x128 .f32) → Vec F S1x128x128 .f32) : ℕ → List (View.Piece (Elt F) S16x128x128 .f32)
  | 0 => init
  | k + 1 =>
    ⟨place (bwd k) (hd k), stateAt (I (bwd k)) (bwd k) (hd k) (grp k) (load k ((states I init load k).drop (k - early k)))
      (load k (states I init load k))⟩ :: states I init load k

/-- The blocks of one direction's output stored after `n` of its states. -/
def outs (d : Bool) (I : Bool → Inputs F) (init : List (View.Piece (Elt F) S16x128x128 .f32))
    (load : ℕ → List (View.Piece (Elt F) S16x128x128 .f32) → Vec F S1x128x128 .f32) : ℕ → List (View.Piece (Elt F) S1x8x512x128 .bf16)
  | 0 => []
  | n + 1 =>
    ⟨Rect.unit (s := S1x8x512x128) ![0, n % 8, tok d (n / 8), 0] S1x1x128x128.size (fits_tile n _ (tok_le d _)),
      outAt (I d) d n (n / 8) (load (2 * n + d.toNat) (states I init load (early (2 * n + d.toNat))))
        (load (2 * n + d.toNat) (states I init load (round (2 * n + d.toNat))))⟩ :: outs d I init load n

/-- What a load of one state reads when every state has been stored. -/
def loadA (s : Memref sig .tc .vmem S16x128x128 .f32) (k : ℕ) (L : List (View.Piece (Elt F) S16x128x128 .f32)) : Vec F S1x128x128 .f32 :=
  s.view.readCov L (place (bwd k) (hd k)).toLoadRect

/-- What it reads when the point before left `x` in the scratch: the first sixteen loads are of that. -/
def loadB (s : Memref sig .tc .vmem S16x128x128 .f32) (hs : s.IsWhole) (x : Vec F S16x128x128 .f32) (k : ℕ)
    (L : List (View.Piece (Elt F) S16x128x128 .f32)) : Vec F S1x128x128 .f32 :=
  match Nat.blt k 16 with
  | true => View.readAt (Elt F) s.view (place (bwd k) (hd k)).toLoadRect (hs.unread x)
  | false => s.view.readCov L (place (bwd k) (hd k)).toLoadRect

section
variable (c : Dev nD) (i : grid0.Coords) (arg2 : Memref sig .tc .vmem S1x8x512x128 .bf16) (harg2 : arg2.IsWhole)
  (arg3 : Memref sig .tc .vmem S1x8x512x128 .bf16) (harg3 : arg3.IsWhole) (arg4 : Memref sig .tc .vmem S1x8x512x128 .bf16)
  (harg4 : arg4.IsWhole) (arg5 : Memref sig .tc .vmem S1x8x128x512 .bf16) (harg5 : arg5.IsWhole)
  (arg6 : Memref sig .tc .vmem S1x512x128 .f32) (harg6 : arg6.IsWhole) (arg7 : Memref sig .tc .vmem S1x48x512 .f32) (harg7 : arg7.IsWhole)
  (arg8 : Memref sig .tc .vmem S1x8x512x128 .bf16) (harg8 : arg8.IsWhole) (arg9 : Memref sig .tc .vmem S1x8x512x128 .bf16)
  (harg9 : arg9.IsWhole) (arg10 : Memref sig .tc .vmem S1x8x512x128 .bf16) (harg10 : arg10.IsWhole)
  (arg11 : Memref sig .tc .vmem S1x8x128x512 .bf16) (harg11 : arg11.IsWhole) (arg12 : Memref sig .tc .vmem S1x512x128 .f32)
  (harg12 : arg12.IsWhole) (arg13 : Memref sig .tc .vmem S1x48x512 .f32) (harg13 : arg13.IsWhole)
  (arg14 : Memref sig .tc .vmem S1x8x512x128 .bf16) (harg14 : arg14.IsWhole) (arg15 : Memref sig .tc .vmem S1x8x512x128 .bf16)
  (harg15 : arg15.IsWhole) (arg16 : Memref sig .tc .vmem S16x128x128 .f32) (harg16 : arg16.IsWhole)
  (x0 : Vec F S1x8x512x128 .bf16) (x1 : Vec F S1x8x512x128 .bf16) (x2 : Vec F S1x8x512x128 .bf16) (x3 : Vec F S1x8x128x512 .bf16)
  (x4 : Vec F S1x512x128 .f32) (x5 : Vec F S1x48x512 .f32) (x6 : Vec F S1x8x512x128 .bf16) (x7 : Vec F S1x8x512x128 .bf16)
  (x8 : Vec F S1x8x512x128 .bf16) (x9 : Vec F S1x8x128x512 .bf16) (x10 : Vec F S1x512x128 .f32) (x11 : Vec F S1x48x512 .f32)

/-- The two directions' blocks. -/
def inputs (d : Bool) : Inputs F := match d with
  | false => ⟨arg2, harg2, arg3, harg3, arg4, harg4, arg5, harg5, arg6, harg6, arg7, harg7, x0, x1, x2, x3, x4, x5⟩
  | true => ⟨arg8, harg8, arg9, harg9, arg10, harg10, arg11, harg11, arg12, harg12, arg13, harg13, x6, x7, x8, x9, x10, x11⟩

/-- The store of zeros that begins a run. -/
def blank : List (View.Piece (Elt F) S16x128x128 .f32) :=
  [⟨Rect.unit ![0, 0, 0] S16x128x128.size inb_S16x128x128_S16x128x128_0_0_0, k0_pay2⟩]

/-- At the first point of a batch the scratch is stored from zero; the states, and the blocks of either output. -/
theorem states_A (hc : cond0_0 i) :
    (kernelRun0_A c i arg2 harg2 arg3 harg3 arg4 harg4 arg5 harg5 arg6 harg6 arg7 harg7 arg8 harg8
      arg9 harg9 arg10 harg10 arg11 harg11 arg12 harg12 arg13 harg13 arg14 harg14 arg15 harg15 arg16 harg16 hc
      x0 x1 x2 x3 x4 x5 x6 x7 x8 x9 x10 x11).2.2.1 =
      states (inputs arg2 harg2 arg3 harg3 arg4 harg4 arg5 harg5 arg6 harg6 arg7 harg7
      arg8 harg8 arg9 harg9 arg10 harg10 arg11 harg11 arg12 harg12 arg13 harg13 x0 x1 x2 x3 x4 x5 x6 x7 x8 x9 x10 x11) blank (loadA arg16) 64 := by
  sl_kernel_rfl

theorem outs_A (hc : cond0_0 i) :
    (kernelRun0_A c i arg2 harg2 arg3 harg3 arg4 harg4 arg5 harg5 arg6 harg6 arg7 harg7 arg8 harg8
      arg9 harg9 arg10 harg10 arg11 harg11 arg12 harg12 arg13 harg13 arg14 harg14 arg15 harg15 arg16 harg16 hc
      x0 x1 x2 x3 x4 x5 x6 x7 x8 x9 x10 x11).1 =
      outs false (inputs arg2 harg2 arg3 harg3 arg4 harg4 arg5 harg5 arg6 harg6 arg7 harg7
      arg8 harg8 arg9 harg9 arg10 harg10 arg11 harg11 arg12 harg12 arg13 harg13 x0 x1 x2 x3 x4 x5 x6 x7 x8 x9 x10 x11) blank (loadA arg16) 32 := by
  sl_kernel_rfl

theorem backs_A (hc : cond0_0 i) :
    (kernelRun0_A c i arg2 harg2 arg3 harg3 arg4 harg4 arg5 harg5 arg6 harg6 arg7 harg7 arg8 harg8
      arg9 harg9 arg10 harg10 arg11 harg11 arg12 harg12 arg13 harg13 arg14 harg14 arg15 harg15 arg16 harg16 hc
      x0 x1 x2 x3 x4 x5 x6 x7 x8 x9 x10 x11).2.1 =
      outs true (inputs arg2 harg2 arg3 harg3 arg4 harg4 arg5 harg5 arg6 harg6 arg7 harg7
      arg8 harg8 arg9 harg9 arg10 harg10 arg11 harg11 arg12 harg12 arg13 harg13 x0 x1 x2 x3 x4 x5 x6 x7 x8 x9 x10 x11) blank (loadA arg16) 32 := by
  sl_kernel_rfl

/-- At a later point they are stored over what the point before left. -/
theorem states_B (hc : ¬cond0_0 i) (s : Vec F S16x128x128 .f32) :
    (kernelRun0_B c i arg2 harg2 arg3 harg3 arg4 harg4 arg5 harg5 arg6 harg6 arg7 harg7 arg8 harg8
      arg9 harg9 arg10 harg10 arg11 harg11 arg12 harg12 arg13 harg13 arg14 harg14 arg15 harg15 arg16 harg16 hc
      x0 x1 x2 x3 x4 x5 x6 x7 x8 x9 x10 x11 s).2.2.1 =
      states (inputs arg2 harg2 arg3 harg3 arg4 harg4 arg5 harg5 arg6 harg6 arg7 harg7
      arg8 harg8 arg9 harg9 arg10 harg10 arg11 harg11 arg12 harg12 arg13 harg13 x0 x1 x2 x3 x4 x5 x6 x7 x8 x9 x10 x11) [] (loadB arg16 harg16 s) 64 := by
  sl_kernel_rfl

theorem outs_B (hc : ¬cond0_0 i) (s : Vec F S16x128x128 .f32) :
    (kernelRun0_B c i arg2 harg2 arg3 harg3 arg4 harg4 arg5 harg5 arg6 harg6 arg7 harg7 arg8 harg8
      arg9 harg9 arg10 harg10 arg11 harg11 arg12 harg12 arg13 harg13 arg14 harg14 arg15 harg15 arg16 harg16 hc
      x0 x1 x2 x3 x4 x5 x6 x7 x8 x9 x10 x11 s).1 =
      outs false (inputs arg2 harg2 arg3 harg3 arg4 harg4 arg5 harg5 arg6 harg6 arg7 harg7
      arg8 harg8 arg9 harg9 arg10 harg10 arg11 harg11 arg12 harg12 arg13 harg13 x0 x1 x2 x3 x4 x5 x6 x7 x8 x9 x10 x11) [] (loadB arg16 harg16 s) 32 := by
  sl_kernel_rfl

theorem backs_B (hc : ¬cond0_0 i) (s : Vec F S16x128x128 .f32) :
    (kernelRun0_B c i arg2 harg2 arg3 harg3 arg4 harg4 arg5 harg5 arg6 harg6 arg7 harg7 arg8 harg8
      arg9 harg9 arg10 harg10 arg11 harg11 arg12 harg12 arg13 harg13 arg14 harg14 arg15 harg15 arg16 harg16 hc
      x0 x1 x2 x3 x4 x5 x6 x7 x8 x9 x10 x11 s).2.1 =
      outs true (inputs arg2 harg2 arg3 harg3 arg4 harg4 arg5 harg5 arg6 harg6 arg7 harg7
      arg8 harg8 arg9 harg9 arg10 harg10 arg11 harg11 arg12 harg12 arg13 harg13 x0 x1 x2 x3 x4 x5 x6 x7 x8 x9 x10 x11) [] (loadB arg16 harg16 s) 32 := by
  sl_kernel_rfl

end

end Cert.KernelIdeal.Pieces

end
-- ==== Proof.Point.lean ====
/- One grid point over the reals. If the scratch holds the sixteen chains' states when the point begins, and the blocks it loads hold the
   chains' rows, then each store holds the state 128 tokens later, and the output blocks hold what the queries read. -/
module

public import proofs.«01_k».proof.Proof.Block
public import proofs.«01_k».proof.Proof.Pieces
public import Idealize.ShloMosaic.Lib.Pipeline.Value
public import Idealize.ShloMosaic.Lib.WholeRead

@[expose] public section

set_option maxRecDepth 16384

noncomputable section

namespace Cert.KernelIdeal.Pieces

open Cert.KernelIdeal Cert.KernelIdeal.Gen Cert.KernelIdeal.Chain Cert.Delta Idealize.ShloMosaic

/-! ## One store -/

/-- The blocks loaded for one head, one direction and one group of tokens hold a chain's rows from token `n0`. -/
structure Fits (I : Inputs Ideal) (d : Bool) (h o : ℕ) (q k v : ℕ → Fin 128 → ℝ) (b g : ℕ → ℝ) (n0 : ℕ) : Prop where
  hq : ∀ i e, tile I.q I.hq I.xq d h o (ix4 0 0 i e) = ((q (n0 + order d i) e : ℝ) : EReal)
  hk : ∀ i e, tile I.k I.hk I.xk d h o (ix4 0 0 i e) = ((k (n0 + order d i) e : ℝ) : EReal)
  hv : ∀ i e, tile I.v I.hv I.xv d h o (ix4 0 0 i e) = ((v (n0 + order d i) e : ℝ) : EReal)
  hkt : ∀ e j, turn I d h o (ix4 0 0 e j) = ((k (n0 + order d j) e : ℝ) : EReal)
  hgc : ∀ i, lane I d h o 0 (by decide) (ix3 0 i 0) = ((cum g n0 (order d i + 1) : ℝ) : EReal)
  hb : ∀ i, lane I d h o 1 (by decide) (ix3 0 i 0) = ((b (n0 + order d i) : ℝ) : EReal)
  hgr : ∀ i, line I d h o 0 (by decide) (ix3 0 0 i) = ((cum g n0 (order d i + 1) : ℝ) : EReal)
  her : ∀ i, line I d h o 1 (by decide) (ix3 0 0 i) = ((Real.exp (cum g n0 128 - cum g n0 (order d i + 1)) : ℝ) : EReal)
  htr : ∀ i, line I d h o 2 (by decide) (ix3 0 0 i) = ((Real.exp (cum g n0 128) : ℝ) : EReal)

section
variable {I : Inputs Ideal} {d : Bool} {h o : ℕ} {q k v : ℕ → Fin 128 → ℝ} {b g : ℕ → ℝ} {n0 : ℕ} {s s' : Vec Ideal S1x128x128 .f32}

/-- Two loads of the state that read the same reals are the same. -/
theorem same_load {S : M} (hs : ∀ a e, s (ix3 0 a e) = ((S a e : ℝ) : EReal)) (hs' : ∀ a e, s' (ix3 0 a e) = ((S a e : ℝ) : EReal)) : s' = s := by
  funext x
  obtain ⟨y, a, e, rfl⟩ : ∃ (y : Fin 1) (a e : Fin 128), x = ix3 y a e := ⟨x 0, x 1, x 2, eq_ix3 x⟩
  obtain rfl : y = 0 := Subsingleton.elim _ _
  rw [hs, hs']

theorem Fits.state_is (H : Fits I d h o q k v b g n0) (hs : ∀ a e, s (ix3 0 a e) = ((state k v b g n0 a e : ℝ) : EReal))
    (hs' : ∀ a e, s' (ix3 0 a e) = ((state k v b g n0 a e : ℝ) : EReal)) (a e : Fin 128) :
    stateAt I d h o s s' (ix3 0 a e) = ((state k v b g (n0 + 128) a e : ℝ) : EReal) := by
  obtain rfl := same_load hs hs'
  exact after_block H.hq H.hk H.hv H.hkt H.hgc H.hb H.hgr H.her H.htr hs a e

theorem Fits.out_is (H : Fits I d h o q k v b g n0) (hs : ∀ a e, s (ix3 0 a e) = ((state k v b g n0 a e : ℝ) : EReal))
    (hs' : ∀ a e, s' (ix3 0 a e) = ((state k v b g n0 a e : ℝ) : EReal)) (i e : Fin 128) :
    outAt I d h o s s' (ix4 0 0 i e) = ((read q k v b g (n0 + order d i) e : ℝ) : EReal) := by
  obtain rfl := same_load hs hs'
  exact Chain.out_is H.hq H.hk H.hv H.hkt H.hgc H.hb H.hgr hs i e

end

/-! ## The scratch between stores -/

/-- What the scratch reads after the stores `L` over the contents `S`. -/
def over (S : Vec Ideal S16x128x128 .f32) : List (View.Piece (Elt Ideal) S16x128x128 .f32) → Vec Ideal S16x128x128 .f32
  | [] => S
  | p :: L => p.1.overlay (over S L) p.2

/-- A direction's head, as one of the sixteen chains. -/
def chainOf (d : Bool) (h : ℕ) : Fin 16 := ⟨slot d h, slot_lt _ _⟩

/-- The chain that store `k` belongs to. -/
def chain (k : ℕ) : Fin 16 := chainOf (bwd k) (hd k)

theorem chain_val (k : ℕ) : (chain k : ℕ) = 8 * (k % 2) + k / 2 % 8 := by
  show slot (bwd k) (hd k) = _
  rcases Nat.mod_two_eq_zero_or_one k with h | h <;> simp [slot, bwd, hd, h]

/-- How many of the first `n` stores belong to a chain. -/
def count (n : ℕ) (c : Fin 16) : ℕ := (n + 15 - (c % 8 * 2 + c / 8)) / 16

theorem chain_eq_iff (k : ℕ) (c : Fin 16) : chain k = c ↔ k % 16 = (c : ℕ) % 8 * 2 + c / 8 := by
  rw [Fin.ext_iff, chain_val, show k % 2 = k % 16 % 2 by omega, show k / 2 % 8 = k % 16 / 2 by omega]
  have h := Nat.mod_lt k (show 16 > 0 by decide)
  generalize k % 16 = r at h ⊢
  revert c
  interval_cases r <;> decide

theorem mem_place (d : Bool) (h : ℕ) (c : Fin 16) (a e : Fin 128) : ix3 c a e ∈ (place d h).set ↔ (c : ℕ) = slot d h := by
  rw [place, Rect.mem_set_unit]
  constructor
  · intro H
    have := H 0
    simp [S1x128x128] at this
    omega
  · intro H x
    fin_cases x <;> simp [S1x128x128, H]

theorem place_emb (d : Bool) (h : ℕ) (c : Fin 16) (hc : (c : ℕ) = slot d h) (a e : Fin 128) :
    (place d h).emb (ix3 (0 : Fin 1) a e) = ix3 c a e := by
  funext x
  apply Fin.ext
  fin_cases x
  · show slot d h + 1 * 0 = (c : ℕ)
    omega
  · show 0 + 1 * (a : ℕ) = a
    omega
  · show 0 + 1 * (e : ℕ) = e
    omega

section
variable (S : Vec Ideal S16x128x128 .f32)

theorem over_hit (k : ℕ) (w : FVec Ideal S1x128x128 .f32) (L : List (View.Piece (Elt Ideal) S16x128x128 .f32)) (a e : Fin 128) :
    over S (⟨place (bwd k) (hd k), w⟩ :: L) (ix3 (chain k) a e) = w (ix3 0 a e) := by
  rw [← place_emb (bwd k) (hd k) (chain k) rfl a e]
  exact Rect.overlay_emb _ _ _ _

theorem over_miss (k : ℕ) (w : FVec Ideal S1x128x128 .f32) (L : List (View.Piece (Elt Ideal) S16x128x128 .f32)) (c : Fin 16) (hc : chain k ≠ c)
    (a e : Fin 128) : over S (⟨place (bwd k) (hd k), w⟩ :: L) (ix3 c a e) = over S L (ix3 c a e) :=
  Rect.overlay_of_not_mem _ _ _ fun h => hc (Fin.ext ((mem_place _ _ _ _ _).mp h).symm)

end

section
variable (I : Bool → Inputs Ideal) (init : List (View.Piece (Elt Ideal) S16x128x128 .f32))
  (load : ℕ → List (View.Piece (Elt Ideal) S16x128x128 .f32) → Vec Ideal S1x128x128 .f32) (S : Vec Ideal S16x128x128 .f32)

theorem states_drop (n j : ℕ) : (states I init load (n + j)).drop j = states I init load n := by
  induction j with
  | zero => rfl
  | succ j ih => exact ih

/-- A chain without a store keeps what the scratch held. -/
theorem over_states_start (n : ℕ) (c : Fin 16) (h : count n c = 0) (a e : Fin 128) :
    over S (states I init load n) (ix3 c a e) = over S init (ix3 c a e) := by
  induction n with
  | zero => rfl
  | succ n ih =>
    have hc : chain n ≠ c := fun hc => by
      have := (chain_eq_iff n c).mp hc
      unfold count at h
      omega
    exact (over_miss S n _ _ c hc a e).trans (ih (by unfold count at h ⊢; omega))

/-- A chain with a store reads the same whatever the scratch held. -/
theorem canon_states (n : ℕ) (c : Fin 16) (h : count n c ≠ 0) (a e : Fin 128) :
    View.canon (states I init load n) (ix3 c a e) = over S (states I init load n) (ix3 c a e) := by
  induction n with
  | zero => exact absurd (by unfold count; omega) h
  | succ n ih =>
    by_cases hc : chain n = c
    · subst hc
      refine Eq.trans ?_ (over_hit S n _ _ a e).symm
      rw [← place_emb (bwd n) (hd n) (chain n) rfl a e]
      exact View.canon_cons_emb _ _ _ _
    · refine Eq.trans ?_ ((ih ?_).trans (over_miss S n _ _ c hc a e).symm)
      · exact View.canon_cons_of_not_mem _ _ fun h' => hc (Fin.ext ((mem_place _ _ _ _ _).mp h').symm)
      · have hc' : ¬n % 16 = (c : ℕ) % 8 * 2 + c / 8 := fun h' => hc ((chain_eq_iff n c).mpr h')
        unfold count at h ⊢
        omega

variable (q k v : Fin 16 → ℕ → Fin 128 → ℝ) (b g : Fin 16 → ℕ → ℝ) (n0 : ℕ)

/-- What a point is given: its blocks hold the chains' rows, its scratch their states, and its loads read the scratch. -/
structure Given : Prop where
  fits : ∀ d h o, Fits (I d) d h o (q (chainOf d h)) (k (chainOf d h)) (v (chainOf d h)) (b (chainOf d h)) (g (chainOf d h)) (n0 + 128 * (o % 4))
  start : ∀ c a e, over S init (ix3 c a e) = ((state (k c) (v c) (b c) (g c) n0 a e : ℝ) : EReal)
  loads : ∀ j n, j < 64 → n ≤ j → early j ≤ n → ∀ a e,
    load j (states I init load n) (ix3 0 a e) = over S (states I init load n) (ix3 (chain j) a e)

variable {I init load S q k v b g n0}

/-- Every store advances its chain by 128 tokens. -/
theorem Given.states_is (H : Given I init load S q k v b g n0) (n : ℕ) (hn : n ≤ 64) (c : Fin 16) (a e : Fin 128) :
    over S (states I init load n) (ix3 c a e) = ((state (k c) (v c) (b c) (g c) (n0 + 128 * count n c) a e : ℝ) : EReal) := by
  induction n using Nat.strong_induction_on generalizing c a e with
  | _ n ih =>
    cases n with
    | zero =>
      rw [show count 0 c = 0 by unfold count; omega]
      exact H.start c a e
    | succ n =>
      by_cases hc : chain n = c
      · subst hc
        have hm := (chain_eq_iff n (chain n)).mp rfl
        have hg : grp n = n / 16 := by unfold grp; omega
        rw [show n0 + 128 * count (n + 1) (chain n) = n0 + 128 * grp n + 128 by unfold count; rw [hg]; omega]
        have hl : ∀ m, m ≤ n → early n ≤ m → ∀ a e, load n (states I init load m) (ix3 0 a e)
            = ((state (k (chain n)) (v (chain n)) (b (chain n)) (g (chain n)) (n0 + 128 * grp n) a e : ℝ) : EReal) := fun m hm' he a e => by
          rw [H.loads n m (by omega) hm' he, ih m (by omega) (by omega)]
          congr 4
          unfold count
          unfold early at he
          omega
        have he : early n ≤ n := by unfold early; omega
        refine (over_hit S n _ _ a e).trans ?_
        have hf := H.fits (bwd n) (hd n) (grp n)
        rw [show grp n % 4 = grp n by omega] at hf
        refine hf.state_is (fun a e => ?_) (hl n le_rfl he) a e
        refine Eq.trans ?_ (hl (early n) he le_rfl a e)
        rw [← states_drop I init load (early n) (n - early n), Nat.add_sub_cancel' he]
      · refine (over_miss S n _ _ c hc a e).trans ((ih n (by omega) (by omega) c a e).trans ?_)
        have hc' : ¬n % 16 = (c : ℕ) % 8 * 2 + c / 8 := fun h' => hc ((chain_eq_iff n c).mpr h')
        congr 4
        unfold count
        omega

/-- A load reads the state at its group's first token. -/
theorem Given.load_is (H : Given I init load S q k v b g n0) (n m : ℕ) (hn : n < 64) (hm : m ≤ n) (he : early n ≤ m) (a e : Fin 128) :
    load n (states I init load m) (ix3 0 a e)
      = ((state (k (chain n)) (v (chain n)) (b (chain n)) (g (chain n)) (n0 + 128 * grp n) a e : ℝ) : EReal) := by
  rw [H.loads n m hn hm he, H.states_is m (by omega)]
  have := (chain_eq_iff n (chain n)).mp rfl
  have hg : grp n = n / 16 := by unfold grp; omega
  rw [hg]
  congr 4
  unfold count
  unfold early at he
  omega

/-! ## The output blocks -/

theorem chain_two (d : Bool) (n : ℕ) : chain (2 * n + d.toNat) = chainOf d n := by
  apply Fin.ext
  rw [chain_val]
  cases d <;> simp only [chainOf, slot, Bool.toNat_false, Bool.toNat_true] <;> omega

/-- The place of a token in its grid point's 512, in a direction's own order. -/
def place512 (d : Bool) (r : Fin 512) : ℕ := match d with | false => r | true => 511 - r

theorem place512_tok (d : Bool) (o : ℕ) (i : Fin 128) (r : Fin 512) (hr : (r : ℕ) = tok d o + i) :
    place512 d r = 128 * (o % 4) + order d i := by
  cases d
  · exact hr
  · have e : ((order true i : Fin 128) : ℕ) = 127 - i := by
      show ((Fin.rev i : Fin 128) : ℕ) = _
      rw [Fin.val_rev]
      omega
    rw [e]
    show 511 - (r : ℕ) = _
    rw [hr]
    simp only [tok]
    omega

theorem mem_outs (d : Bool) (n : ℕ) (p : View.Piece (Elt Ideal) S1x8x512x128 .bf16) (hp : p ∈ outs d I init load n) :
    ∃ m, m < n ∧ p = ⟨Rect.unit (s := S1x8x512x128) ![0, m % 8, tok d (m / 8), 0] S1x1x128x128.size (fits_tile m _ (tok_le d _)),
      outAt (I d) d m (m / 8) (load (2 * m + d.toNat) (states I init load (early (2 * m + d.toNat))))
        (load (2 * m + d.toNat) (states I init load (round (2 * m + d.toNat))))⟩ := by
  induction n with
  | zero => exact absurd hp List.not_mem_nil
  | succ n ih =>
    rcases List.mem_cons.mp hp with h | h
    · exact ⟨n, n.lt_succ_self, h⟩
    · obtain ⟨m, hm, e⟩ := ih h
      exact ⟨m, hm.trans n.lt_succ_self, e⟩

theorem outs_mem (d : Bool) (n m : ℕ) (hm : m < n) : ∃ p ∈ outs d I init load n,
    p.1 = Rect.unit (s := S1x8x512x128) ![0, m % 8, tok d (m / 8), 0] S1x1x128x128.size (fits_tile m _ (tok_le d _)) := by
  induction n with
  | zero => omega
  | succ n ih =>
    rcases Nat.lt_succ_iff_lt_or_eq.mp hm with h | rfl
    · obtain ⟨p, hp, e⟩ := ih h
      exact ⟨p, List.mem_cons_of_mem _ hp, e⟩
    · exact ⟨_, List.mem_cons_self, rfl⟩

/-- The blocks stored hold what each token's query reads. -/
theorem Given.outs_is (H : Given I init load S q k v b g n0) (d : Bool) (h : Fin 8) (r : Fin 512) (e : Fin 128) :
    View.canon (outs d I init load 32) (ix4 0 h r e)
      = ((read (q (chainOf d h)) (k (chainOf d h)) (v (chainOf d h)) (b (chainOf d h)) (g (chainOf d h)) (n0 + place512 d r) e : ℝ) : EReal) := by
  let G : Vec Ideal S1x8x512x128 .bf16 := fun y =>
    ((read (q (chainOf d (y 1 : Fin 8))) (k (chainOf d (y 1 : Fin 8))) (v (chainOf d (y 1 : Fin 8))) (b (chainOf d (y 1 : Fin 8)))
      (g (chainOf d (y 1 : Fin 8))) (n0 + place512 d (y 2 : Fin 512)) (y 3 : Fin 128) : ℝ) : EReal)
  refine View.canon_apply_of_pieces G (outs d I init load 32) (fun p hp x => ?_) (ix4 0 h r e) ?_
  · obtain ⟨m, hm, rfl⟩ := mem_outs d 32 p hp
    obtain ⟨y, z, i, f, rfl⟩ : ∃ (y z : Fin 1) (i f : Fin 128), x = ix4 y z i f := ⟨x 0, x 1, x 2, x 3, eq_ix4 x⟩
    obtain rfl : y = 0 := Subsingleton.elim _ _
    obtain rfl : z = 0 := Subsingleton.elim _ _
    have ht := tok_le d (m / 8)
    have hy : (Rect.unit (s := S1x8x512x128) ![0, m % 8, tok d (m / 8), 0] S1x1x128x128.size (fits_tile m _ (tok_le d _))).emb (ix4 0 0 i f)
        = ix4 (0 : Fin 1) (⟨m % 8, by omega⟩ : Fin 8) (⟨tok d (m / 8) + i, by omega⟩ : Fin 512) f := by
      funext a
      apply Fin.ext
      fin_cases a
      · rfl
      · show m % 8 + 1 * 0 = m % 8
        omega
      · show tok d (m / 8) + 1 * (i : ℕ) = tok d (m / 8) + i
        omega
      · show 0 + 1 * (f : ℕ) = f
        omega
    rw [hy]
    have hl : ∀ M, early (2 * m + d.toNat) ≤ M → M ≤ 2 * m + d.toNat → ∀ a e, load (2 * m + d.toNat) (states I init load M) (ix3 0 a e)
        = ((state (k (chainOf d m)) (v (chainOf d m)) (b (chainOf d m)) (g (chainOf d m)) (n0 + 128 * (m / 8 % 4)) a e : ℝ) : EReal) := fun M he hM a e => by
      have hd := Bool.toNat_le d
      have := H.load_is (2 * m + d.toNat) M (by omega) hM he a e
      rw [chain_two, show grp (2 * m + d.toNat) = m / 8 % 4 by unfold grp; omega] at this
      exact this
    have hd := Bool.toNat_le d
    have ho := (H.fits d m (m / 8)).out_is (hl _ le_rfl (by unfold early; omega)) (hl (round (2 * m + d.toNat)) (by unfold early round; omega) (by unfold round; omega)) i f
    refine ho.trans ?_
    have hc : chainOf d m = chainOf d (m % 8) := Fin.ext (by cases d <;> simp [chainOf, slot])
    rw [hc, Nat.add_assoc, ← place512_tok d (m / 8) i ⟨tok d (m / 8) + i, by omega⟩ rfl]
    rfl
  · have hc : ∃ o, o < 4 ∧ tok d o ≤ (r : ℕ) ∧ (r : ℕ) < tok d o + 128 := by
      cases d
      · exact ⟨r / 128, by omega, by simp only [tok]; omega, by simp only [tok]; omega⟩
      · exact ⟨3 - r / 128, by omega, by simp only [tok]; omega, by simp only [tok]; omega⟩
    obtain ⟨o, ho, h1, h2⟩ := hc
    obtain ⟨p, hp, e1⟩ := outs_mem (I := I) (init := init) (load := load) d 32 (o * 8 + h) (by omega)
    refine ⟨p, hp, ?_⟩
    rw [e1, Rect.mem_set_unit]
    rw [show (o * 8 + (h : ℕ)) % 8 = h by omega, show (o * 8 + (h : ℕ)) / 8 = o by omega]
    intro a
    fin_cases a <;> simp [S1x1x128x128] <;> omega

end

end Cert.KernelIdeal.Pieces

end
-- ==== Proof.Cases.lean ====
/- The two cases of a grid point. At the first point of a batch the scratch is stored from zero, so it holds the states before any token; at a
   later point it holds what the point before left. Either way the loads read the scratch as it stands. -/
module

public import proofs.«01_k».proof.Proof.Point

@[expose] public section

set_option maxRecDepth 16384

noncomputable section

namespace Cert.KernelIdeal.Pieces

open Cert.KernelIdeal Cert.KernelIdeal.Gen Cert.KernelIdeal.Chain Cert.Delta Idealize.ShloMosaic

/-- Contents that no store has reached. -/
def unset : Vec Ideal S16x128x128 .f32 := View.canon []

theorem over_unset (L : List (View.Piece (Elt Ideal) S16x128x128 .f32)) : over unset L = View.canon L := by
  induction L with
  | nil => rfl
  | cons p L ih => exact congrArg (fun f => p.1.overlay f p.2) ih

/-- A load of a chain's state reads the stores so far. -/
theorem covered_load (s : Memref sig .tc .vmem S16x128x128 .f32) (j : ℕ) (L : List (View.Piece (Elt Ideal) S16x128x128 .f32)) (a e : Fin 128) :
    s.view.readCov L (place (bwd j) (hd j)).toLoadRect (ix3 0 a e) = View.canon L (ix3 (chain j) a e) := by
  rw [View.readCov_eq_canon']
  exact congrArg (View.canon L) (place_emb (bwd j) (hd j) (chain j) rfl a e)

theorem blank_zero (c : Fin 16) (a e : Fin 128) : View.canon (blank (F := Ideal)) (ix3 c a e) = ((0 : ℝ) : EReal) := by
  have h : View.canon (blank (F := Ideal)) = (k0_pay2 : FVec Ideal S16x128x128 .f32) :=
    View.canon_unit_zero (S := S16x128x128) (by funext x; fin_cases x <;> rfl) _ _
  rw [h]
  pointwise [k0_pay2]
  rfl

variable {I : Bool → Inputs Ideal} {q k v : Fin 16 → ℕ → Fin 128 → ℝ} {b g : Fin 16 → ℕ → ℝ}

theorem given_first (s : Memref sig .tc .vmem S16x128x128 .f32)
    (hf : ∀ d h o, Fits (I d) d h o (q (chainOf d h)) (k (chainOf d h)) (v (chainOf d h)) (b (chainOf d h)) (g (chainOf d h)) (0 + 128 * (o % 4))) :
    Given I blank (loadA s) unset q k v b g 0 where
  fits := hf
  start c a e := by
    rw [over_unset]
    exact blank_zero c a e
  loads j n _ _ _ a e := by
    rw [over_unset]
    exact covered_load s j _ a e

theorem given_later (s : Memref sig .tc .vmem S16x128x128 .f32) (hs : s.IsWhole) (x : Vec Ideal S16x128x128 .f32) (n0 : ℕ)
    (hf : ∀ d h o, Fits (I d) d h o (q (chainOf d h)) (k (chainOf d h)) (v (chainOf d h)) (b (chainOf d h)) (g (chainOf d h)) (n0 + 128 * (o % 4)))
    (hx : ∀ c a e, x (ix3 c a e) = ((state (k c) (v c) (b c) (g c) n0 a e : ℝ) : EReal)) :
    Given I [] (loadB s hs x) x q k v b g n0 where
  fits := hf
  start := hx
  loads j n hj hn he a e := by
    have hm := (chain_eq_iff j (chain j)).mp rfl
    by_cases h : j < 16
    · have hb : Nat.blt j 16 = true := by simpa using h
      have hl : ∀ L, loadB s hs x j L = View.readAt (Elt Ideal) s.view (place (bwd j) (hd j)).toLoadRect (hs.unread x) := fun L => by
        unfold loadB
        rw [hb]
      rw [hl]
      refine (hs.readAt_unread x _ _).trans ?_
      refine Eq.trans ?_ (over_states_start I [] (loadB s hs x) x n (chain j) (by unfold count; omega) a e).symm
      exact congrArg x (place_emb (bwd j) (hd j) (chain j) rfl a e)
    · have hb : Nat.blt j 16 = false := Bool.eq_false_iff.mpr fun hb => h (by rwa [Nat.blt_eq] at hb)
      have hl : ∀ L, loadB s hs x j L = s.view.readCov L (place (bwd j) (hd j)).toLoadRect := fun L => by
        unfold loadB
        rw [hb]
      rw [hl, covered_load]
      refine canon_states I [] (loadB s hs x) x n (chain j) ?_ a e
      unfold early at he
      unfold count
      omega

/-- After a point the scratch holds the states 512 tokens on. -/
theorem Given.left_is {init : List (View.Piece (Elt Ideal) S16x128x128 .f32)}
    {load : ℕ → List (View.Piece (Elt Ideal) S16x128x128 .f32) → Vec Ideal S1x128x128 .f32} {S : Vec Ideal S16x128x128 .f32} {n0 : ℕ}
    (H : Given I init load S q k v b g n0) (c : Fin 16) (a e : Fin 128) :
    View.canon (states I init load 64) (ix3 c a e) = ((state (k c) (v c) (b c) (g c) (n0 + 512) a e : ℝ) : EReal) := by
  have hc : count 64 c = 4 := by unfold count; omega
  rw [canon_states I init load S 64 c (by omega), H.states_is 64 le_rfl, hc]

end Cert.KernelIdeal.Pieces

end
-- ==== Proof.HostRead.lean ====
/- The arrays the kernel's call takes, at an index: the running sums of the log decays inside each block of 128 tokens, and what is made of them. -/
module

public import proofs.«01_k».proof.Proof.Tokens
public import proofs.«01_k».proof.Proof.Block
public import proofs.«01_k».proof.Proof.Gen.KernelIdeal.Frame.Runs
public import Idealize.ShloMosaic.Lib.StableHlo.RunRead

@[expose] public section

set_option maxRecDepth 16384

noncomputable section

namespace Cert.KernelIdeal.Host

open Cert.KernelIdeal Cert.KernelIdeal.Gen Cert.KernelIdeal.Chain Idealize.ShloMosaic Idealize.ShloMosaic.TcCoe Idealize.ShloMosaic.Tactic
open Cert.Delta

/-! ## The arrays -/

abbrev wordT : IVec S1x1x128x128x1 32 := iotaInDim S1x1x128x128x1 32 2
abbrev wordJ : IVec S1x1x128x128x1 32 := iotaInDim S1x1x128x128x1 32 3
abbrev zero0 : FVec Ideal S_ .f32 := constant S_ .f32 0x00000000#32

def chunks (g : FVec Ideal S8x4096x16 .f32) : FVec Ideal S8x32x128x16 .f32 := shapeCast S8x32x128x16 g shapeCasts_S8x4096x16_S8x32x128x16

def sums (mask : IVec S1x1x128x128x1 1) (g : FVec Ideal S8x4096x16 .f32) : FVec Ideal S8x32x128x16 .f32 :=
  Host.reduceAdd (select (broadcastInDim S8x32x128x128x16 ![0, 1, 2, 3, 4] bcast_S1x1x128x128x1_S8x32x128x128x16_0_1_2_3_4 mask)
    (broadcastInDim S8x32x128x128x16 ![0, 1, 2, 3, 4] bcast_S8x32x1x128x16_S8x32x128x128x16_0_1_2_3_4
      (broadcastInDim S8x32x1x128x16 ![0, 1, 3, 4] bcast_S8x32x128x16_S8x32x1x128x16_0_1_3_4 (chunks g)))
    (broadcastInDim S8x32x128x128x16 ![] bcast_S_S8x32x128x128x16 zero0)) zero0 reducesTo_S8x32x128x128x16_S8x32x128x16_d3 h_S_

def picks (g : FVec Ideal S8x4096x16 .f32) : FVec Ideal S8x32x128x16 .f32 :=
  select (broadcastInDim S8x32x128x16 ![0, 1, 2, 3] bcast_S1x1x1x16_S8x32x128x16_0_1_2_3
      (cmpi .slt (iotaInDim S1x1x1x16 32 3) (broadcastInDim S1x1x1x16 ![] bcast_S_S1x1x1x16 (constantI S_ 32 8#32))))
    (sums (cmpi .sle wordJ wordT) g) (sums (cmpi .sge wordJ wordT) g)

def runs (g : FVec Ideal S8x4096x16 .f32) : FVec Ideal S8x4096x16 .f32 := shapeCast S8x4096x16 (picks g) shapeCasts_S8x32x128x16_S8x4096x16

def totals (g : FVec Ideal S8x4096x16 .f32) : FVec Ideal S8x4096x16 .f32 :=
  shapeCast S8x4096x16 (broadcastInDim S8x32x128x16 ![0, 1, 2, 3] bcast_S8x32x1x16_S8x32x128x16_0_1_2_3
    (broadcastInDim S8x32x1x16 ![0, 1, 3] bcast_S8x32x16_S8x32x1x16_0_1_3
      (Host.reduceAdd (chunks g) zero0 reducesTo_S8x32x128x16_S8x32x16_d2 h_S_))) shapeCasts_S8x32x128x16_S8x4096x16

def cols (b g : FVec Ideal S8x4096x16 .f32) : FVec Ideal S8x4096x128 .f32 :=
  concatenate S8x4096x128 2 [⟨S8x4096x16, runs g⟩, ⟨S8x4096x16, b⟩,
    ⟨S8x4096x96, broadcastInDim S8x4096x96 ![] bcast_S_S8x4096x96 zero0⟩] concatenates_S8x4096x16_S8x4096x16_S8x4096x96_S8x4096x128_d2

def rows (g : FVec Ideal S8x4096x16 .f32) : FVec Ideal S8x48x4096 .f32 :=
  transpose S8x48x4096 [0, 2, 1] (concatenate S8x4096x48 2 [⟨S8x4096x16, runs g⟩, ⟨S8x4096x16, Host.exp (subf (totals g) (runs g))⟩,
    ⟨S8x4096x16, Host.exp (totals g)⟩] concatenates_S8x4096x16_S8x4096x16_S8x4096x16_S8x4096x48_d2) transposes_S8x4096x48_S8x48x4096_0_2_1

def keysT (k : FVec Ideal S8x8x4096x128 .bf16) : FVec Ideal S8x8x128x4096 .bf16 :=
  transpose S8x8x128x4096 [0, 1, 3, 2] k transposes_S8x8x4096x128_S8x8x128x4096_0_1_3_2

section
variable (m : (ℓ : Loc nD τ sig) → Buf (Elt Ideal) ℓ) (c : Dev nD)

theorem V_keysT : V m c main_v0 = keysT (m ((c : Thread nD τ).loc main_arg1)) := by
  rw [V]
  simp only [List.flatten_cons, List.flatten_nil, List.append_nil, StableHlo.after_append]
  after_reads_simp
  rfl

/-- The buffers before the last stretch of host operations. -/
def before6 (X : Valuation τ sig (Elt Ideal)) : Valuation τ sig (Elt Ideal) :=
  StableHlo.after hostOps0_5 (StableHlo.after hostOps0_4 (StableHlo.after hostOps0_3 (StableHlo.after hostOps0_2
    (StableHlo.after hostOps0_1 (StableHlo.after hostOps0 X)))))

theorem before6_v15 (X : Valuation τ sig (Elt Ideal)) : before6 X (Proc.devRef .tc main_v15) = picks (X (Proc.devRef .tc main_arg4)) := by
  unfold before6
  after_reads_simp
  rfl
theorem before6_v1 (X : Valuation τ sig (Elt Ideal)) : before6 X (Proc.devRef .tc main_v1) = chunks (X (Proc.devRef .tc main_arg4)) := by
  unfold before6
  after_reads_simp
  rfl
theorem before6_arg3 (X : Valuation τ sig (Elt Ideal)) : before6 X (Proc.devRef .tc main_arg3) = X (Proc.devRef .tc main_arg3) := by
  unfold before6
  after_reads_simp

set_option maxHeartbeats 1000000 in
theorem V_cols : V m c main_v22 = cols (m ((c : Thread nD τ).loc main_arg3)) (m ((c : Thread nD τ).loc main_arg4)) := by
  rw [V]
  simp only [List.flatten_cons, List.flatten_nil, List.append_nil, StableHlo.after_append]
  change StableHlo.after hostOps0_6 (before6 fun b => m (c, b)) (Proc.devRef .tc main_v22) = _
  generalize hW : (before6 fun b => m (c, b)) = W
  have h1 : W (Proc.devRef .tc main_v15) = picks (m ((c : Thread nD τ).loc main_arg4)) := hW ▸ before6_v15 _
  have h2 : W (Proc.devRef .tc main_arg3) = m ((c : Thread nD τ).loc main_arg3) := hW ▸ before6_arg3 _
  after_reads_simp
  unfold cols runs
  rw [← h1, ← h2]
  rfl
set_option maxHeartbeats 1000000 in
theorem V_rows : V m c main_v27 = rows (m ((c : Thread nD τ).loc main_arg4)) := by
  rw [V]
  simp only [List.flatten_cons, List.flatten_nil, List.append_nil, StableHlo.after_append]
  change StableHlo.after hostOps0_6 (before6 fun b => m (c, b)) (Proc.devRef .tc main_v27) = _
  generalize hW : (before6 fun b => m (c, b)) = W
  have h1 : W (Proc.devRef .tc main_v15) = picks (m ((c : Thread nD τ).loc main_arg4)) := hW ▸ before6_v15 _
  have h2 : W (Proc.devRef .tc main_v1) = chunks (m ((c : Thread nD τ).loc main_arg4)) := hW ▸ before6_v1 _
  after_reads_simp
  unfold rows totals runs
  rw [← h1, ← h2]
  rfl
end

/-! ## At an index -/

theorem keysT_at (k : FVec Ideal S8x8x4096x128 .bf16) (i h : Fin 8) (e : Fin 128) (t : Fin 4096) : keysT k (ix4 i h e t) = k (ix4 i h t e) := by
  pointwise [keysT]

theorem sums_at (mask : IVec S1x1x128x128x1 1) (g : FVec Ideal S8x4096x16 .f32) (i : Fin 8) (T : Fin 32) (r : Fin 128) (j : Fin 16) :
    sums mask g (ix4 i T r j) = ∑ s : Fin 128, if mask (ix5 0 0 r s 0) = 1#1 then g (ix3 i ⟨128 * T + s, by omega⟩ j) else 0 := by
  pointwise [sums, chunks]
  refine Finset.sum_congr rfl fun s _ => ?_
  have e : (T : ℕ) * 128 + s = 128 * T + s := by omega
  simp only [Scalar.select, e]
  rfl

theorem runs_at (g : FVec Ideal S8x4096x16 .f32) (i : Fin 8) (T : Fin 32) (r : Fin 128) (j : Fin 16) :
    runs g (ix3 i ⟨128 * T + r, by omega⟩ j) = if (j : ℕ) < 8 then sums (cmpi .sle wordJ wordT) g (ix4 i T r j) else sums (cmpi .sge wordJ wordT) g (ix4 i T r j) := by
  pointwise [runs, picks]
  have e : IntOp.cmpi CmpIPredicate.slt (BitVec.ofNat 32 (j : ℕ)) 8#32 = if (j : ℕ) < 8 then 1#1 else 0#1 := by
    revert j; decide
  rw [e]
  split <;> simp [Scalar.select]

theorem totals_at (g : FVec Ideal S8x4096x16 .f32) (i : Fin 8) (T : Fin 32) (r : Fin 128) (j : Fin 16) :
    totals g (ix3 i ⟨128 * T + r, by omega⟩ j) = ∑ s : Fin 128, g (ix3 i ⟨128 * T + s, by omega⟩ j) := by
  pointwise [totals, chunks]
  refine Finset.sum_congr rfl fun s _ => ?_
  have e : (T : ℕ) * 128 + s = 128 * T + s := by omega
  simp only [e]

/-! ## In the reals -/

/-- The direction of a chain. -/
abbrev back (c : Fin 16) : Bool := decide (8 ≤ (c : ℕ))

/-- The number of a block's first token in the chain's order, for the block that holds the times `128 T` to `128 T + 127`. -/
def start (c : Fin 16) (T : Fin 32) : ℕ := if (c : ℕ) < 8 then 128 * T else 128 * (31 - T)

/-- Row `r` of the block of times from `128 T` is the token the order of its direction says. -/
theorem time_at (c : Fin 16) (T : Fin 32) (r : Fin 128) : time c (start c T + order (back c) r) = ⟨128 * T + r, by omega⟩ := by
  by_cases h : (c : ℕ) < 8
  · have hb : back c = false := by simp [back]; omega
    rw [time, start, if_pos h, if_pos h, hb]
    exact Fin.ext (Nat.mod_eq_of_lt (by show 128 * (T : ℕ) + r < 4096; omega))
  · have hb : back c = true := by simp [back]; omega
    rw [time, start, if_neg h, if_neg h, hb]
    refine Fin.ext ?_
    have e : ((order true r : Fin 128) : ℕ) = 127 - r := by
      show ((Fin.rev r : Fin 128) : ℕ) = _
      rw [Fin.val_rev]; omega
    rw [Fin.val_rev]
    show 4096 - ((128 * (31 - (T : ℕ)) + (order true r : Fin 128)) % 4096 + 1) = 128 * T + r
    rw [e]
    omega

theorem word_int (n : ℕ) (hn : n < 128) : (BitVec.ofNat 32 n).toInt = (n : ℤ) := by
  rw [BitVec.toInt_eq_toNat_of_lt] <;> rw [BitVec.toNat_ofNat, Nat.mod_eq_of_lt (by omega)]; omega

theorem sle_at (r s : Fin 128) : cmpi .sle wordJ wordT (ix5 0 0 r s 0) = if s ≤ r then 1#1 else 0#1 := by
  pointwise
  have e : (BitVec.ofNat 32 (s : ℕ)).sle (BitVec.ofNat 32 (r : ℕ)) = decide (s ≤ r) := by
    rw [BitVec.sle, word_int _ s.2, word_int _ r.2]; simp
  simp only [IntOp.cmpi, e]
  split <;> simp [*]

theorem sge_at (r s : Fin 128) : cmpi .sge wordJ wordT (ix5 0 0 r s 0) = if r ≤ s then 1#1 else 0#1 := by
  pointwise
  have e : (BitVec.ofNat 32 (r : ℕ)).sle (BitVec.ofNat 32 (s : ℕ)) = decide (r ≤ s) := by
    rw [BitVec.sle, word_int _ s.2, word_int _ r.2]; simp
  simp only [IntOp.cmpi, e]
  split <;> simp [*]

section
variable {b g : Fin 8 → Fin 4096 → Fin 16 → ℝ} {xb xg : FVec Ideal S8x4096x16 .f32}
  (hb : ∀ i t j, xb (ix3 i t j) = ((b i t j : ℝ) : EReal)) (hg : ∀ i t j, xg (ix3 i t j) = ((g i t j : ℝ) : EReal))
include hg

theorem run_is (i : Fin 8) (T : Fin 32) (r : Fin 128) (c : Fin 16) :
    runs xg (ix3 i ⟨128 * T + r, by omega⟩ c) = ((cum (gate g i c) (start c T) (order (back c) r + 1) : ℝ) : EReal) := by
  have key : ∑ s : Fin 128, (if order (back c) s ≤ order (back c) r then xg (ix3 i ⟨128 * T + s, by omega⟩ c) else 0)
      = ((cum (gate g i c) (start c T) (order (back c) r + 1) : ℝ) : EReal) := by
    rw [cum, ← sum_upto (order (back c)) r (fun u => gate g i c (start c T + u)), coe_sum]
    refine Finset.sum_congr rfl fun s _ => ?_
    split
    · rw [hg, gate, time_at]
    · simp
  rw [← key, runs_at]
  by_cases h : (c : ℕ) < 8
  · have hbk : back c = false := by simp [back]; omega
    rw [if_pos h, sums_at, hbk]
    refine Finset.sum_congr rfl fun s _ => ?_
    rw [sle_at]
    by_cases h : s ≤ r <;> simp [h, order]
  · have hbk : back c = true := by simp [back]; omega
    rw [if_neg h, sums_at, hbk]
    refine Finset.sum_congr rfl fun s _ => ?_
    rw [sge_at]
    by_cases h : r ≤ s <;> simp [h, order]

theorem total_is (i : Fin 8) (T : Fin 32) (r : Fin 128) (c : Fin 16) :
    totals xg (ix3 i ⟨128 * T + r, by omega⟩ c) = ((cum (gate g i c) (start c T) 128 : ℝ) : EReal) := by
  rw [totals_at, cum, ← sum_order (order (back c)) (fun u => gate g i c (start c T + u)), coe_sum]
  refine Finset.sum_congr rfl fun s _ => ?_
  rw [hg, gate, time_at]

theorem col_run (i : Fin 8) (T : Fin 32) (r : Fin 128) (c : Fin 16) (j : Fin 128) (hj : (j : ℕ) = c) :
    cols xb xg (ix3 i ⟨128 * T + r, by omega⟩ j) = ((cum (gate g i c) (start c T) (order (back c) r + 1) : ℝ) : EReal) := by
  rw [← run_is hg]
  pointwise [cols]
  simp [hj]

omit hg in
include hb in
theorem col_rate (i : Fin 8) (T : Fin 32) (r : Fin 128) (c : Fin 16) (j : Fin 128) (hj : (j : ℕ) = 16 + c) :
    cols xb xg (ix3 i ⟨128 * T + r, by omega⟩ j) = ((gate b i c (start c T + order (back c) r) : ℝ) : EReal) := by
  rw [gate, time_at, ← hb]
  pointwise [cols]
  simp [hj]

theorem row_run (i : Fin 8) (T : Fin 32) (r : Fin 128) (c : Fin 16) (j : Fin 48) (hj : (j : ℕ) = c) :
    rows xg (ix3 i j ⟨128 * T + r, by omega⟩) = ((cum (gate g i c) (start c T) (order (back c) r + 1) : ℝ) : EReal) := by
  rw [← run_is hg]
  pointwise [rows]
  simp [hj]

theorem row_rest (i : Fin 8) (T : Fin 32) (r : Fin 128) (c : Fin 16) (j : Fin 48) (hj : (j : ℕ) = 16 + c) :
    rows xg (ix3 i j ⟨128 * T + r, by omega⟩)
      = ((Real.exp (cum (gate g i c) (start c T) 128 - cum (gate g i c) (start c T) (order (back c) r + 1)) : ℝ) : EReal) := by
  rw [← Ideal.exp_coe, EReal.coe_sub, ← run_is hg, ← total_is hg i T r c]
  pointwise [rows]
  simp [hj]

theorem row_total (i : Fin 8) (T : Fin 32) (r : Fin 128) (c : Fin 16) (j : Fin 48) (hj : (j : ℕ) = 32 + c) :
    rows xg (ix3 i j ⟨128 * T + r, by omega⟩) = ((Real.exp (cum (gate g i c) (start c T) 128) : ℝ) : EReal) := by
  rw [← Ideal.exp_coe, ← total_is hg i T r c]
  pointwise [rows]
  have e : 32 + (c : ℕ) - 16 - 16 = c := by omega
  simp only [hj]
  rw [dif_neg (by omega), dif_neg (by omega)]
  simp only [e]

end

end Cert.KernelIdeal.Host
-- ==== Proof.Loads.lean ====
/- What a grid point's blocks hold, loaded as the kernel's body loads them: a direction's block is 512 tokens of the arrays, and each load of
   128 of them is the next stretch of a chain in its own order. -/
module

public import proofs.«01_k».proof.Proof.Cases
public import proofs.«01_k».proof.Proof.HostRead

@[expose] public section

set_option maxRecDepth 16384

noncomputable section

namespace Cert.KernelIdeal.Pieces

open Cert.KernelIdeal Cert.KernelIdeal.Gen Cert.KernelIdeal.Chain Cert.KernelIdeal.Host Cert.Delta Idealize.ShloMosaic

/-! ## Loads at an index -/

theorem tile_at (a : Memref sig .tc .vmem S1x8x512x128 .bf16) (ha : a.IsWhole) (x : Vec Ideal S1x8x512x128 .bf16) (d : Bool) (h o : ℕ)
    (i e : Fin 128) :
    tile a ha x d h o (ix4 0 0 i e)
      = x (ix4 (0 : Fin 1) (⟨h % 8, by omega⟩ : Fin 8) (⟨tok d o + i, by have := tok_le d o; omega⟩ : Fin 512) e) := by
  refine (ha.readAt_unread x _ _).trans (congrArg x ?_)
  funext y
  apply Fin.ext
  fin_cases y
  · rfl
  · show h % 8 + 1 * 0 = h % 8
    omega
  · show tok d o + 1 * (i : ℕ) = tok d o + i
    omega
  · show 0 + 1 * (e : ℕ) = e
    omega

theorem turn_at (I : Inputs Ideal) (d : Bool) (h o : ℕ) (e j : Fin 128) :
    turn I d h o (ix4 0 0 e j)
      = I.xkt (ix4 (0 : Fin 1) (⟨h % 8, by omega⟩ : Fin 8) e (⟨tok d o + j, by have := tok_le d o; omega⟩ : Fin 512)) := by
  refine (I.hkt.readAt_unread I.xkt _ _).trans (congrArg I.xkt ?_)
  funext y
  apply Fin.ext
  fin_cases y
  · rfl
  · show h % 8 + 1 * 0 = h % 8
    omega
  · show 0 + 1 * (e : ℕ) = e
    omega
  · show tok d o + 1 * (j : ℕ) = tok d o + j
    omega

theorem lane_at (I : Inputs Ideal) (d : Bool) (h o g : ℕ) (hg : g < 3) (i : Fin 128) :
    lane I d h o g hg (ix3 0 i 0)
      = I.xcol (ix3 (0 : Fin 1) (⟨tok d o + i, by have := tok_le d o; omega⟩ : Fin 512) (⟨g * 16 + slot d h, (lane_lt g d h hg).trans (by decide)⟩ : Fin 128)) := by
  refine (I.hcol.readAt_unread I.xcol _ _).trans (congrArg I.xcol ?_)
  funext y
  apply Fin.ext
  fin_cases y
  · rfl
  · show tok d o + 1 * (i : ℕ) = tok d o + i
    omega
  · show g * 16 + slot d h + 1 * 0 = g * 16 + slot d h
    omega

theorem line_at (I : Inputs Ideal) (d : Bool) (h o g : ℕ) (hg : g < 3) (i : Fin 128) :
    line I d h o g hg (ix3 0 0 i)
      = I.xrow (ix3 (0 : Fin 1) (⟨g * 16 + slot d h, lane_lt g d h hg⟩ : Fin 48) (⟨tok d o + i, by have := tok_le d o; omega⟩ : Fin 512)) := by
  refine (I.hrow.readAt_unread I.xrow _ _).trans (congrArg I.xrow ?_)
  funext y
  apply Fin.ext
  fin_cases y
  · rfl
  · show g * 16 + slot d h + 1 * 0 = g * 16 + slot d h
    omega
  · show tok d o + 1 * (i : ℕ) = tok d o + i
    omega

/-! ## The blocks -/

/-- The blocks of a direction are 512 tokens of the arrays, the `p`-th of batch `i`. -/
structure Blocks (I : Inputs Ideal) (i p : Fin 8) (q k v : FVec Ideal S8x8x4096x128 .bf16) (kt : FVec Ideal S8x8x128x4096 .bf16)
    (col : FVec Ideal S8x4096x128 .f32) (row : FVec Ideal S8x48x4096 .f32) : Prop where
  q : ∀ (h : Fin 8) (r : Fin 512) (e : Fin 128), I.xq (ix4 (0 : Fin 1) h r e) = q (ix4 i h (⟨512 * p + r, by omega⟩ : Fin 4096) e)
  k : ∀ (h : Fin 8) (r : Fin 512) (e : Fin 128), I.xk (ix4 (0 : Fin 1) h r e) = k (ix4 i h (⟨512 * p + r, by omega⟩ : Fin 4096) e)
  v : ∀ (h : Fin 8) (r : Fin 512) (e : Fin 128), I.xv (ix4 (0 : Fin 1) h r e) = v (ix4 i h (⟨512 * p + r, by omega⟩ : Fin 4096) e)
  kt : ∀ (h : Fin 8) (e : Fin 128) (r : Fin 512), I.xkt (ix4 (0 : Fin 1) h e r) = kt (ix4 i h e (⟨512 * p + r, by omega⟩ : Fin 4096))
  col : ∀ (r : Fin 512) (j : Fin 128), I.xcol (ix3 (0 : Fin 1) r j) = col (ix3 i (⟨512 * p + r, by omega⟩ : Fin 4096) j)
  row : ∀ (j : Fin 48) (r : Fin 512), I.xrow (ix3 (0 : Fin 1) j r) = row (ix3 i j (⟨512 * p + r, by omega⟩ : Fin 4096))

/-- The block a direction has at the `n`-th point of a batch. -/
def at512 (d : Bool) (n : Fin 8) : Fin 8 := match d with | false => n | true => n.rev

/-- The stretch of 128 tokens in it that a group loads. -/
def at128 (d : Bool) (n : Fin 8) (o : ℕ) : Fin 32 := ⟨4 * at512 d n + tok d o / 128, by have := tok_le d o; have := (at512 d n).2; omega⟩

theorem at128_val (d : Bool) (n : Fin 8) (o : ℕ) (i : ℕ) : 512 * (at512 d n : ℕ) + (tok d o + i) = 128 * (at128 d n o : ℕ) + i := by
  have ht : tok d o = 128 * (tok d o / 128) := by cases d <;> simp only [tok] <;> omega
  simp only [at128]
  omega

theorem start_at (d : Bool) (h : ℕ) (n : Fin 8) (o : ℕ) : start (chainOf d h) (at128 d n o) = 512 * n + 128 * (o % 4) := by
  cases d
  · have hs : ((chainOf false h : Fin 16) : ℕ) < 8 := by show h % 8 < 8; omega
    rw [start, if_pos hs]
    simp only [at128, at512, tok]
    omega
  · have hs : ¬((chainOf true h : Fin 16) : ℕ) < 8 := by show ¬8 + h % 8 < 8; omega
    rw [start, if_neg hs]
    simp only [at128, at512, tok, Fin.val_rev]
    omega

theorem back_chain (d : Bool) (h : ℕ) : back (chainOf d h) = d := by
  cases d
  · exact decide_eq_false (by show ¬8 ≤ h % 8; omega)
  · exact decide_eq_true (by show 8 ≤ 8 + h % 8; omega)

theorem head_chain (d : Bool) (h : ℕ) : head (chainOf d h) = ⟨h % 8, by omega⟩ := by
  apply Fin.ext
  cases d <;> simp [head, chainOf, slot]

section
variable {I : Inputs Ideal} {i : Fin 8} {xq xk xv : FVec Ideal S8x8x4096x128 .bf16} {xb xg : FVec Ideal S8x4096x16 .f32}
  {q k v : Fin 8 → Fin 8 → Fin 4096 → Fin 128 → ℝ} {b g : Fin 8 → Fin 4096 → Fin 16 → ℝ}
  (hq : ∀ i h t e, xq (ix4 i h t e) = ((q i h t e : ℝ) : EReal)) (hk : ∀ i h t e, xk (ix4 i h t e) = ((k i h t e : ℝ) : EReal))
  (hv : ∀ i h t e, xv (ix4 i h t e) = ((v i h t e : ℝ) : EReal))
  (hb : ∀ i t j, xb (ix3 i t j) = ((b i t j : ℝ) : EReal)) (hg : ∀ i t j, xg (ix3 i t j) = ((g i t j : ℝ) : EReal))

theorem row_at (x : Fin 8 → Fin 8 → Fin 4096 → Fin 128 → ℝ) (d : Bool) (h : ℕ) (n : Fin 8) (o : ℕ) (r e : Fin 128) :
    row x i (chainOf d h) (512 * n + 128 * (o % 4) + order d r) e
      = x i ⟨h % 8, by omega⟩ ⟨512 * at512 d n + (tok d o + r), by have := (at512 d n).2; have := tok_le d o; omega⟩ e := by
  have ht := time_at (chainOf d h) (at128 d n o) r
  rw [start_at, back_chain] at ht
  rw [row, ht, head_chain]
  congr 2
  exact (at128_val d n o r).symm

include hq hk hv hb hg in
/-- So every load holds the chain's rows, in the chain's own order. -/
theorem Blocks.fits (d : Bool) (n : Fin 8) (B : Blocks I i (at512 d n) xq xk xv (keysT xk) (cols xb xg) (rows xg)) (h o : ℕ) :
    Fits I d h o (Cert.Delta.row q i (chainOf d h)) (Cert.Delta.row k i (chainOf d h)) (Cert.Delta.row v i (chainOf d h)) (gate b i (chainOf d h)) (gate g i (chainOf d h))
      (512 * n + 128 * (o % 4)) := by
  have hs := start_at d h n o
  have hd := back_chain d h
  have hp : ∀ r : Fin 128, (⟨512 * at512 d n + (tok d o + r), by have := (at512 d n).2; have := tok_le d o; omega⟩ : Fin 4096)
      = ⟨128 * at128 d n o + r, by have := (at128 d n o).2; omega⟩ := fun r => Fin.ext (at128_val d n o r)
  refine ⟨fun r e => ?_, fun r e => ?_, fun r e => ?_, fun e r => ?_, fun r => ?_, fun r => ?_, fun r => ?_, fun r => ?_, fun r => ?_⟩
  · rw [tile_at, B.q, row_at, hq]
  · rw [tile_at, B.k, row_at, hk]
  · rw [tile_at, B.v, row_at, hv]
  · rw [turn_at, B.kt, keysT_at, row_at, hk]
  · rw [lane_at, B.col, hp, col_run hg i (at128 d n o) r (chainOf d h) _ (by show 0 * 16 + slot d h = slot d h; omega), hs, hd]
  · rw [lane_at, B.col, hp, col_rate hb i (at128 d n o) r (chainOf d h) _ (by show 1 * 16 + slot d h = 16 + slot d h; omega), hs, hd]
  · rw [line_at, B.row, hp, row_run hg i (at128 d n o) r (chainOf d h) _ (by show 0 * 16 + slot d h = slot d h; omega), hs, hd]
  · rw [line_at, B.row, hp, row_rest hg i (at128 d n o) r (chainOf d h) _ (by show 1 * 16 + slot d h = 16 + slot d h; omega), hs, hd]
  · rw [line_at, B.row, hp, row_total hg i (at128 d n o) r (chainOf d h) _ (by show 2 * 16 + slot d h = 32 + slot d h; omega), hs]

end

end Cert.KernelIdeal.Pieces

end
-- ==== Proof.Grid.lean ====
/- The grid: point `t` is the `t % 8`-th point of batch `t / 8`. Its blocks are 512 tokens of the arrays, from the front for the forward
   direction and from the end for the backward one; point by point the scratch then holds the chains' states. -/
module

public import proofs.«01_k».proof.Proof.Loads
public import Idealize.ShloMosaic.Lib.Pipeline.ValueKit.Point

@[expose] public section

set_option maxRecDepth 16384

noncomputable section

namespace Cert.KernelIdeal.Grid

open Cert.KernelIdeal Cert.KernelIdeal.Gen Cert.KernelIdeal.Pieces Cert.KernelIdeal.Host Cert.Delta Idealize.ShloMosaic
open Idealize.ShloMosaic.TcCoe Idealize.SL.Sem

theorem lt64 (t : Fin cfg0.N) : (t : ℕ) < 64 := lt_of_lt_of_eq t.2 N_0

/-- A point's batch, and its place in the batch. -/
def batch (t : Fin cfg0.N) : Fin 8 := ⟨t / 8, by have := lt64 t; omega⟩
def point (t : Fin cfg0.N) : Fin 8 := ⟨t % 8, by omega⟩

theorem index0 : ∀ t : Fin cfg0.N, win0_0.index t = ![(t : ℕ) / 8, 0, (t : ℕ) % 8, 0] :=
  (by decide +kernel : ∀ t : Fin grid0.N, win0_0.index t = ![(t : ℕ) / 8, 0, (t : ℕ) % 8, 0])
theorem index1 : ∀ t : Fin cfg0.N, win0_1.index t = ![(t : ℕ) / 8, 0, (t : ℕ) % 8, 0] :=
  (by decide +kernel : ∀ t : Fin grid0.N, win0_1.index t = ![(t : ℕ) / 8, 0, (t : ℕ) % 8, 0])
theorem index2 : ∀ t : Fin cfg0.N, win0_2.index t = ![(t : ℕ) / 8, 0, (t : ℕ) % 8, 0] :=
  (by decide +kernel : ∀ t : Fin grid0.N, win0_2.index t = ![(t : ℕ) / 8, 0, (t : ℕ) % 8, 0])
theorem index3 : ∀ t : Fin cfg0.N, win0_3.index t = ![(t : ℕ) / 8, 0, 0, (t : ℕ) % 8] :=
  (by decide +kernel : ∀ t : Fin grid0.N, win0_3.index t = ![(t : ℕ) / 8, 0, 0, (t : ℕ) % 8])
theorem index4 : ∀ t : Fin cfg0.N, win0_4.index t = ![(t : ℕ) / 8, (t : ℕ) % 8, 0] :=
  (by decide +kernel : ∀ t : Fin grid0.N, win0_4.index t = ![(t : ℕ) / 8, (t : ℕ) % 8, 0])
theorem index5 : ∀ t : Fin cfg0.N, win0_5.index t = ![(t : ℕ) / 8, 0, (t : ℕ) % 8] :=
  (by decide +kernel : ∀ t : Fin grid0.N, win0_5.index t = ![(t : ℕ) / 8, 0, (t : ℕ) % 8])
theorem index6 : ∀ t : Fin cfg0.N, win0_6.index t = ![(t : ℕ) / 8, 0, 7 - (t : ℕ) % 8, 0] :=
  (by decide +kernel : ∀ t : Fin grid0.N, win0_6.index t = ![(t : ℕ) / 8, 0, 7 - (t : ℕ) % 8, 0])
theorem index7 : ∀ t : Fin cfg0.N, win0_7.index t = ![(t : ℕ) / 8, 0, 7 - (t : ℕ) % 8, 0] :=
  (by decide +kernel : ∀ t : Fin grid0.N, win0_7.index t = ![(t : ℕ) / 8, 0, 7 - (t : ℕ) % 8, 0])
theorem index8 : ∀ t : Fin cfg0.N, win0_8.index t = ![(t : ℕ) / 8, 0, 7 - (t : ℕ) % 8, 0] :=
  (by decide +kernel : ∀ t : Fin grid0.N, win0_8.index t = ![(t : ℕ) / 8, 0, 7 - (t : ℕ) % 8, 0])
theorem index9 : ∀ t : Fin cfg0.N, win0_9.index t = ![(t : ℕ) / 8, 0, 0, 7 - (t : ℕ) % 8] :=
  (by decide +kernel : ∀ t : Fin grid0.N, win0_9.index t = ![(t : ℕ) / 8, 0, 0, 7 - (t : ℕ) % 8])
theorem index10 : ∀ t : Fin cfg0.N, win0_10.index t = ![(t : ℕ) / 8, 7 - (t : ℕ) % 8, 0] :=
  (by decide +kernel : ∀ t : Fin grid0.N, win0_10.index t = ![(t : ℕ) / 8, 7 - (t : ℕ) % 8, 0])
theorem index11 : ∀ t : Fin cfg0.N, win0_11.index t = ![(t : ℕ) / 8, 0, 7 - (t : ℕ) % 8] :=
  (by decide +kernel : ∀ t : Fin grid0.N, win0_11.index t = ![(t : ℕ) / 8, 0, 7 - (t : ℕ) % 8])

variable (m : (ℓ : Loc nD τ sig) → Buf (Elt Ideal) ℓ) (c : Dev nD)

/-- What a point's body loads from. -/
def given (t : Fin cfg0.N) : Bool → Inputs Ideal :=
  inputs (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)

theorem at512_true (t : Fin cfg0.N) : (at512 true (point t) : ℕ) = 7 - (t : ℕ) % 8 := by
  simp only [at512, point, Fin.val_rev]
  omega

theorem batch_val (t : Fin cfg0.N) : ((batch t : Fin 8) : ℕ) = (t : ℕ) / 8 := rfl
theorem at512_false (t : Fin cfg0.N) : ((at512 false (point t) : Fin 8) : ℕ) = (t : ℕ) % 8 := rfl

/-! Each window's block, as a stretch of its array. -/

theorem block0 (t : Fin cfg0.N) (h : Fin 8) (r : Fin 512) (e : Fin 128) : iblk m c 0 t (ix4 (0 : Fin 1) h r e)
    = V m c main_arg0 (ix4 (batch t) h (⟨512 * at512 false (point t) + r, by have := (at512 false (point t)).2; omega⟩ : Fin 4096) e) := by
  blk_ext [iblk, index0 t, batch_val, at512_false]

theorem block1 (t : Fin cfg0.N) (h : Fin 8) (r : Fin 512) (e : Fin 128) : iblk m c 1 t (ix4 (0 : Fin 1) h r e)
    = V m c main_arg1 (ix4 (batch t) h (⟨512 * at512 false (point t) + r, by have := (at512 false (point t)).2; omega⟩ : Fin 4096) e) := by
  blk_ext [iblk, index1 t, batch_val, at512_false]

theorem block2 (t : Fin cfg0.N) (h : Fin 8) (r : Fin 512) (e : Fin 128) : iblk m c 2 t (ix4 (0 : Fin 1) h r e)
    = V m c main_arg2 (ix4 (batch t) h (⟨512 * at512 false (point t) + r, by have := (at512 false (point t)).2; omega⟩ : Fin 4096) e) := by
  blk_ext [iblk, index2 t, batch_val, at512_false]

theorem block3 (t : Fin cfg0.N) (h : Fin 8) (e : Fin 128) (r : Fin 512) : iblk m c 3 t (ix4 (0 : Fin 1) h e r)
    = V m c main_v0 (ix4 (batch t) h e (⟨512 * at512 false (point t) + r, by have := (at512 false (point t)).2; omega⟩ : Fin 4096)) := by
  blk_ext [iblk, index3 t, batch_val, at512_false]

theorem block4 (t : Fin cfg0.N) (r : Fin 512) (j : Fin 128) : iblk m c 4 t (ix3 (0 : Fin 1) r j)
    = V m c main_v22 (ix3 (batch t) (⟨512 * at512 false (point t) + r, by have := (at512 false (point t)).2; omega⟩ : Fin 4096) j) := by
  blk_ext [iblk, index4 t, batch_val, at512_false]

theorem block5 (t : Fin cfg0.N) (j : Fin 48) (r : Fin 512) : iblk m c 5 t (ix3 (0 : Fin 1) j r)
    = V m c main_v27 (ix3 (batch t) j (⟨512 * at512 false (point t) + r, by have := (at512 false (point t)).2; omega⟩ : Fin 4096)) := by
  blk_ext [iblk, index5 t, batch_val, at512_false]

theorem block6 (t : Fin cfg0.N) (h : Fin 8) (r : Fin 512) (e : Fin 128) : iblk m c 6 t (ix4 (0 : Fin 1) h r e)
    = V m c main_arg0 (ix4 (batch t) h (⟨512 * at512 true (point t) + r, by have := (at512 true (point t)).2; omega⟩ : Fin 4096) e) := by
  blk_ext [iblk, index6 t, batch_val, at512_true]

theorem block7 (t : Fin cfg0.N) (h : Fin 8) (r : Fin 512) (e : Fin 128) : iblk m c 7 t (ix4 (0 : Fin 1) h r e)
    = V m c main_arg1 (ix4 (batch t) h (⟨512 * at512 true (point t) + r, by have := (at512 true (point t)).2; omega⟩ : Fin 4096) e) := by
  blk_ext [iblk, index7 t, batch_val, at512_true]

theorem block8 (t : Fin cfg0.N) (h : Fin 8) (r : Fin 512) (e : Fin 128) : iblk m c 8 t (ix4 (0 : Fin 1) h r e)
    = V m c main_arg2 (ix4 (batch t) h (⟨512 * at512 true (point t) + r, by have := (at512 true (point t)).2; omega⟩ : Fin 4096) e) := by
  blk_ext [iblk, index8 t, batch_val, at512_true]

theorem block9 (t : Fin cfg0.N) (h : Fin 8) (e : Fin 128) (r : Fin 512) : iblk m c 9 t (ix4 (0 : Fin 1) h e r)
    = V m c main_v0 (ix4 (batch t) h e (⟨512 * at512 true (point t) + r, by have := (at512 true (point t)).2; omega⟩ : Fin 4096)) := by
  blk_ext [iblk, index9 t, batch_val, at512_true]

theorem block10 (t : Fin cfg0.N) (r : Fin 512) (j : Fin 128) : iblk m c 10 t (ix3 (0 : Fin 1) r j)
    = V m c main_v22 (ix3 (batch t) (⟨512 * at512 true (point t) + r, by have := (at512 true (point t)).2; omega⟩ : Fin 4096) j) := by
  blk_ext [iblk, index10 t, batch_val, at512_true]

theorem block11 (t : Fin cfg0.N) (j : Fin 48) (r : Fin 512) : iblk m c 11 t (ix3 (0 : Fin 1) j r)
    = V m c main_v27 (ix3 (batch t) j (⟨512 * at512 true (point t) + r, by have := (at512 true (point t)).2; omega⟩ : Fin 4096)) := by
  blk_ext [iblk, index11 t, batch_val, at512_true]

set_option maxHeartbeats 4000000 in
/-- Each direction's blocks are the arrays' as the call takes them. -/
theorem blocks_taken (t : Fin cfg0.N) (d : Bool) : Blocks (given m c t d) (batch t) (at512 d (point t))
    (V m c main_arg0) (V m c main_arg1) (V m c main_arg2) (V m c main_v0) (V m c main_v22) (V m c main_v27) := by
  cases d
  · constructor
    · exact fun h r e => block0 m c t h r e
    · exact fun h r e => block1 m c t h r e
    · exact fun h r e => block2 m c t h r e
    · exact fun h e r => block3 m c t h e r
    · exact fun r j => block4 m c t r j
    · exact fun j r => block5 m c t j r
  · constructor
    · exact fun h r e => block6 m c t h r e
    · exact fun h r e => block7 m c t h r e
    · exact fun h r e => block8 m c t h r e
    · exact fun h e r => block9 m c t h e r
    · exact fun r j => block10 m c t r j
    · exact fun j r => block11 m c t j r

theorem blocks (t : Fin cfg0.N) (d : Bool) : Blocks (given m c t d) (batch t) (at512 d (point t))
    (m ((c : Thread nD τ).loc main_arg0)) (m ((c : Thread nD τ).loc main_arg1)) (m ((c : Thread nD τ).loc main_arg2))
    (keysT (m ((c : Thread nD τ).loc main_arg1))) (cols (m ((c : Thread nD τ).loc main_arg3)) (m ((c : Thread nD τ).loc main_arg4)))
    (rows (m ((c : Thread nD τ).loc main_arg4))) := by
  have h := blocks_taken m c t d
  rw [V_main_arg0, V_main_arg1, V_main_arg2, V_keysT, V_cols, V_rows] at h
  exact h

end Cert.KernelIdeal.Grid

end
-- ==== Proof.Steps.lean ====
/- Point by point: what a grid point leaves is its stores read back; by induction the scratch after each point holds the states of its
   batch's sixteen chains, and the two output blocks hold the chains' read-outs. -/
module

public import proofs.«01_k».proof.Proof.Grid
public import proofs.«01_k».proof.Proof.Gen.KernelIdeal.Frame

@[expose] public section

set_option maxRecDepth 16384

noncomputable section

namespace Cert.KernelIdeal.Grid

open Cert.KernelIdeal Cert.KernelIdeal.Gen Cert.KernelIdeal.Pieces Cert.KernelIdeal.Host Cert.Delta Idealize.ShloMosaic
open Idealize.ShloMosaic.TcCoe Idealize.SL.Sem

variable (m : (ℓ : Loc nD τ sig) → Buf (Elt Ideal) ℓ) (c : Dev nD)

/-- A point's three results: the blocks of the two outputs, and the scratch. -/
def results (I : Bool → Inputs Ideal) (init : List (View.Piece (Elt Ideal) S16x128x128 .f32))
    (load : ℕ → List (View.Piece (Elt Ideal) S16x128x128 .f32) → Vec Ideal S1x128x128 .f32) :
    Vec Ideal S1x8x512x128 .bf16 × Vec Ideal S1x8x512x128 .bf16 × Vec Ideal S16x128x128 .f32 :=
  (View.canon (outs false I init load 32), View.canon (outs true I init load 32), View.canon (states I init load 64))

theorem left_first (t : Fin cfg0.N) (h0 : (t : ℕ) % 8 = 0) :
    outsAt0 m c t.val t.isLt = results (given m c t) blank (loadA scM0_0) :=
  (outsAt0_A m c t h0).trans (congrArg₂ Prod.mk ((View.read_writes_junk_eq_canon _ _).trans (congrArg View.canon (outs_A ..)))
    (congrArg₂ Prod.mk ((View.read_writes_junk_eq_canon _ _).trans (congrArg View.canon (backs_A ..)))
      ((View.read_writes_junk_eq_canon _ _).trans (congrArg View.canon (states_A ..)))))

theorem left_later (t : Fin cfg0.N) (h0 : ¬(t : ℕ) % 8 = 0) :
    outsAt0 m c t.val t.isLt = results (given m c t) [] (loadB scM0_0 (Memref.isWhole_whole _)
      (outsAt0 m c (t.val - 1) (Nat.lt_of_le_of_lt (Nat.sub_le _ _) t.isLt)).2.2) :=
  (outsAt0_B m c t h0).trans (congrArg₂ Prod.mk ((View.read_writes_junk_eq_canon _ _).trans (congrArg View.canon (outs_B ..)))
    (congrArg₂ Prod.mk ((View.read_writes_junk_eq_canon _ _).trans (congrArg View.canon (backs_B ..)))
      ((View.read_writes_junk_eq_canon _ _).trans (congrArg View.canon (states_B ..)))))

variable {q k v : Fin 8 → Fin 8 → Fin 4096 → Fin 128 → ℝ} {b g : Fin 8 → Fin 4096 → Fin 16 → ℝ}

/-- The five arguments hold these reals. -/
structure Holds (q k v : Fin 8 → Fin 8 → Fin 4096 → Fin 128 → ℝ) (b g : Fin 8 → Fin 4096 → Fin 16 → ℝ) : Prop where
  q : ∀ i h t e, (m ((c : Thread nD τ).loc main_arg0) : FVec Ideal S8x8x4096x128 .bf16) (ix4 i h t e) = ((q i h t e : ℝ) : EReal)
  k : ∀ i h t e, (m ((c : Thread nD τ).loc main_arg1) : FVec Ideal S8x8x4096x128 .bf16) (ix4 i h t e) = ((k i h t e : ℝ) : EReal)
  v : ∀ i h t e, (m ((c : Thread nD τ).loc main_arg2) : FVec Ideal S8x8x4096x128 .bf16) (ix4 i h t e) = ((v i h t e : ℝ) : EReal)
  b : ∀ i t j, (m ((c : Thread nD τ).loc main_arg3) : FVec Ideal S8x4096x16 .f32) (ix3 i t j) = ((b i t j : ℝ) : EReal)
  g : ∀ i t j, (m ((c : Thread nD τ).loc main_arg4) : FVec Ideal S8x4096x16 .f32) (ix3 i t j) = ((g i t j : ℝ) : EReal)

variable {m c}

/-- So each load at a point holds its chain's rows. -/
theorem Holds.fits (H : Holds m c q k v b g) (t : Fin cfg0.N) (d : Bool) (h o : ℕ) :
    Fits (given m c t d) d h o (row q (batch t) (chainOf d h)) (row k (batch t) (chainOf d h)) (row v (batch t) (chainOf d h))
      (gate b (batch t) (chainOf d h)) (gate g (batch t) (chainOf d h)) (512 * (point t : ℕ) + 128 * (o % 4)) :=
  Blocks.fits H.q H.k H.v H.b H.g d (point t) (blocks m c t d) h o

/-- What a point leaves, for the chains of its batch. -/
structure Left (q k v : Fin 8 → Fin 8 → Fin 4096 → Fin 128 → ℝ) (b g : Fin 8 → Fin 4096 → Fin 16 → ℝ) (t : Fin cfg0.N)
    (z : Vec Ideal S1x8x512x128 .bf16 × Vec Ideal S1x8x512x128 .bf16 × Vec Ideal S16x128x128 .f32) : Prop where
  front : ∀ (h : Fin 8) (r : Fin 512) (e : Fin 128), z.1 (ix4 0 h r e) = ((read (row q (batch t) (chainOf false h)) (row k (batch t) (chainOf false h))
    (row v (batch t) (chainOf false h)) (gate b (batch t) (chainOf false h)) (gate g (batch t) (chainOf false h))
    (512 * (point t : ℕ) + place512 false r) e : ℝ) : EReal)
  back : ∀ (h : Fin 8) (r : Fin 512) (e : Fin 128), z.2.1 (ix4 0 h r e) = ((read (row q (batch t) (chainOf true h)) (row k (batch t) (chainOf true h))
    (row v (batch t) (chainOf true h)) (gate b (batch t) (chainOf true h)) (gate g (batch t) (chainOf true h))
    (512 * (point t : ℕ) + place512 true r) e : ℝ) : EReal)
  scratch : ∀ (j : Fin 16) (a e : Fin 128), z.2.2 (ix3 j a e) = ((state (row k (batch t) j) (row v (batch t) j) (gate b (batch t) j)
    (gate g (batch t) j) (512 * (point t : ℕ) + 512) a e : ℝ) : EReal)

theorem left_of_given {t : Fin cfg0.N} {I : Bool → Inputs Ideal} {init : List (View.Piece (Elt Ideal) S16x128x128 .f32)}
    {load : ℕ → List (View.Piece (Elt Ideal) S16x128x128 .f32) → Vec Ideal S1x128x128 .f32} {S : Vec Ideal S16x128x128 .f32}
    (G : Given I init load S (row q (batch t)) (row k (batch t)) (row v (batch t)) (gate b (batch t)) (gate g (batch t)) (512 * (point t : ℕ))) :
    Left q k v b g t (results I init load) := by
  constructor <;> dsimp only [results]
  · exact G.outs_is false
  · exact G.outs_is true
  · exact G.left_is

/-- Every point leaves that: the first of a batch begins from zero, a later one from what the point before left. -/
theorem Holds.left (H : Holds m c q k v b g) (n : ℕ) : ∀ hn : n < cfg0.N, Left q k v b g ⟨n, hn⟩ (outsAt0 m c n hn) := by
  induction n with
  | zero =>
    intro hn
    rw [left_first m c ⟨0, hn⟩ rfl]
    exact left_of_given (given_first scM0_0 fun d h o => H.fits ⟨0, hn⟩ d h o)
  | succ n ih =>
    intro hn
    by_cases h0 : (n + 1) % 8 = 0
    · rw [left_first m c ⟨n + 1, hn⟩ h0]
      have hp : 512 * ((point ⟨n + 1, hn⟩ : Fin 8) : ℕ) = 0 := by show 512 * ((n + 1) % 8) = 0; omega
      refine left_of_given (S := unset) ?_
      rw [hp]
      refine given_first scM0_0 fun d h o => ?_
      rw [← hp]
      exact H.fits ⟨n + 1, hn⟩ d h o
    · rw [left_later m c ⟨n + 1, hn⟩ h0]
      have L := ih (Nat.lt_of_succ_lt hn)
      refine left_of_given (given_later scM0_0 (Memref.isWhole_whole _) _ _ (fun d h o => H.fits ⟨n + 1, hn⟩ d h o) fun j a e => ?_)
      have hb : batch ⟨n + 1, hn⟩ = batch ⟨n, Nat.lt_of_succ_lt hn⟩ := Fin.ext (by show (n + 1) / 8 = n / 8; omega)
      have hp : 512 * ((point ⟨n + 1, hn⟩ : Fin 8) : ℕ) = 512 * ((point ⟨n, Nat.lt_of_succ_lt hn⟩ : Fin 8) : ℕ) + 512 := by
        show 512 * ((n + 1) % 8) = 512 * (n % 8) + 512
        omega
      rw [hb, hp]
      exact L.scratch j a e

end Cert.KernelIdeal.Grid

end
-- ==== Proof.Final.lean ====
/- The two output arrays after the run: at every batch, head and time, the read-out of the chain that takes the token there. -/
module

public import proofs.«01_k».proof.Proof.Steps
public import proofs.«01_k».proof.Proof.Gen.KernelIdeal.Value

@[expose] public section

set_option maxRecDepth 16384

noncomputable section

namespace Cert.KernelIdeal.Grid

open Cert.KernelIdeal Cert.KernelIdeal.Gen Cert.KernelIdeal.Pieces Cert.KernelIdeal.Host Cert.Delta Idealize.ShloMosaic
open Idealize.ShloMosaic.TcCoe Idealize.SL.Sem
open Idealize.ShloMosaic.Pipeline (Dat)

theorem index12 : ∀ t : Fin cfg0.N, win0_12.index t = ![(t : ℕ) / 8, 0, (t : ℕ) % 8, 0] :=
  (by decide +kernel : ∀ t : Fin grid0.N, win0_12.index t = ![(t : ℕ) / 8, 0, (t : ℕ) % 8, 0])
theorem index13 : ∀ t : Fin cfg0.N, win0_13.index t = ![(t : ℕ) / 8, 0, 7 - (t : ℕ) % 8, 0] :=
  (by decide +kernel : ∀ t : Fin grid0.N, win0_13.index t = ![(t : ℕ) / 8, 0, 7 - (t : ℕ) % 8, 0])

/-- Where an output block lies in its array. -/
theorem out12 (t : Fin cfg0.N) (h : Fin 8) (r : Fin 512) (e : Fin 128) : (win0_12.blk t).view.emb (ix4 (0 : Fin 1) h r e)
    = ix4 (batch t) h (⟨512 * ((t : ℕ) % 8) + r, by omega⟩ : Fin 4096) e := by
  blk_ext [index12 t, batch_val]

theorem out13 (t : Fin cfg0.N) (h : Fin 8) (r : Fin 512) (e : Fin 128) : (win0_13.blk t).view.emb (ix4 (0 : Fin 1) h r e)
    = ix4 (batch t) h (⟨512 * (7 - (t : ℕ) % 8) + r, by omega⟩ : Fin 4096) e := by
  blk_ext [index13 t, batch_val]

variable (q k v : Fin 8 → Fin 8 → Fin 4096 → Fin 128 → ℝ) (b g : Fin 8 → Fin 4096 → Fin 16 → ℝ)

/-- The read-out of a head in one direction, after the tokens before the `n`-th. -/
def readOut (d : Bool) (i h : Fin 8) (n : ℕ) (e : Fin 128) : ℝ :=
  read (row q i (chainOf d h)) (row k i (chainOf d h)) (row v i (chainOf d h)) (gate b i (chainOf d h)) (gate g i (chainOf d h)) n e

/-- The two arrays: forward read-outs at their times, and backward ones at the reversed times. -/
def frontOut : FVec Ideal S8x8x4096x128 .bf16 := fun y => ((readOut q k v b g false (y 0 : Fin 8) (y 1 : Fin 8) (y 2 : Fin 4096) (y 3 : Fin 128) : ℝ) : EReal)
def backOut : FVec Ideal S8x8x4096x128 .bf16 := fun y => ((readOut q k v b g true (y 0 : Fin 8) (y 1 : Fin 8) (Fin.rev (y 2 : Fin 4096)) (y 3 : Fin 128) : ℝ) : EReal)

variable {q k v b g} {m : (ℓ : Loc nD τ sig) → Buf (Elt Ideal) ℓ} {c : Dev nD}

theorem Holds.front (H : Holds m c q k v b g) : (dats m 0 c).arrAt 12 cfg0.N = frontOut q k v b g := by
  refine (dats m 0 c).arrAt_eq_of_covers 12 _ (by decide +kernel) fun t hf y => ?_
  blk_simp
  rw [after0_12]
  obtain ⟨z, h, r, e, rfl⟩ : ∃ (z : Fin 1) (h : Fin 8) (r : Fin 512) (e : Fin 128), y = ix4 z h r e := ⟨y 0, y 1, y 2, y 3, eq_ix4 y⟩
  obtain rfl : z = 0 := Subsingleton.elim _ _
  exact ((H.left t.val t.isLt).front h r e).trans (congrArg (frontOut q k v b g) (out12 t h r e)).symm

theorem Holds.back (H : Holds m c q k v b g) : (dats m 0 c).arrAt 13 cfg0.N = backOut q k v b g := by
  refine (dats m 0 c).arrAt_eq_of_covers 13 _ (by decide +kernel) fun t hf y => ?_
  blk_simp
  rw [after0_13]
  obtain ⟨z, h, r, e, rfl⟩ : ∃ (z : Fin 1) (h : Fin 8) (r : Fin 512) (e : Fin 128), y = ix4 z h r e := ⟨y 0, y 1, y 2, y 3, eq_ix4 y⟩
  obtain rfl : z = 0 := Subsingleton.elim _ _
  refine ((H.left t.val t.isLt).back h r e).trans (Eq.trans ?_ (congrArg (backOut q k v b g) (out13 t h r e)).symm)
  have hn : 512 * ((point t : Fin 8) : ℕ) + place512 true r = ((Fin.rev (⟨512 * (7 - (t : ℕ) % 8) + r, by omega⟩ : Fin 4096) : Fin 4096) : ℕ) := by
    show 512 * ((t : ℕ) % 8) + (511 - r) = 4096 - (512 * (7 - (t : ℕ) % 8) + r + 1)
    omega
  rw [hn]
  rfl

end Cert.KernelIdeal.Grid

end
-- ==== Proof.Finite.lean ====
/- An array whose absolute values are all below infinity holds reals; so under the precondition the five arguments do. -/
module

public import proofs.«01_k».proof.Defs
public import proofs.«01_k».proof.Proof.Steps

@[expose] public section

set_option maxRecDepth 16384

noncomputable section

namespace Cert.Pre_finite

open Idealize.ShloMosaic

/-- The predicate's shapes broadcast. -/
theorem shapes : Facts := ⟨by decide, by decide⟩

theorem inf_bf16 : (FloatOps.ofBits .bf16 0x7F80#16 : Ideal .bf16) = (⊤ : EReal) := by
  simp [Ideal.ofBits, Ideal.ieee]

theorem inf_f32 : (FloatOps.ofBits .f32 0x7F800000#32 : Ideal .f32) = (⊤ : EReal) := by
  simp [Ideal.ofBits, Ideal.ieee]

/-- A value whose absolute value is below infinity is its own real part. -/
theorem real_of_lt {φ : FTy} {x z : Ideal φ} (hz : z = (⊤ : EReal)) (h : FloatOps.cmpf .olt (FloatOps.hostAbsf x) z = 1#1) :
    x = ((EReal.toReal x : ℝ) : EReal) := by
  subst hz
  have h' : BitVec.ofBool (decide (max (x : EReal) (-x) < ⊤)) = 1#1 := h
  have hlt : max (x : EReal) (-x) < ⊤ := by
    by_contra hn
    rw [decide_eq_false hn] at h'
    exact absurd h' (by decide)
  have hm := max_lt_iff.mp hlt
  refine (EReal.coe_toReal (ne_of_lt hm.1) fun hb => ?_).symm
  have h2 := hm.2
  rw [hb, EReal.neg_bot] at h2
  exact lt_irrefl _ h2

variable {m : (ℓ : Loc KernelIdeal.nD KernelIdeal.τ KernelIdeal.sig) → Buf (Elt Ideal) ℓ}

open Cert.KernelIdeal in
/-- Under the precondition each argument holds the reals that its values are. -/
theorem holds [Facts] (h : Pre_KernelIdeal_finite m) (c : Dev nD) : Grid.Holds m c
    (fun i h t e => EReal.toReal ((m ((c.tc : Thread nD τ).loc main_arg0) : FVec Ideal S8x8x4096x128 .bf16) (ix4 i h t e)))
    (fun i h t e => EReal.toReal ((m ((c.tc : Thread nD τ).loc main_arg1) : FVec Ideal S8x8x4096x128 .bf16) (ix4 i h t e)))
    (fun i h t e => EReal.toReal ((m ((c.tc : Thread nD τ).loc main_arg2) : FVec Ideal S8x8x4096x128 .bf16) (ix4 i h t e)))
    (fun i t j => EReal.toReal ((m ((c.tc : Thread nD τ).loc main_arg3) : FVec Ideal S8x4096x16 .f32) (ix3 i t j)))
    (fun i t j => EReal.toReal ((m ((c.tc : Thread nD τ).loc main_arg4) : FVec Ideal S8x4096x16 .f32) (ix3 i t j))) where
  q i h' t e := real_of_lt inf_bf16 (congrFun (h c).1 (ix4 i h' t e))
  k i h' t e := real_of_lt inf_bf16 (congrFun (h c).2.1 (ix4 i h' t e))
  v i h' t e := real_of_lt inf_bf16 (congrFun (h c).2.2.1 (ix4 i h' t e))
  b i t j := real_of_lt inf_f32 (congrFun (h c).2.2.2.1 (ix3 i t j))
  g i t j := real_of_lt inf_f32 (congrFun (h c).2.2.2.2 (ix3 i t j))

end Cert.Pre_finite

end
-- ==== Proof.Layer.lean ====
/- A feed-forward layer, row by row: its stages as functions of a row, the kernel's stages on a tile of 512 rows, and each of these at an index.
   The kernel takes the 2816 hidden columns 256 at a time, and adds what each block of them gives. -/
module

public import proofs.«01_k».proof.Proof.Gen.FfnIdeal.Skeleton
public import Idealize.ShloMosaic.Lib.Pointwise

@[expose] public section

set_option maxRecDepth 16384

noncomputable section

namespace Cert.Layer

open Cert.FfnIdeal Cert.FfnIdeal.Gen Idealize.ShloMosaic

/-! ## On a row -/

/-- A row over the root of its mean square, times a gain; `n` is the word of the row's length. -/
def rms {d : ℕ} (n : BitVec 32) (x g : Fin d → EReal) : Fin d → EReal := fun j =>
  x j * Ideal.rsqrt (Ideal.div (∑ k, x k * x k) (Ideal.ofBits FTy.f32 n) + Ideal.ofBits FTy.f32 0x358637BD#32) * g j

/-- A row times a matrix. -/
def times {d e : ℕ} (x : Fin d → EReal) (w : Fin d → Fin e → EReal) : Fin e → EReal := fun j => ∑ k, x k * w k j

/-- A number times its logistic. -/
def silu (a : EReal) : EReal := a * Ideal.div 1 (1 + Ideal.exp (0 - a))

section
variable (x : Fin 1024 → EReal) (win : Fin 1024 → Fin 5632 → EReal) (wout : Fin 2816 → Fin 1024 → EReal)

/-- The layer's hidden row: half of the columns gate the other half. -/
def hidden : Fin 2816 → EReal := fun k => silu (times x win ⟨k, by omega⟩) * times x win ⟨2816 + k, by omega⟩

/-- The layer with its two norms, added to its input. -/
def layer (pre post : Fin 1024 → EReal) : Fin 1024 → EReal := fun j =>
  x j + Ideal.ofBits FTy.f32 0x3F000000#32 * rms 0x44800000#32 (times (hidden (rms 0x44800000#32 x pre) win) wout) post j

/-- What hidden column `k` adds to output column `j`. -/
def term (j : Fin 1024) (k : ℕ) : EReal := if h : k < 2816 then hidden x win ⟨k, h⟩ * wout ⟨k, h⟩ j else 0

/-- What the first `n` blocks of hidden columns add. -/
def upto (j : Fin 1024) (n : ℕ) : EReal := ∑ k ∈ Finset.range (256 * n), term x win wout j k

theorem upto_zero (j : Fin 1024) : upto x win wout j 0 = 0 := by simp [upto]

theorem upto_succ (j : Fin 1024) (n : ℕ) : upto x win wout j n + ∑ y : Fin 256, term x win wout j (256 * n + y) = upto x win wout j (n + 1) := by
  rw [upto, upto, Nat.mul_succ, Finset.sum_range_add, Finset.sum_range (fun k => term x win wout j (256 * n + k))]

theorem upto_all (j : Fin 1024) : upto x win wout j 11 = times (hidden x win) wout j := by
  rw [upto, Finset.sum_range, times]
  refine Finset.sum_congr rfl fun k _ => ?_
  rw [term, dif_pos k.2]

end

/-! ## On a tile -/

/-- `rms` of each row. -/
def normed (x : FVec Ideal S512x1024 .f32) (g : FVec Ideal S1x1024 .f32) : FVec Ideal S512x1024 .f32 :=
  mulf (mulf x (broadcastTo S512x1024 (rsqrt (addf
    (divf (shapeCast S512x1 (multiReduction .add [1] S512 (mulf x x) 0x00000000#32 reduces_S512x1024_S512 (.inl rfl) rfl) shapeCasts_S512_S512x1)
      (broadcast S512x1 (Scalar.ofBits .f32 0x44800000#32)))
    (broadcast S512x1 (Scalar.ofBits .f32 0x358637BD#32)))) broadcasts_S512x1_S512x1024)) (broadcastTo S512x1024 g broadcasts_S1x1024_S512x1024)

/-- A row of a matrix. -/
abbrev row {r d : ℕ} {φ : FTy} (x : FVec Ideal ⟨2, ![r, d]⟩ φ) (i : Fin r) : Fin d → EReal := fun k => x (ix2 i k)

theorem normed_at (x : FVec Ideal S512x1024 .f32) (g : FVec Ideal S1x1024 .f32) (i : Fin 512) : row (normed x g) i = rms 0x44800000#32 (row x i) (row g 0) := by
  funext j
  pointwise [normed]
  rfl

/-- What one block of hidden columns adds. -/
def part (x : FVec Ideal S512x1024 .bf16) (wg wu : FVec Ideal S1024x256 .bf16) (wo : FVec Ideal S256x1024 .bf16) : FVec Ideal S512x1024 .f32 :=
  let a := matmul dot_S512x1024_S1024x256_S512x256_1_0_0_1_n_n none x wg (constant S512x256 .f32 0x00000000#32)
  let b := matmul dot_S512x1024_S1024x256_S512x256_1_0_0_1_n_n none x wu (constant S512x256 .f32 0x00000000#32)
  matmul dot_S512x256_S256x1024_S512x1024_1_0_0_1_n_n none
    (truncf .bf16 (mulf (mulf a (divf (broadcast S512x256 (Scalar.ofBits .f32 0x3F800000#32)) (addf (broadcast S512x256 (Scalar.ofBits .f32 0x3F800000#32))
      (exp (subf (broadcast S512x256 (Scalar.ofBits .f32 0x00000000#32)) a))))) b) bitsLt_bf16_f32) wo (constant S512x1024 .f32 0x00000000#32)

theorem part_at (x : FVec Ideal S512x1024 .bf16) (wg wu : FVec Ideal S1024x256 .bf16) (wo : FVec Ideal S256x1024 .bf16) (i : Fin 512) (j : Fin 1024) :
    part x wg wu wo (ix2 i j) = ∑ y, silu (times (row x i) (row wg) y) * times (row x i) (row wu) y * wo (ix2 y j) := by
  pointwise [part]
  rfl

section
variable (x : FVec Ideal S512x1024 .bf16) (win : FVec Ideal S1024x5632 .bf16) (wout : FVec Ideal S2816x1024 .bf16)

/-- Blocks of the two matrices. -/
def inCols (o : ℕ) (h : ∀ a, ![0, o] a + S1024x256.size a ≤ S1024x5632.size a) : FVec Ideal S1024x256 .bf16 :=
  View.ld (Val := Elt Ideal) (e' := .bf16) win (Rect.unit (s := S1024x5632) ![0, o] S1024x256.size h)
def outRows (o : ℕ) (h : ∀ a, ![o, 0] a + S256x1024.size a ≤ S2816x1024.size a) : FVec Ideal S256x1024 .bf16 :=
  View.ld (Val := Elt Ideal) (e' := .bf16) wout (Rect.unit (s := S2816x1024) ![o, 0] S256x1024.size h)

theorem inCols_at (o : ℕ) (h) (l : Fin 1024) (y : Fin 256) (hy : o + y < 5632) : inCols win o h (ix2 l y) = win (ix2 l ⟨o + y, hy⟩) := by
  refine congrArg win (funext fun a => Fin.ext ?_)
  fin_cases a
  · show 0 + 1 * (l : ℕ) = l
    omega
  · show o + 1 * (y : ℕ) = o + y
    omega

theorem outRows_at (o : ℕ) (h) (y : Fin 256) (j : Fin 1024) (hy : o + y < 2816) : outRows wout o h (ix2 y j) = wout (ix2 ⟨o + y, hy⟩ j) := by
  refine congrArg wout (funext fun a => Fin.ext ?_)
  fin_cases a
  · show o + 1 * (y : ℕ) = o + y
    omega
  · show 0 + 1 * (j : ℕ) = j
    omega

/-- Block `n`'s part is the sum of its columns' terms. -/
theorem part_is (n : ℕ) (hn : n < 11) {o u : ℕ} (ho : o = 256 * n) (hu : u = 2816 + o) (hg hh hw) (i : Fin 512) (j : Fin 1024) :
    part x (inCols win o hg) (inCols win u hh) (outRows wout o hw) (ix2 i j) = ∑ y : Fin 256, term (row x i) (row win) (row wout) j (256 * n + y) := by
  rw [part_at]
  refine Finset.sum_congr rfl fun y _ => ?_
  have hy := y.2
  subst hu ho
  rw [term, dif_pos (by omega), outRows_at wout _ _ y j (by omega), hidden]
  have h1 : times (row x i) (row (inCols win (256 * n) hg)) y = times (row x i) (row win) ⟨256 * n + y, by omega⟩ :=
    Finset.sum_congr rfl fun l _ => congrArg (row x i l * ·) (inCols_at win _ _ l y (by omega))
  have h2 : times (row x i) (row (inCols win (2816 + 256 * n) hh)) y = times (row x i) (row win) ⟨2816 + (256 * n + y), by omega⟩ :=
    Finset.sum_congr rfl fun l _ => congrArg (row x i l * ·) ((inCols_at win _ _ l y (by omega)).trans (congrArg win (by congr 1; exact Fin.ext (Nat.add_assoc _ _ _))))
  rw [h1, h2]

/-- The eleven parts together. -/
def total : FVec Ideal S512x1024 .f32 :=
  let p (o : ℕ) (hg : ∀ a, ![0, o] a + S1024x256.size a ≤ S1024x5632.size a) (hh : ∀ a, ![0, 2816 + o] a + S1024x256.size a ≤ S1024x5632.size a)
      (hw : ∀ a, ![o, 0] a + S256x1024.size a ≤ S2816x1024.size a) := part x (inCols win o hg) (inCols win (2816 + o) hh) (outRows wout o hw)
  addf (addf (addf (addf (addf (addf (addf (addf (addf (addf (p 0 (by decide) (by decide) (by decide)) (p 256 (by decide) (by decide) (by decide)))
    (p 512 (by decide) (by decide) (by decide))) (p 768 (by decide) (by decide) (by decide))) (p 1024 (by decide) (by decide) (by decide)))
    (p 1280 (by decide) (by decide) (by decide))) (p 1536 (by decide) (by decide) (by decide))) (p 1792 (by decide) (by decide) (by decide)))
    (p 2048 (by decide) (by decide) (by decide))) (p 2304 (by decide) (by decide) (by decide))) (p 2560 (by decide) (by decide) (by decide))

theorem total_at (i : Fin 512) : row (total x win wout) i = times (hidden (row x i) (row win)) (row wout) := by
  funext j
  rw [← upto_all]
  have step : ∀ (n : ℕ) (_ : n < 11) (o : ℕ) (_ : o = 256 * n) (a : FVec Ideal S512x1024 .f32) (hg hh hw),
      a (ix2 i j) = upto (row x i) (row win) (row wout) j n →
      addf a (part x (inCols win o hg) (inCols win (2816 + o) hh) (outRows wout o hw)) (ix2 i j) = upto (row x i) (row win) (row wout) j (n + 1) := by
    intro n hn o ho a hg hh hw ha
    rw [← upto_succ, ← ha, ← part_is x win wout n hn ho rfl hg hh hw]
    rfl
  refine step 10 (by decide) _ rfl _ _ _ _ (step 9 (by decide) _ rfl _ _ _ _ (step 8 (by decide) _ rfl _ _ _ _ (step 7 (by decide) _ rfl _ _ _ _
    (step 6 (by decide) _ rfl _ _ _ _ (step 5 (by decide) _ rfl _ _ _ _ (step 4 (by decide) _ rfl _ _ _ _ (step 3 (by decide) _ rfl _ _ _ _
    (step 2 (by decide) _ rfl _ _ _ _ (step 1 (by decide) _ rfl _ _ _ _ ?_)))))))))
  rw [← upto_succ, upto_zero, zero_add, ← part_is x win wout 0 (by decide) rfl rfl]
end

/-- The layer on a tile. -/
def layered (x : FVec Ideal S512x1024 .f32) (pre : FVec Ideal S1x1024 .f32) (win : FVec Ideal S1024x5632 .bf16) (wout : FVec Ideal S2816x1024 .bf16)
    (post : FVec Ideal S1x1024 .f32) : FVec Ideal S512x1024 .f32 :=
  addf x (mulf (broadcast S512x1024 (Scalar.ofBits .f32 0x3F000000#32)) (normed (total (truncf .bf16 (normed x pre) bitsLt_bf16_f32) win wout) post))

theorem layered_at (x : FVec Ideal S512x1024 .f32) (pre : FVec Ideal S1x1024 .f32) (win : FVec Ideal S1024x5632 .bf16) (wout : FVec Ideal S2816x1024 .bf16)
    (post : FVec Ideal S1x1024 .f32) (i : Fin 512) : row (layered x pre win wout post) i = layer (row x i) (row win) (row wout) (row pre 0) (row post 0) := by
  funext j
  have h := congrFun (normed_at (total (truncf .bf16 (normed x pre) bitsLt_bf16_f32) win wout) post i) j
  rw [total_at] at h
  have hx : row (truncf .bf16 (normed x pre) bitsLt_bf16_f32) i = rms 0x44800000#32 (row x i) (row pre 0) := (by funext k; pointwise : _ = row (normed x pre) i).trans (normed_at x pre i)
  rw [hx] at h
  rw [layer, ← h]
  pointwise [layered]

end Cert.Layer

end
-- ==== Proof.MergeTile.lean ====
/- The merge and feed-forward kernel, on 512 tokens: the eight heads' outputs, normed and gated, are laid side by side and mixed by two matrices,
   and the feed-forward layer follows. Its stages are functions of a token's rows here, and each stage of the tile is that function at each token. -/
module

public import proofs.«01_k».proof.Proof.Layer
public import proofs.«01_k».proof.Proof.Gen.MergeIdeal.Value
public import Idealize.ShloMosaic.Lib.Pipeline.Value
public import Idealize.ShloMosaic.Lib.Pipeline.ValueKit.Point

@[expose] public section

set_option maxRecDepth 16384

noncomputable section

namespace Cert.Merge.Token

open Cert.Layer Idealize.ShloMosaic

/-- The head and the place in it of a column. -/
abbrev headOf (j : Fin 1024) : Fin 8 := ⟨(j : ℕ) / 128, by omega⟩
abbrev placeOf (j : Fin 1024) : Fin 128 := ⟨(j : ℕ) % 128, by omega⟩

section
variable (o ob : Fin 8 → Fin 128 → EReal) (sz gd pb h : Fin 1024 → EReal) (dg : Fin 128 → EReal) (wdo wo : Fin 1024 → Fin 1024 → EReal)

/-- The heads' sums over the two directions, each over its root mean square, times the gain and the gate. -/
def heads : Fin 1024 → EReal := fun j => rms 0x43000000#32 (fun k => o (headOf j) k + ob (headOf j) k) dg (placeOf j) * sz j

/-- A gated row through the first matrix, with the other branch added, through the second. -/
def mix (y : Fin 1024 → EReal) : Fin 1024 → EReal := times (fun j => gd j * times y wdo j + pb j) wo

/-- A token's row from its arguments. -/
def token (post pre2 : Fin 1024 → EReal) (win : Fin 1024 → Fin 5632 → EReal) (wout : Fin 2816 → Fin 1024 → EReal) (post2 fin : Fin 1024 → EReal) :
    Fin 1024 → EReal :=
  rms 0x44800000#32 (layer (fun j => h j + rms 0x44800000#32 (mix gd pb wdo wo (heads o ob sz dg)) post j) win wout pre2 post2) fin

end

/-- A row of a stack of matrices. -/
abbrev row3 {b r d : ℕ} {φ : FTy} (x : FVec Ideal ⟨3, ![b, r, d]⟩ φ) (n : Fin b) (i : Fin r) : Fin d → EReal := fun k => x (ix3 n i k)

end Cert.Merge.Token

namespace Cert.MergeIdeal.Tile

open Cert.MergeIdeal Cert.MergeIdeal.Gen Cert.Layer Cert.Merge.Token Idealize.ShloMosaic

/-- One head's columns. -/
def head (o ob : FVec Ideal S1x1x512x128 .bf16) (dg : FVec Ideal S1x128 .f32) (sz : FVec Ideal S1x512x128 .bf16) : FVec Ideal S512x128 .bf16 :=
  let x := addf (extf .f32 (shapeCast S512x128 o shapeCasts_S1x1x512x128_S512x128) bitsLt_bf16_f32)
    (extf .f32 (shapeCast S512x128 ob shapeCasts_S1x1x512x128_S512x128) bitsLt_bf16_f32)
  truncf .bf16 (mulf (mulf (mulf x (broadcastTo S512x128 (rsqrt (addf
      (divf (shapeCast S512x1 (multiReduction .add [1] S512 (mulf x x) 0x00000000#32 reduces_S512x128_S512 (.inl rfl) rfl) shapeCasts_S512_S512x1)
        (broadcast S512x1 (Scalar.ofBits .f32 0x43000000#32)))
      (broadcast S512x1 (Scalar.ofBits .f32 0x358637BD#32)))) broadcasts_S512x1_S512x128)) (broadcastTo S512x128 dg broadcasts_S1x128_S512x128))
    (extf .f32 (shapeCast S512x128 sz shapeCasts_S1x512x128_S512x128) bitsLt_bf16_f32)) bitsLt_bf16_f32

theorem head_at (o ob : FVec Ideal S1x1x512x128 .bf16) (dg : FVec Ideal S1x128 .f32) (sz : FVec Ideal S1x512x128 .bf16) (i : Fin 512) (k : Fin 128) :
    head o ob dg sz (ix2 i k) = rms 0x43000000#32 (fun k => o (ix4 0 0 i k) + ob (ix4 0 0 i k)) (row dg 0) k * sz (ix3 0 i k) := by
  pointwise [head]
  rfl

/-- Head `n`'s block of the heads' outputs, and its columns of the gate. -/
def headIn (o : FVec Ideal S1x8x512x128 .bf16) (n : Fin 8) : FVec Ideal S1x1x512x128 .bf16 :=
  View.ld (Val := Elt Ideal) (e' := .bf16) o (Rect.unit (s := S1x8x512x128) ![0, (n : ℕ), 0, 0] S1x1x512x128.size (by revert n; decide))
def gateIn (sz : FVec Ideal S1x512x1024 .bf16) (n : Fin 8) : FVec Ideal S1x512x128 .bf16 :=
  View.ld (Val := Elt Ideal) (e' := .bf16) sz (Rect.unit (s := S1x512x1024) ![0, 0, 128 * (n : ℕ)] S1x512x128.size (by revert n; decide))

theorem headIn_at (o : FVec Ideal S1x8x512x128 .bf16) (n : Fin 8) (i : Fin 512) (k : Fin 128) : headIn o n (ix4 0 0 i k) = o (ix4 0 n i k) := by
  refine congrArg o (funext fun a => Fin.ext ?_)
  fin_cases a
  · rfl
  · show (n : ℕ) + 1 * 0 = n
    omega
  · show 0 + 1 * (i : ℕ) = i
    omega
  · show 0 + 1 * (k : ℕ) = k
    omega

theorem gateIn_at (sz : FVec Ideal S1x512x1024 .bf16) (n : Fin 8) (i : Fin 512) (k : Fin 128) (hk : 128 * (n : ℕ) + k < 1024) :
    gateIn sz n (ix3 0 i k) = sz (ix3 0 i ⟨128 * (n : ℕ) + k, hk⟩) := by
  refine congrArg sz (funext fun a => Fin.ext ?_)
  fin_cases a
  · rfl
  · show 0 + 1 * (i : ℕ) = i
    omega
  · show 128 * (n : ℕ) + 1 * (k : ℕ) = 128 * n + k
    omega

/-- The heads side by side. -/
def joined (p : Fin 8 → FVec Ideal S512x128 .bf16) : FVec Ideal S512x1024 .bf16 :=
  concatenate S512x1024 1 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩]
    concatenates_S512x128_S512x128_S512x128_S512x128_S512x128_S512x128_S512x128_S512x128_S512x1024_d1

theorem joined_at (p : Fin 8 → FVec Ideal S512x128 .bf16) (i : Fin 512) (j : Fin 1024) : joined p (ix2 i j) = p (headOf j) (ix2 i (placeOf j)) := by
  refine concatenate_ofFn_apply (t := S512x1024) (s₁ := S512x128) 1 p
    concatenates_S512x128_S512x128_S512x128_S512x128_S512x128_S512x128_S512x128_S512x128_S512x1024_d1 rfl 128 rfl (ix2 i j) (headOf j) rfl (ix2 i (placeOf j)) rfl fun b hb => ?_
  fin_cases b
  · rfl
  · exact absurd rfl hb

section
variable (x0 x1 : FVec Ideal S1x8x512x128 .bf16) (x2 : FVec Ideal S1x512x1024 .bf16) (x6 : FVec Ideal S1x128 .f32)

def side : FVec Ideal S512x1024 .bf16 := joined fun n => head (headIn x0 n) (headIn x1 n) x6 (gateIn x2 n)

theorem side_at (i : Fin 512) : row (side x0 x1 x2 x6) i = heads (fun n k => x0 (ix4 0 n i k)) (fun n k => x1 (ix4 0 n i k)) (row3 x2 0 i) (row x6 0) := by
  funext j
  have hj : 128 * ((j : ℕ) / 128) + (j : ℕ) % 128 = j := Nat.div_add_mod _ _
  refine (joined_at _ i j).trans ((head_at _ _ _ _ i _).trans ?_)
  rw [gateIn_at x2 _ i _ (by show 128 * ((j : ℕ) / 128) + (j : ℕ) % 128 < 1024; omega)]
  simp only [headIn_at, heads]
  refine congrArg (fun z => _ * x2 (ix3 0 i z)) (Fin.ext hj)

end

def mixed (y : FVec Ideal S512x1024 .bf16) (gd pb : FVec Ideal S1x512x1024 .bf16) (wdo wo : FVec Ideal S1024x1024 .bf16) : FVec Ideal S512x1024 .f32 :=
  matmul dot_S512x1024_S1024x1024_S512x1024_1_0_0_1_n_n none (truncf .bf16 (addf
    (mulf (extf .f32 (shapeCast S512x1024 gd shapeCasts_S1x512x1024_S512x1024) bitsLt_bf16_f32)
      (matmul dot_S512x1024_S1024x1024_S512x1024_1_0_0_1_n_n none y wdo (constant S512x1024 .f32 0x00000000#32)))
    (extf .f32 (shapeCast S512x1024 pb shapeCasts_S1x512x1024_S512x1024) bitsLt_bf16_f32)) bitsLt_bf16_f32) wo (constant S512x1024 .f32 0x00000000#32)

theorem mixed_at (y : FVec Ideal S512x1024 .bf16) (gd pb : FVec Ideal S1x512x1024 .bf16) (wdo wo : FVec Ideal S1024x1024 .bf16) (i : Fin 512) :
    row (mixed y gd pb wdo wo) i = mix (row3 gd 0 i) (row3 pb 0 i) (row wdo) (row wo) (row y i) := by
  funext j
  show mixed y gd pb wdo wo (ix2 i j) = _
  pointwise [mixed]
  rfl

/-- The tile the kernel writes. -/
def tile (x0 x1 : FVec Ideal S1x8x512x128 .bf16) (x2 x3 x4 : FVec Ideal S1x512x1024 .bf16) (x5 : FVec Ideal S1x512x1024 .f32) (x6 : FVec Ideal S1x128 .f32)
    (x7 x8 : FVec Ideal S1024x1024 .bf16) (x9 x10 : FVec Ideal S1x1024 .f32) (x11 : FVec Ideal S1024x5632 .bf16) (x12 : FVec Ideal S2816x1024 .bf16)
    (x13 x14 : FVec Ideal S1x1024 .f32) : FVec Ideal S1x512x1024 .f32 :=
  shapeCast S1x512x1024 (normed (layered (addf (shapeCast S512x1024 x5 shapeCasts_S1x512x1024_S512x1024) (normed (mixed (side x0 x1 x2 x6) x3 x4 x7 x8) x9))
    x10 x11 x12 x13) x14) shapeCasts_S512x1024_S1x512x1024

section
variable (x0 x1 : FVec Ideal S1x8x512x128 .bf16) (x2 x3 x4 : FVec Ideal S1x512x1024 .bf16) (x5 : FVec Ideal S1x512x1024 .f32) (x6 : FVec Ideal S1x128 .f32)
  (x7 x8 : FVec Ideal S1024x1024 .bf16) (x9 x10 : FVec Ideal S1x1024 .f32) (x11 : FVec Ideal S1024x5632 .bf16) (x12 : FVec Ideal S2816x1024 .bf16)
  (x13 x14 : FVec Ideal S1x1024 .f32)

theorem tile_at (i : Fin 512) : row3 (tile x0 x1 x2 x3 x4 x5 x6 x7 x8 x9 x10 x11 x12 x13 x14) 0 i
    = token (fun n k => x0 (ix4 0 n i k)) (fun n k => x1 (ix4 0 n i k)) (row3 x2 0 i) (row3 x3 0 i) (row3 x4 0 i) (row3 x5 0 i) (row x6 0) (row x7) (row x8)
      (row x9 0) (row x10 0) (row x11) (row x12) (row x13 0) (row x14 0) := by
  funext j
  have h := congrFun (normed_at (layered (addf (shapeCast S512x1024 x5 shapeCasts_S1x512x1024_S512x1024) (normed (mixed (side x0 x1 x2 x6) x3 x4 x7 x8) x9))
    x10 x11 x12 x13) x14 i) j
  rw [layered_at] at h
  have hm := mixed_at (side x0 x1 x2 x6) x3 x4 x7 x8 i
  rw [side_at] at hm
  have hn := normed_at (mixed (side x0 x1 x2 x6) x3 x4 x7 x8) x9 i
  rw [hm] at hn
  have hs : row (addf (shapeCast S512x1024 x5 shapeCasts_S1x512x1024_S512x1024) (normed (mixed (side x0 x1 x2 x6) x3 x4 x7 x8) x9)) i
      = fun j => row3 x5 0 i j + rms 0x44800000#32 (mix (row3 x3 0 i) (row3 x4 0 i) (row x7) (row x8)
        (heads (fun n k => x0 (ix4 0 n i k)) (fun n k => x1 (ix4 0 n i k)) (row3 x2 0 i) (row x6 0))) (row x9 0) j := by
    rw [← hn]
    funext j
    pointwise
  rw [hs] at h
  refine Eq.trans ?_ h
  pointwise [tile]

end

set_option maxHeartbeats 1000000 in
theorem out_eq (x0 x1 : Vec Ideal S1x8x512x128 .bf16) (x2 x3 x4 : Vec Ideal S1x512x1024 .bf16) (x5 : Vec Ideal S1x512x1024 .f32) (x6 : Vec Ideal S1x128 .f32)
    (x7 x8 : Vec Ideal S1024x1024 .bf16) (x9 x10 : Vec Ideal S1x1024 .f32) (x11 : Vec Ideal S1024x5632 .bf16) (x12 : Vec Ideal S2816x1024 .bf16)
    (x13 x14 : Vec Ideal S1x1024 .f32) :
    out0_15 x0 x1 x2 x3 x4 x5 x6 x7 x8 x9 x10 x11 x12 x13 x14 = tile x0 x1 x2 x3 x4 x5 x6 x7 x8 x9 x10 x11 x12 x13 x14 := by
  have zero2 : (![0, 0] : Fin 2 → ℕ) = fun _ => 0 := by decide
  have zero3 : (![0, 0, 0] : Fin 3 → ℕ) = fun _ => 0 := by decide
  have l3 : View.ld x3 r0_17 = x3 := View.ld_unit_zero (S := S1x512x1024) zero3 _ _
  have l4 : View.ld x4 r0_17 = x4 := View.ld_unit_zero (S := S1x512x1024) zero3 _ _
  have l5 : View.ld x5 r0_17 = x5 := View.ld_unit_zero (S := S1x512x1024) zero3 _ _
  have l6 : View.ld x6 r0_1 = x6 := View.ld_unit_zero (S := S1x128) zero2 _ _
  have l7 : View.ld x7 r0_18 = x7 := View.ld_unit_zero (S := S1024x1024) zero2 _ _
  have l8 : View.ld x8 r0_18 = x8 := View.ld_unit_zero (S := S1024x1024) zero2 _ _
  have l9 : View.ld x9 r0_19 = x9 := View.ld_unit_zero (S := S1x1024) zero2 _ _
  have l10 : View.ld x10 r0_19 = x10 := View.ld_unit_zero (S := S1x1024) zero2 _ _
  have l13 : View.ld x13 r0_19 = x13 := View.ld_unit_zero (S := S1x1024) zero2 _ _
  have l14 : View.ld x14 r0_19 = x14 := View.ld_unit_zero (S := S1x1024) zero2 _ _
  have hmix : k0_pay31 x0 x1 x2 x3 x4 x5 x6 x7 x8 x9 x10 x11 x12 x13 x14 = mixed (side x0 x1 x2 x6) x3 x4 x7 x8 := by
    unfold k0_pay31
    simp only [l3, l4, l6, l7, l8]
    rfl
  unfold out0_15 k0_pay32
  rw [View.canon_unit_zero (S := S1x512x1024) zero3, hmix]
  simp only [l5, l9, l10, l13, l14]
  rfl

end Cert.MergeIdeal.Tile

end
-- ==== Proof.MergeTokens.lean ====
/- The merge and feed-forward call at any number of tokens: the reference's arrays, at a token, are the token's function of the arguments. -/
module

public import proofs.«01_k».proof.Proof.MergeTile
public import proofs.«01_k».proof.Proof.Gen.MergeReferenceIdeal

@[expose] public section

set_option maxRecDepth 16384

noncomputable section

namespace Cert.Merge.Tokens

open Cert.MergeReferenceIdeal Cert.MergeReferenceIdeal.Gen Cert.Layer Cert.Merge.Token Idealize.ShloMosaic Idealize.ShloMosaic.TcCoe

/-- Eight sequences of `L` tokens: a row of numbers for each token, one number for each, a row for each head, and that with the heads first. -/
abbrev Tall (L d : ℕ) : Shape := ⟨3, ![8, L, d]⟩
abbrev Flat (L : ℕ) : Shape := ⟨2, ![8, L]⟩
abbrev Split (L d : ℕ) : Shape := ⟨4, ![8, L, 8, d]⟩
abbrev Heads (L : ℕ) : Shape := ⟨4, ![8, 8, L, 128]⟩

/-- What the reference's operations ask of these shapes. -/
class Sizes (L : ℕ) : Prop where
  swap : (Heads L).Transposes [0, 2, 1, 3] (Split L 128)
  sumHead : (Split L 128).ReducesTo [3] (Tall L 8)
  keepHead : (Tall L 8).BroadcastsInDim (Split L 1) (![0, 1, 2] : Fin 3 → Fin (Split L 1).rank)
  fillHead : S_.BroadcastsInDim (Split L 1) (![] : Fin 0 → Fin (Split L 1).rank)
  spreadHead : (Split L 1).BroadcastsInDim (Split L 128) (![0, 1, 2, 3] : Fin 4 → Fin (Split L 128).rank)
  everyHead : S1x1x1x128.BroadcastsInDim (Split L 128) (![0, 1, 2, 3] : Fin 4 → Fin (Split L 128).rank)
  cut : (Tall L 1024).ShapeCasts (Split L 128)
  join : (Split L 128).ShapeCasts (Tall L 1024)
  sumRow : (Tall L 1024).ReducesTo [2] (Flat L)
  keepRow : (Flat L).BroadcastsInDim (Tall L 1) (![0, 1] : Fin 2 → Fin (Tall L 1).rank)
  fillRow : S_.BroadcastsInDim (Tall L 1) (![] : Fin 0 → Fin (Tall L 1).rank)
  spreadRow : (Tall L 1).BroadcastsInDim (Tall L 1024) (![0, 1, 2] : Fin 3 → Fin (Tall L 1024).rank)
  everyRow : S1x1x1024.BroadcastsInDim (Tall L 1024) (![0, 1, 2] : Fin 3 → Fin (Tall L 1024).rank)
  left : (Tall L 5632).Slices ![0, 0, 0] (Tall L 2816)
  right : (Tall L 5632).Slices ![0, 0, 2816] (Tall L 2816)
  fillHidden : S_.BroadcastsInDim (Tall L 2816) (![] : Fin 0 → Fin (Tall L 2816).rank)
  fillTall : S_.BroadcastsInDim (Tall L 1024) (![] : Fin 0 → Fin (Tall L 1024).rank)
  square : DotDims.WF (Tall L 1024) S1024x1024 (Tall L 1024) [2] [0] [0, 1] [1] [] []
  widen : DotDims.WF (Tall L 1024) S1024x5632 (Tall L 5632) [2] [0] [0, 1] [1] [] []
  narrow : DotDims.WF (Tall L 2816) S2816x1024 (Tall L 1024) [2] [0] [0, 1] [1] [] []

open Sizes

/-- The product of every token's row with a matrix. -/
def onRows {L a o : ℕ} (h : DotDims.WF (Tall L a) ⟨2, ![a, o]⟩ (Tall L o) [2] [0] [0, 1] [1] [] []) : DotDims (Tall L a) ⟨2, ![a, o]⟩ (Tall L o) where
  lhsContracting := [2]
  rhsContracting := [0]
  lhsNonContracting := [0, 1]
  rhsNonContracting := [1]
  lhsBatch := []
  rhsBatch := []
  wf := h

variable {L : ℕ} [Sizes L]

/-- `rms` of each token's row. -/
def tall (x : FVec Ideal (Tall L 1024) .f32) (g : FVec Ideal S1x1024 .f32) : FVec Ideal (Tall L 1024) .f32 :=
  mulf (mulf x (broadcastInDim (Tall L 1024) ![0, 1, 2] spreadRow (Host.rsqrt (addf
    (Host.divf (broadcastInDim (Tall L 1) ![0, 1] keepRow
      (Host.reduceAdd (mulf x x) (constant S_ .f32 0x00000000#32) sumRow h_S_))
      (broadcastInDim (Tall L 1) ![] fillRow (constant S_ .f32 0x44800000#32)))
    (broadcastInDim (Tall L 1) ![] fillRow (constant S_ .f32 0x358637BD#32))))))
    (broadcastInDim (Tall L 1024) ![0, 1, 2] everyRow (broadcastInDim S1x1x1024 ![1, 2] bcast_S1x1024_S1x1x1024_1_2 g))

/-- The two directions' sum, tokens before heads. -/
def sums (x0 x1 : FVec Ideal (Heads L) .bf16) : FVec Ideal (Split L 128) .f32 :=
  transpose (Split L 128) [0, 2, 1, 3] (addf (extf .f32 x0 bitsLt_bf16_f32) (extf .f32 x1 bitsLt_bf16_f32)) swap

/-- The normed heads times the gate. -/
def gate (x : FVec Ideal (Split L 128) .f32) (dg : FVec Ideal S1x128 .f32) (sz : FVec Ideal (Tall L 1024) .bf16) : FVec Ideal (Split L 128) .f32 :=
  mulf (mulf (mulf x (broadcastInDim (Split L 128) ![0, 1, 2, 3] spreadHead (Host.rsqrt (addf
    (Host.divf (broadcastInDim (Split L 1) ![0, 1, 2] keepHead
      (Host.reduceAdd (mulf x x) (constant S_ .f32 0x00000000#32) sumHead h_S_))
      (broadcastInDim (Split L 1) ![] fillHead (constant S_ .f32 0x43000000#32)))
    (broadcastInDim (Split L 1) ![] fillHead (constant S_ .f32 0x358637BD#32))))))
    (broadcastInDim (Split L 128) ![0, 1, 2, 3] everyHead
      (broadcastInDim S1x1x1x128 ![3] bcast_S128_S1x1x1x128_3 (shapeCast _ dg shapeCasts_S1x128_S128))))
    (shapeCast _ (extf .f32 sz bitsLt_bf16_f32) cut)

/-- A head's column among all. -/
abbrev colOf (n : Fin 8) (k : Fin 128) : Fin 1024 := ⟨(n : ℕ) * 128 + k, by omega⟩

/-- The gated heads through the two matrices. -/
def mixed (y : FVec Ideal (Tall L 1024) .f32) (gd pb : FVec Ideal (Tall L 1024) .bf16) (wdo wo : FVec Ideal S1024x1024 .bf16) : FVec Ideal (Tall L 1024) .f32 :=
  Host.dotGeneral (onRows square) none (addf (mulf (extf .f32 gd bitsLt_bf16_f32)
    (Host.dotGeneral (onRows square) none y (extf .f32 wdo bitsLt_bf16_f32)))
    (extf .f32 pb bitsLt_bf16_f32)) (extf .f32 wo bitsLt_bf16_f32)

/-- The products with the feed-forward layer's first matrix, and the two together with its second. -/
def both (x : FVec Ideal (Tall L 1024) .f32) (win : FVec Ideal S1024x5632 .bf16) : FVec Ideal (Tall L 5632) .f32 :=
  Host.dotGeneral (onRows widen) none x (extf .f32 win bitsLt_bf16_f32)

def gated (u : FVec Ideal (Tall L 5632) .f32) (wout : FVec Ideal S2816x1024 .bf16) : FVec Ideal (Tall L 1024) .f32 :=
  let a := extractStridedSlice (Tall L 2816) ![0, 0, 0] u left
  Host.dotGeneral (onRows narrow) none
    (mulf (mulf a (Host.divf (broadcastInDim (Tall L 2816) ![] fillHidden (constant S_ .f32 0x3F800000#32))
      (addf (broadcastInDim (Tall L 2816) ![] fillHidden (constant S_ .f32 0x3F800000#32)) (Host.exp (Host.negf a)))))
      (extractStridedSlice (Tall L 2816) ![0, 0, 2816] u right)) (extf .f32 wout bitsLt_bf16_f32)

/-- The feed-forward layer on every token. -/
def layers (x : FVec Ideal (Tall L 1024) .f32) (pre : FVec Ideal S1x1024 .f32) (win : FVec Ideal S1024x5632 .bf16) (wout : FVec Ideal S2816x1024 .bf16)
    (post : FVec Ideal S1x1024 .f32) : FVec Ideal (Tall L 1024) .f32 :=
  addf x (mulf (broadcastInDim (Tall L 1024) ![] fillTall (constant S_ .f32 0x3F000000#32)) (tall (gated (both (tall x pre) win) wout) post))

/-- The reference's result from its arguments. -/
def all (x0 x1 : FVec Ideal (Heads L) .bf16) (x2 x3 x4 : FVec Ideal (Tall L 1024) .bf16) (x5 : FVec Ideal (Tall L 1024) .f32) (x6 : FVec Ideal S1x128 .f32)
    (x7 x8 : FVec Ideal S1024x1024 .bf16) (x9 x10 : FVec Ideal S1x1024 .f32) (x11 : FVec Ideal S1024x5632 .bf16) (x12 : FVec Ideal S2816x1024 .bf16)
    (x13 x14 : FVec Ideal S1x1024 .f32) : FVec Ideal (Tall L 1024) .f32 :=
  tall (layers (addf x5 (tall (mixed (shapeCast (Tall L 1024) (gate (sums x0 x1) x6 x2) join) x3 x4 x7 x8) x9)) x10 x11 x12 x13) x14

/-- What the reference's stages are at a token. -/
class Reads (L : ℕ) [Sizes L] : Prop where
  tall_at (x : FVec Ideal (Tall L 1024) .f32) (g : FVec Ideal S1x1024 .f32) (b : Fin 8) (t : Fin L) :
      row3 (tall x g) b t = rms 0x44800000#32 (row3 x b t) (row g 0)
  sums_at (x0 x1 : FVec Ideal (Heads L) .bf16) (b : Fin 8) (t : Fin L) (n : Fin 8) (k : Fin 128) :
      sums x0 x1 (ix4 b t n k) = x0 (ix4 b n t k) + x1 (ix4 b n t k)
  gate_at (x : FVec Ideal (Split L 128) .f32) (dg : FVec Ideal S1x128 .f32) (sz : FVec Ideal (Tall L 1024) .bf16) (b : Fin 8) (t : Fin L) (n : Fin 8) (k : Fin 128) :
      gate x dg sz (ix4 b t n k) = rms 0x43000000#32 (fun k => x (ix4 b t n k)) (row dg 0) k * sz (ix3 b t (colOf n k))
  side_at (y : FVec Ideal (Split L 128) .f32) (b : Fin 8) (t : Fin L) (j : Fin 1024) :
      shapeCast (Tall L 1024) y join (ix3 b t j) = y (ix4 b t (headOf j) (placeOf j))
  mixed_at (y : FVec Ideal (Tall L 1024) .f32) (gd pb : FVec Ideal (Tall L 1024) .bf16) (wdo wo : FVec Ideal S1024x1024 .bf16) (b : Fin 8) (t : Fin L) :
      row3 (mixed y gd pb wdo wo) b t = mix (row3 gd b t) (row3 pb b t) (row wdo) (row wo) (row3 y b t)
  both_at (x : FVec Ideal (Tall L 1024) .f32) (win : FVec Ideal S1024x5632 .bf16) (b : Fin 8) (t : Fin L) :
      row3 (both x win) b t = times (row3 x b t) (row win)
  gated_at (u : FVec Ideal (Tall L 5632) .f32) (wout : FVec Ideal S2816x1024 .bf16) (b : Fin 8) (t : Fin L) :
      row3 (gated u wout) b t = times (fun k : Fin 2816 => silu (row3 u b t ⟨k, by omega⟩) * row3 u b t ⟨2816 + k, by omega⟩) (row wout)

open Reads

variable [Reads L]

theorem heads_at (x0 x1 : FVec Ideal (Heads L) .bf16) (dg : FVec Ideal S1x128 .f32) (sz : FVec Ideal (Tall L 1024) .bf16) (b : Fin 8) (t : Fin L) :
    row3 (φ := .f32) (shapeCast (Tall L 1024) (gate (sums x0 x1) dg sz) join) b t
      = heads (fun n k => x0 (ix4 b n t k)) (fun n k => x1 (ix4 b n t k)) (row3 sz b t) (row dg 0) := by
  funext j
  have hj : colOf (headOf j) (placeOf j) = j := Fin.ext (Nat.div_add_mod' _ _)
  refine (side_at _ b t j).trans ((gate_at _ _ _ b t _ _).trans ?_)
  rw [hj]
  simp only [sums_at, heads]

theorem middle_at (x : FVec Ideal (Tall L 1024) .f32) (win : FVec Ideal S1024x5632 .bf16) (wout : FVec Ideal S2816x1024 .bf16) (b : Fin 8) (t : Fin L) :
    row3 (gated (both x win) wout) b t = times (hidden (row3 x b t) (row win)) (row wout) := by
  rw [gated_at, both_at]
  rfl

theorem layers_at (x : FVec Ideal (Tall L 1024) .f32) (pre : FVec Ideal S1x1024 .f32) (win : FVec Ideal S1024x5632 .bf16) (wout : FVec Ideal S2816x1024 .bf16)
    (post : FVec Ideal S1x1024 .f32) (b : Fin 8) (t : Fin L) :
    row3 (layers x pre win wout post) b t = layer (row3 x b t) (row win) (row wout) (row pre 0) (row post 0) := by
  funext j
  have h := congrFun (tall_at (gated (both (tall x pre) win) wout) post b t) j
  have hm := middle_at (tall x pre) win wout b t
  rw [tall_at] at hm
  rw [hm] at h
  rw [layer, ← h]
  pointwise [layers]

theorem all_at (x0 x1 : FVec Ideal (Heads L) .bf16) (x2 x3 x4 : FVec Ideal (Tall L 1024) .bf16) (x5 : FVec Ideal (Tall L 1024) .f32) (x6 : FVec Ideal S1x128 .f32)
    (x7 x8 : FVec Ideal S1024x1024 .bf16) (x9 x10 : FVec Ideal S1x1024 .f32) (x11 : FVec Ideal S1024x5632 .bf16) (x12 : FVec Ideal S2816x1024 .bf16)
    (x13 x14 : FVec Ideal S1x1024 .f32) (b : Fin 8) (t : Fin L) : row3 (all x0 x1 x2 x3 x4 x5 x6 x7 x8 x9 x10 x11 x12 x13 x14) b t
      = token (fun n k => x0 (ix4 b n t k)) (fun n k => x1 (ix4 b n t k)) (row3 x2 b t) (row3 x3 b t) (row3 x4 b t) (row3 x5 b t) (row x6 0) (row x7) (row x8)
        (row x9 0) (row x10 0) (row x11) (row x12) (row x13 0) (row x14 0) := by
  have hm := mixed_at (shapeCast (Tall L 1024) (gate (sums x0 x1) x6 x2) join) x3 x4 x7 x8 b t
  rw [heads_at] at hm
  have hn := tall_at (mixed (shapeCast (Tall L 1024) (gate (sums x0 x1) x6 x2) join) x3 x4 x7 x8) x9 b t
  rw [hm] at hn
  rw [all, tall_at, layers_at, token, ← hn]
  refine congrArg (fun z => rms 0x44800000#32 (layer z (row x11) (row x12) (row x10 0) (row x13 0)) (row x14 0)) (funext fun j => ?_)
  pointwise

/-- The token's function at every token. -/
def tokens (x0 x1 : FVec Ideal (Heads L) .bf16) (x2 x3 x4 : FVec Ideal (Tall L 1024) .bf16) (x5 : FVec Ideal (Tall L 1024) .f32) (x6 : FVec Ideal S1x128 .f32)
    (x7 x8 : FVec Ideal S1024x1024 .bf16) (x9 x10 : FVec Ideal S1x1024 .f32) (x11 : FVec Ideal S1024x5632 .bf16) (x12 : FVec Ideal S2816x1024 .bf16)
    (x13 x14 : FVec Ideal S1x1024 .f32) : FVec Ideal (Tall L 1024) .f32 := fun y =>
  token (fun n k => x0 (ix4 (y 0) n (y 1) k)) (fun n k => x1 (ix4 (y 0) n (y 1) k)) (row3 x2 (y 0) (y 1)) (row3 x3 (y 0) (y 1)) (row3 x4 (y 0) (y 1))
    (row3 x5 (y 0) (y 1)) (row x6 0) (row x7) (row x8) (row x9 0) (row x10 0) (row x11) (row x12) (row x13 0) (row x14 0) (y 2)

/-- The reference's result is the token's function at every token. -/
theorem all_tokens (x0 x1 : FVec Ideal (Heads L) .bf16) (x2 x3 x4 : FVec Ideal (Tall L 1024) .bf16) (x5 : FVec Ideal (Tall L 1024) .f32) (x6 : FVec Ideal S1x128 .f32)
    (x7 x8 : FVec Ideal S1024x1024 .bf16) (x9 x10 : FVec Ideal S1x1024 .f32) (x11 : FVec Ideal S1024x5632 .bf16) (x12 : FVec Ideal S2816x1024 .bf16)
    (x13 x14 : FVec Ideal S1x1024 .f32) :
    all x0 x1 x2 x3 x4 x5 x6 x7 x8 x9 x10 x11 x12 x13 x14 = tokens x0 x1 x2 x3 x4 x5 x6 x7 x8 x9 x10 x11 x12 x13 x14 := by
  funext y
  obtain ⟨b, t, e, rfl⟩ : ∃ (b : Fin 8) (t : Fin L) (e : Fin 1024), y = ix3 b t e := ⟨y 0, y 1, y 2, eq_ix3 y⟩
  exact congrFun (all_at x0 x1 x2 x3 x4 x5 x6 x7 x8 x9 x10 x11 x12 x13 x14 b t) e

/-- A tile whose rows are a token's rows of the arguments: its result row is that token's. -/
theorem tile_tokens {L : ℕ} (b : Fin 8) (t : Fin L) (r : Fin 512) (e : Fin 1024) (y0 y1 : FVec Ideal ⟨4, ![1, 8, 512, 128]⟩ .bf16)
    (y2 y3 y4 : FVec Ideal ⟨3, ![1, 512, 1024]⟩ .bf16) (y5 : FVec Ideal ⟨3, ![1, 512, 1024]⟩ .f32)
    (x0 x1 : FVec Ideal (Heads L) .bf16) (x2 x3 x4 : FVec Ideal (Tall L 1024) .bf16) (x5 : FVec Ideal (Tall L 1024) .f32) (x6 : FVec Ideal S1x128 .f32)
    (x7 x8 : FVec Ideal S1024x1024 .bf16) (x9 x10 : FVec Ideal S1x1024 .f32) (x11 : FVec Ideal S1024x5632 .bf16) (x12 : FVec Ideal S2816x1024 .bf16)
    (x13 x14 : FVec Ideal S1x1024 .f32)
    (h0 : ∀ n k, y0 (ix4 0 n r k) = x0 (ix4 b n t k)) (h1 : ∀ n k, y1 (ix4 0 n r k) = x1 (ix4 b n t k))
    (h2 : ∀ k, y2 (ix3 0 r k) = x2 (ix3 b t k)) (h3 : ∀ k, y3 (ix3 0 r k) = x3 (ix3 b t k)) (h4 : ∀ k, y4 (ix3 0 r k) = x4 (ix3 b t k))
    (h5 : ∀ k, y5 (ix3 0 r k) = x5 (ix3 b t k)) :
    MergeIdeal.Tile.tile y0 y1 y2 y3 y4 y5 x6 x7 x8 x9 x10 x11 x12 x13 x14 (ix3 0 r e)
      = tokens x0 x1 x2 x3 x4 x5 x6 x7 x8 x9 x10 x11 x12 x13 x14 (ix3 b t e) := by
  refine (congrFun (MergeIdeal.Tile.tile_at y0 y1 y2 y3 y4 y5 x6 x7 x8 x9 x10 x11 x12 x13 x14 r) e).trans ?_
  have e0 : (fun (n : Fin 8) (k : Fin 128) => y0 (ix4 0 n r k)) = fun n k => x0 (ix4 b n t k) := funext fun n => funext (h0 n)
  have e1 : (fun (n : Fin 8) (k : Fin 128) => y1 (ix4 0 n r k)) = fun n k => x1 (ix4 b n t k) := funext fun n => funext (h1 n)
  have e2 : row3 y2 0 r = row3 x2 b t := funext h2
  have e3 : row3 y3 0 r = row3 x3 b t := funext h3
  have e4 : row3 y4 0 r = row3 x4 b t := funext h4
  have e5 : row3 y5 0 r = row3 x5 b t := funext h5
  rw [e0, e1, e2, e3, e4, e5]
  rfl

/-- The two batches: sequences of 4096 tokens and of 8192. -/
instance : Sizes 4096 := ⟨by decide, by decide, by decide, by decide, by decide, by decide, by decide, by decide, by decide, by decide, by decide, by decide, by decide, by decide, by decide, by decide, by decide, by decide, by decide, by decide⟩
instance : Sizes 8192 := ⟨by decide, by decide, by decide, by decide, by decide, by decide, by decide, by decide, by decide, by decide, by decide, by decide, by decide, by decide, by decide, by decide, by decide, by decide, by decide, by decide⟩

instance : Reads 4096 where
  tall_at x g b t := by funext j; pointwise [tall]; rfl
  sums_at x0 x1 b t n k := by pointwise [sums]
  gate_at x dg sz b t n k := by pointwise [gate]; rfl
  side_at y b t j := by pointwise
  mixed_at y gd pb wdo wo b t := by funext j; show mixed y gd pb wdo wo (ix3 b t j) = _; pointwise [mixed]; rfl
  both_at x win b t := by funext j; show both x win (ix3 b t j) = _; pointwise [both]; rfl
  gated_at u wout b t := by
    funext j; show gated u wout (ix3 b t j) = _; pointwise [gated]; simp only [times, silu, zero_sub]

instance : Reads 8192 where
  tall_at x g b t := by funext j; pointwise [tall]; rfl
  sums_at x0 x1 b t n k := by pointwise [sums]
  gate_at x dg sz b t n k := by pointwise [gate]; rfl
  side_at y b t j := by pointwise
  mixed_at y gd pb wdo wo b t := by funext j; show mixed y gd pb wdo wo (ix3 b t j) = _; pointwise [mixed]; rfl
  both_at x win b t := by funext j; show both x win (ix3 b t j) = _; pointwise [both]; rfl
  gated_at u wout b t := by
    funext j; show gated u wout (ix3 b t j) = _; pointwise [gated]; simp only [times, silu, zero_sub]

end Cert.Merge.Tokens

end
-- ==== Proof.MergeValue.lean ====
/- The merge and feed-forward kernel: every token of its output array is the token's function of the arguments. -/
module

public import proofs.«01_k».proof.Proof.MergeTokens

@[expose] public section

set_option maxRecDepth 16384

noncomputable section

namespace Cert.MergeIdeal.Tile

open Cert.MergeIdeal Cert.MergeIdeal.Gen Cert.Layer Cert.Merge.Token Cert.Merge.Tokens Idealize.ShloMosaic Idealize.ShloMosaic.TcCoe Idealize.SL.Sem
open Idealize.ShloMosaic.Pipeline (Dat)

variable (m : (ℓ : Loc nD τ sig) → Buf (Elt Ideal) ℓ) (c : Dev nD)

/-- The batch and the token of a row of a step's tile. -/
abbrev batch (t : Fin cfg0.N) : Fin 8 := ⟨(t : ℕ) / 8, by have : (t : ℕ) < 64 := t.2; omega⟩
abbrev at' (t : Fin cfg0.N) (r : Fin 512) : Fin 4096 := ⟨512 * ((t : ℕ) % 8) + r, by omega⟩

/-- The block of every argument and of the result at a step. -/
theorem index0 : ∀ t : Fin cfg0.N, win0_0.index t = ![(t : ℕ) / 8, 0, (t : ℕ) % 8, 0] := (by decide +kernel : ∀ t : Fin grid0.N, win0_0.index t = ![(t : ℕ) / 8, 0, (t : ℕ) % 8, 0])
theorem index1 : ∀ t : Fin cfg0.N, win0_1.index t = ![(t : ℕ) / 8, 0, (t : ℕ) % 8, 0] := (by decide +kernel : ∀ t : Fin grid0.N, win0_1.index t = ![(t : ℕ) / 8, 0, (t : ℕ) % 8, 0])
theorem index2 : ∀ t : Fin cfg0.N, win0_2.index t = ![(t : ℕ) / 8, (t : ℕ) % 8, 0] := (by decide +kernel : ∀ t : Fin grid0.N, win0_2.index t = ![(t : ℕ) / 8, (t : ℕ) % 8, 0])
theorem index3 : ∀ t : Fin cfg0.N, win0_3.index t = ![(t : ℕ) / 8, (t : ℕ) % 8, 0] := (by decide +kernel : ∀ t : Fin grid0.N, win0_3.index t = ![(t : ℕ) / 8, (t : ℕ) % 8, 0])
theorem index4 : ∀ t : Fin cfg0.N, win0_4.index t = ![(t : ℕ) / 8, (t : ℕ) % 8, 0] := (by decide +kernel : ∀ t : Fin grid0.N, win0_4.index t = ![(t : ℕ) / 8, (t : ℕ) % 8, 0])
theorem index5 : ∀ t : Fin cfg0.N, win0_5.index t = ![(t : ℕ) / 8, (t : ℕ) % 8, 0] := (by decide +kernel : ∀ t : Fin grid0.N, win0_5.index t = ![(t : ℕ) / 8, (t : ℕ) % 8, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index14 : ∀ t : Fin cfg0.N, win0_14.index t = ![0, 0] := (by decide +kernel : ∀ t : Fin grid0.N, win0_14.index t = ![0, 0])
theorem index15 : ∀ t : Fin cfg0.N, win0_15.index t = ![(t : ℕ) / 8, (t : ℕ) % 8, 0] := (by decide +kernel : ∀ t : Fin grid0.N, win0_15.index t = ![(t : ℕ) / 8, (t : ℕ) % 8, 0])

/-- The numbers in a step's blocks, and the place of its result. -/
theorem block0 (t : Fin cfg0.N) (n : Fin 8) (r : Fin 512) (k : Fin 128) : iblk m c 0 t (ix4 0 n r k) = V m c main_arg0 (ix4 (batch t) n (at' t r) k) := by
  blk_ext [iblk, index0 t]
theorem block1 (t : Fin cfg0.N) (n : Fin 8) (r : Fin 512) (k : Fin 128) : iblk m c 1 t (ix4 0 n r k) = V m c main_arg1 (ix4 (batch t) n (at' t r) k) := by
  blk_ext [iblk, index1 t]
theorem block2 (t : Fin cfg0.N) (r : Fin 512) (k : Fin 1024) : iblk m c 2 t (ix3 0 r k) = V m c main_arg2 (ix3 (batch t) (at' t r) k) := by
  blk_ext [iblk, index2 t]
theorem block3 (t : Fin cfg0.N) (r : Fin 512) (k : Fin 1024) : iblk m c 3 t (ix3 0 r k) = V m c main_arg3 (ix3 (batch t) (at' t r) k) := by
  blk_ext [iblk, index3 t]
theorem block4 (t : Fin cfg0.N) (r : Fin 512) (k : Fin 1024) : iblk m c 4 t (ix3 0 r k) = V m c main_arg4 (ix3 (batch t) (at' t r) k) := by
  blk_ext [iblk, index4 t]
theorem block5 (t : Fin cfg0.N) (r : Fin 512) (k : Fin 1024) : iblk m c 5 t (ix3 0 r k) = V m c main_arg5 (ix3 (batch t) (at' t r) k) := by
  blk_ext [iblk, index5 t]
theorem block6 (t : Fin cfg0.N) : iblk m c 6 t = V m c main_arg6 := by
  funext y; blk_ext [iblk, index6 t]
theorem block7 (t : Fin cfg0.N) : iblk m c 7 t = V m c main_arg7 := by
  funext y; blk_ext [iblk, index7 t]
theorem block8 (t : Fin cfg0.N) : iblk m c 8 t = V m c main_arg8 := by
  funext y; blk_ext [iblk, index8 t]
theorem block9 (t : Fin cfg0.N) : iblk m c 9 t = V m c main_arg9 := by
  funext y; blk_ext [iblk, index9 t]
theorem block10 (t : Fin cfg0.N) : iblk m c 10 t = V m c main_arg10 := by
  funext y; blk_ext [iblk, index10 t]
theorem block11 (t : Fin cfg0.N) : iblk m c 11 t = V m c main_arg11 := by
  funext y; blk_ext [iblk, index11 t]
theorem block12 (t : Fin cfg0.N) : iblk m c 12 t = V m c main_arg12 := by
  funext y; blk_ext [iblk, index12 t]
theorem block13 (t : Fin cfg0.N) : iblk m c 13 t = V m c main_arg13 := by
  funext y; blk_ext [iblk, index13 t]
theorem block14 (t : Fin cfg0.N) : iblk m c 14 t = V m c main_arg14 := by
  funext y; blk_ext [iblk, index14 t]

theorem out15 (t : Fin cfg0.N) (r : Fin 512) (e : Fin 1024) : (win0_15.blk t).view.emb (ix3 0 r e) = ix3 (batch t) (at' t r) e := by
  blk_ext [index15 t]

/-- The array that the kernel leaves: the token's function at every token. -/
theorem result : (dats m 0 c).arrAt 15 cfg0.N = tokens (V m c main_arg0) (V m c main_arg1) (V m c main_arg2) (V m c main_arg3) (V m c main_arg4)
    (V m c main_arg5) (V m c main_arg6) (V m c main_arg7) (V m c main_arg8) (V m c main_arg9) (V m c main_arg10) (V m c main_arg11) (V m c main_arg12)
    (V m c main_arg13) (V m c main_arg14) := by
  refine (dats m 0 c).arrAt_eq_of_covers 15 _ (by decide +kernel) fun t hf y => ?_
  blk_simp
  rw [after0_15]
  obtain ⟨r, e, rfl⟩ : ∃ (r : Fin 512) (e : Fin 1024), y = ix3 0 r e := ⟨y 1, y 2, (eq_ix3 y).trans (congrArg (fun z => ix3 z (y 1) (y 2)) (Subsingleton.elim (α := Fin 1) _ _))⟩
  rw [out_eq, block6, block7, block8, block9, block10, block11, block12, block13, block14]
  exact (tile_tokens (batch t) (at' t r) r e _ _ _ _ _ _ (V m c main_arg0) (V m c main_arg1) (V m c main_arg2) (V m c main_arg3) (V m c main_arg4)
    (V m c main_arg5) _ _ _ _ _ _ _ _ _ (fun n k => block0 m c t n r k) (fun n k => block1 m c t n r k) (fun k => block2 m c t r k)
    (fun k => block3 m c t r k) (fun k => block4 m c t r k) (fun k => block5 m c t r k)).trans (congrArg (tokens _ _ _ _ _ _ _ _ _ _ _ _ _ _ _) (out15 t r e)).symm

end Cert.MergeIdeal.Tile

end
-- ==== Proof.MergeRef.lean ====
/- The reference of the merge and feed-forward call: its result is the token's function at every token. -/
module

public import proofs.«01_k».proof.Proof.MergeTokens
public import proofs.«01_k».proof.Proof.Gen.MergeReferenceIdeal.Run

@[expose] public section

set_option maxRecDepth 16384

noncomputable section

namespace Cert.MergeReferenceIdeal.Value

open Cert.MergeReferenceIdeal Cert.MergeReferenceIdeal.Gen Cert.Merge.Tokens Idealize.ShloMosaic Idealize.ShloMosaic.TcCoe

/-- The last norm of the stream that the program holds before it. -/
theorem res_eq (m : (ℓ : Loc nD τ sig) → Buf (Elt Ideal) ℓ) (c : Dev nD) :
    (tall (L := 4096) (res_main_v80 (StableHlo.launchContents m c)) (m ((c.tc : Thread nD τ).loc main_arg14)) : FVec Ideal S8x4096x1024 .f32)
    = tokens (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) :=
  all_tokens (L := 4096) _ _ _ _ _ _ _ _ _ _ _ _ _ _ _

end Cert.MergeReferenceIdeal.Value

end
-- ==== Proof.MergeSame.lean ====
/- The merge and feed-forward call: from equal arguments the kernel and the reference end with equal results. -/
module

public import proofs.«01_k».proof.Defs
public import proofs.«01_k».proof.Proof.MergeValue
public import proofs.«01_k».proof.Proof.MergeRef
public import Idealize.ShloMosaic.Adequacy
public import Idealize.ShloMosaic.Init

@[expose] public section

set_option maxRecDepth 16384

noncomputable section

namespace Cert.Proof.Merge

open Idealize.ShloMosaic Idealize.SL.Sem

/-- The reference leaves its arguments as they were, and it declares no semaphore. -/
theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- Both end with the token's function at every token. -/
theorem same_results : Cert.algebraic_MergeIdeal_MergeReferenceIdeal := by
  intro m ρ m' ρ' _ heq
  refine ⟨fun c => _, Cert.MergeIdeal.Value.run_blocks (F := Ideal) m ρ,
    (θ_run Cert.MergeReferenceIdeal.defs _ _).mono (fun r hr c => ?_) (Cert.MergeReferenceIdeal.Value.run (F := Ideal) m' ρ')⟩
  obtain ⟨h0, hargs⟩ := hr c
  obtain ⟨e0, e1, e2, e3, e4, e5, e6, e7, e8, e9, e10, e11, e12, e13, e14⟩ := heq c
  refine ⟨h0.trans ((Cert.MergeReferenceIdeal.Value.res_eq m' c).trans ?_), hargs⟩
  rw [e0, e1, e2, e3, e4, e5, e6, e7, e8, e9, e10, e11, e12, e13, e14]
  exact (Cert.MergeIdeal.Tile.result m c).symm

end Cert.Proof.Merge

end
-- ==== Proof.FfnValue.lean ====
/- The kernel of the feed-forward layer: what it writes for 512 rows is the layer on that tile, so its output array is the layer on every row. -/
module

public import proofs.«01_k».proof.Proof.Layer
public import proofs.«01_k».proof.Proof.Gen.FfnIdeal.Value
public import Idealize.ShloMosaic.Lib.Pipeline.ValueKit.Point

@[expose] public section

set_option maxRecDepth 16384

noncomputable section

namespace Cert.FfnIdeal.Tile

open Cert.FfnIdeal Cert.FfnIdeal.Gen Cert.Layer Idealize.ShloMosaic Idealize.ShloMosaic.TcCoe Idealize.SL.Sem
open Idealize.ShloMosaic.Pipeline (Dat)

theorem zeros : (![0, 0] : Fin 2 → ℕ) = fun _ => 0 := by decide

theorem out_eq (x0 : Vec Ideal S512x1024 .f32) (x1 : Vec Ideal S1x1024 .f32) (x2 : Vec Ideal S1024x5632 .bf16) (x3 : Vec Ideal S2816x1024 .bf16)
    (x4 : Vec Ideal S1x1024 .f32) : out0_5 x0 x1 x2 x3 x4 = layered x0 x1 x2 x3 x4 := by
  unfold_out out0_5
  rw [View.canon_unit_zero (S := S512x1024) zeros]
  have h0 : View.ld x0 r0_0 = x0 := View.ld_unit_zero (S := S512x1024) zeros _ _
  have h1 : View.ld x1 r0_1 = x1 := View.ld_unit_zero (S := S1x1024) zeros _ _
  have h4 : View.ld x4 r0_1 = x4 := View.ld_unit_zero (S := S1x1024) zeros _ _
  simp only [h0, h1, h4]
  rfl

variable (m : (ℓ : Loc nD τ sig) → Buf (Elt Ideal) ℓ) (c : Dev nD)

/-- The layer on every row of the argument. -/
def rows (x : FVec Ideal S32768x1024 .f32) (pre : FVec Ideal S1x1024 .f32) (win : FVec Ideal S1024x5632 .bf16) (wout : FVec Ideal S2816x1024 .bf16)
    (post : FVec Ideal S1x1024 .f32) : FVec Ideal S32768x1024 .f32 :=
  fun y => layer (row x (y 0)) (row win) (row wout) (row pre 0) (row post 0) (y 1)

theorem index0 : ∀ t : Fin cfg0.N, win0_0.index t = ![(t : ℕ), 0] := (by decide +kernel : ∀ t : Fin grid0.N, win0_0.index t = ![(t : ℕ), 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![(t : ℕ), 0] := (by decide +kernel : ∀ t : Fin grid0.N, win0_5.index t = ![(t : ℕ), 0])

theorem lt_rows (t : Fin cfg0.N) (r : Fin 512) : 512 * (t : ℕ) + r < 32768 := by
  have : (t : ℕ) < 64 := t.2
  omega

theorem block0 (t : Fin cfg0.N) (r : Fin 512) (e : Fin 1024) : iblk m c 0 t (ix2 r e) = V m c main_arg0 (ix2 (⟨512 * (t : ℕ) + r, lt_rows t r⟩ : Fin 32768) e) := by
  blk_ext [iblk, index0 t]
theorem block1 (t : Fin cfg0.N) : iblk m c 1 t = V m c main_arg1 := by
  funext y; blk_ext [iblk, index1 t]
theorem block2 (t : Fin cfg0.N) : iblk m c 2 t = V m c main_arg2 := by
  funext y; blk_ext [iblk, index2 t]
theorem block3 (t : Fin cfg0.N) : iblk m c 3 t = V m c main_arg3 := by
  funext y; blk_ext [iblk, index3 t]
theorem block4 (t : Fin cfg0.N) : iblk m c 4 t = V m c main_arg4 := by
  funext y; blk_ext [iblk, index4 t]

theorem out5 (t : Fin cfg0.N) (r : Fin 512) (e : Fin 1024) : (win0_5.blk t).view.emb (ix2 r e) = ix2 (⟨512 * (t : ℕ) + r, lt_rows t r⟩ : Fin 32768) e := by
  blk_ext [index5 t]

theorem result : (dats m 0 c).arrAt 5 cfg0.N = rows (V m c main_arg0) (V m c main_arg1) (V m c main_arg2) (V m c main_arg3) (V m c main_arg4) := by
  refine (dats m 0 c).arrAt_eq_of_covers 5 _ (by decide +kernel) fun t hf y => ?_
  blk_simp
  rw [after0_5]
  obtain ⟨r, e, rfl⟩ : ∃ (r : Fin 512) (e : Fin 1024), y = ix2 r e := ⟨y 0, y 1, eq_ix2 y⟩
  rw [out_eq, block1, block2, block3, block4]
  refine (congrFun (layered_at (iblk m c 0 t) _ _ _ _ r) e).trans (Eq.trans ?_ (congrArg (rows _ _ _ _ _) (out5 t r e)).symm)
  have h0 : row (r := 512) (d := 1024) (φ := .f32) (iblk m c 0 t) r = row (r := 32768) (d := 1024) (φ := .f32) (V m c main_arg0) ⟨512 * (t : ℕ) + r, lt_rows t r⟩ := funext fun k => block0 m c t r k
  rw [h0]
  rfl

end Cert.FfnIdeal.Tile

end
-- ==== Proof.FfnRef.lean ====
/- The reference of the feed-forward layer at an index: the layer on that row. -/
module

public import proofs.«01_k».proof.Proof.Layer
public import proofs.«01_k».proof.Proof.Gen.FfnReferenceIdeal.Run

@[expose] public section

set_option maxRecDepth 16384

noncomputable section

namespace Cert.FfnReferenceIdeal.Value

open Cert.FfnReferenceIdeal Cert.FfnReferenceIdeal.Gen Cert.Layer Idealize.ShloMosaic Idealize.ShloMosaic.TcCoe

/-- `rms` of each row of a tall array. -/
def tall (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf
    (Host.divf (broadcastInDim S32768x1 ![0] bcast_S32768_S32768x1_0
      (Host.reduceAdd (mulf x x) (constant S_ .f32 0x00000000#32) reducesTo_S32768x1024_S32768_d1 h_S_))
      (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 g)

theorem tall_at (x : FVec Ideal S32768x1024 .f32) (g : FVec Ideal S1x1024 .f32) (i : Fin 32768) : row (tall x g) i = rms 0x44800000#32 (row x i) (row g 0) := by
  funext j
  pointwise [tall]
  rfl

/-- The products with the first matrix, and the two together with the second. -/
def both (x : FVec Ideal S32768x1024 .f32) (win : FVec Ideal S1024x5632 .bf16) : FVec Ideal S32768x5632 .f32 :=
  Host.dotGeneral dot_S32768x1024_S1024x5632_S32768x5632_1_0_0_1_n_n none x (extf .f32 win bitsLt_bf16_f32)

theorem both_at (x : FVec Ideal S32768x1024 .f32) (win : FVec Ideal S1024x5632 .bf16) (i : Fin 32768) : row (both x win) i = times (row x i) (row win) := by
  funext j
  show both x win (ix2 i j) = _
  pointwise [both]
  rfl

def gated (u : FVec Ideal S32768x5632 .f32) (wout : FVec Ideal S2816x1024 .bf16) : FVec Ideal S32768x1024 .f32 :=
  let a := extractStridedSlice S32768x2816 ![0, 0] u slices_S32768x5632_S32768x2816_0_0
  Host.dotGeneral dot_S32768x2816_S2816x1024_S32768x1024_1_0_0_1_n_n none
    (mulf (mulf a (Host.divf (broadcastInDim S32768x2816 ![] bcast_S_S32768x2816 (constant S_ .f32 0x3F800000#32))
      (addf (broadcastInDim S32768x2816 ![] bcast_S_S32768x2816 (constant S_ .f32 0x3F800000#32)) (Host.exp (Host.negf a)))))
      (extractStridedSlice S32768x2816 ![0, 2816] u slices_S32768x5632_S32768x2816_0_2816)) (extf .f32 wout bitsLt_bf16_f32)

theorem gated_at (u : FVec Ideal S32768x5632 .f32) (wout : FVec Ideal S2816x1024 .bf16) (i : Fin 32768) :
    row (gated u wout) i = times (fun k : Fin 2816 => silu (row u i ⟨k, by omega⟩) * row u i ⟨2816 + k, by omega⟩) (row wout) := by
  funext j
  show gated u wout (ix2 i j) = _
  pointwise [gated]
  simp only [times, silu, zero_sub]

theorem middle_at (x : FVec Ideal S32768x1024 .f32) (win : FVec Ideal S1024x5632 .bf16) (wout : FVec Ideal S2816x1024 .bf16) (i : Fin 32768) :
    row (gated (both x win) wout) i = times (hidden (row x i) (row win)) (row wout) := by
  rw [gated_at, both_at]
  rfl

/-- The reference's result from its arguments. -/
def all (x : FVec Ideal S32768x1024 .f32) (pre : FVec Ideal S1x1024 .f32) (win : FVec Ideal S1024x5632 .bf16) (wout : FVec Ideal S2816x1024 .bf16)
    (post : FVec Ideal S1x1024 .f32) : FVec Ideal S32768x1024 .f32 :=
  addf x (mulf (broadcastInDim S32768x1024 ![] bcast_S_S32768x1024 (constant S_ .f32 0x3F000000#32)) (tall (gated (both (tall x pre) win) wout) post))

theorem all_at (x : FVec Ideal S32768x1024 .f32) (pre : FVec Ideal S1x1024 .f32) (win : FVec Ideal S1024x5632 .bf16) (wout : FVec Ideal S2816x1024 .bf16)
    (post : FVec Ideal S1x1024 .f32) (i : Fin 32768) : row (all x pre win wout post) i = layer (row x i) (row win) (row wout) (row pre 0) (row post 0) := by
  funext j
  have h := congrFun (tall_at (gated (both (tall x pre) win) wout) post i) j
  have hm := middle_at (tall x pre) win wout i
  rw [tall_at] at hm
  rw [hm] at h
  rw [layer, ← h]
  pointwise [all]

theorem res_eq (m : (ℓ : Loc nD τ sig) → Buf (Elt Ideal) ℓ) (c : Dev nD) : res_out0 m c
    = all (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  dsimp only [res_out0, res_main_v34, all, tall, gated, both]

end Cert.FfnReferenceIdeal.Value

end
-- ==== Proof.FfnSame.lean ====
/- The feed-forward layer: from equal arguments the kernel and the reference end with equal results. -/
module

public import proofs.«01_k».proof.Defs
public import proofs.«01_k».proof.Proof.FfnValue
public import proofs.«01_k».proof.Proof.FfnRef
public import Idealize.ShloMosaic.Adequacy
public import Idealize.ShloMosaic.Init

@[expose] public section

set_option maxRecDepth 16384

noncomputable section

namespace Cert.Proof.Ffn

open Idealize.ShloMosaic Idealize.SL.Sem

theorem frame_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The reference's result is the layer on every row. -/
theorem all_rows (x : FVec Ideal Cert.FfnIdeal.S32768x1024 .f32) (pre : FVec Ideal Cert.FfnIdeal.S1x1024 .f32) (win : FVec Ideal Cert.FfnIdeal.S1024x5632 .bf16)
    (wout : FVec Ideal Cert.FfnIdeal.S2816x1024 .bf16) (post : FVec Ideal Cert.FfnIdeal.S1x1024 .f32) :
    Cert.FfnReferenceIdeal.Value.all x pre win wout post = Cert.FfnIdeal.Tile.rows x pre win wout post := by
  funext y
  obtain ⟨r, e, rfl⟩ : ∃ (r : Fin 32768) (e : Fin 1024), y = ix2 r e := ⟨y 0, y 1, eq_ix2 y⟩
  exact congrFun (Cert.FfnReferenceIdeal.Value.all_at x pre win wout post r) e

theorem same_results : Cert.algebraic_FfnIdeal_FfnReferenceIdeal := by
  intro m ρ m' ρ' _ heq
  refine ⟨fun c => _, Cert.FfnIdeal.Value.run_blocks (F := Ideal) m ρ,
    (θ_run Cert.FfnReferenceIdeal.defs _ _).mono (fun r hr c => ?_) (Cert.FfnReferenceIdeal.Value.run (F := Ideal) m' ρ')⟩
  obtain ⟨h0, hargs⟩ := hr c
  obtain ⟨e0, e1, e2, e3, e4⟩ := heq c
  refine ⟨h0.trans ((Cert.FfnReferenceIdeal.Value.res_eq m' c).trans ?_), hargs⟩
  rw [e0, e1, e2, e3, e4]
  exact (all_rows _ _ _ _ _).trans (Cert.FfnIdeal.Tile.result m c).symm

end Cert.Proof.Ffn

end
-- ==== Proof.PromptValue.lean ====
/- The merge and feed-forward kernel at 8192 tokens: every token of its output array is the token's function of the arguments. -/
module

public import proofs.«01_k».proof.Proof.MergeTokens
public import proofs.«01_k».proof.Proof.Gen.MergePromptIdeal.Value

@[expose] public section

set_option maxRecDepth 16384

noncomputable section

namespace Cert.MergePromptIdeal.Tile

open Cert.MergePromptIdeal Cert.MergePromptIdeal.Gen Cert.Layer Cert.Merge.Token Cert.Merge.Tokens Idealize.ShloMosaic Idealize.ShloMosaic.TcCoe Idealize.SL.Sem
open Idealize.ShloMosaic.Pipeline (Dat)

variable (m : (ℓ : Loc nD τ sig) → Buf (Elt Ideal) ℓ) (c : Dev nD)

/-- The batch and the token of a row of a step's tile. -/
abbrev batch (t : Fin cfg0.N) : Fin 8 := ⟨(t : ℕ) / 16, by have : (t : ℕ) < 128 := t.2; omega⟩
abbrev at' (t : Fin cfg0.N) (r : Fin 512) : Fin 8192 := ⟨512 * ((t : ℕ) % 16) + r, by omega⟩

/-- The block of every argument and of the result at a step. -/
theorem index0 : ∀ t : Fin cfg0.N, win0_0.index t = ![(t : ℕ) / 16, 0, (t : ℕ) % 16, 0] := (by decide +kernel : ∀ t : Fin grid0.N, win0_0.index t = ![(t : ℕ) / 16, 0, (t : ℕ) % 16, 0])
theorem index1 : ∀ t : Fin cfg0.N, win0_1.index t = ![(t : ℕ) / 16, 0, (t : ℕ) % 16, 0] := (by decide +kernel : ∀ t : Fin grid0.N, win0_1.index t = ![(t : ℕ) / 16, 0, (t : ℕ) % 16, 0])
theorem index2 : ∀ t : Fin cfg0.N, win0_2.index t = ![(t : ℕ) / 16, (t : ℕ) % 16, 0] := (by decide +kernel : ∀ t : Fin grid0.N, win0_2.index t = ![(t : ℕ) / 16, (t : ℕ) % 16, 0])
theorem index3 : ∀ t : Fin cfg0.N, win0_3.index t = ![(t : ℕ) / 16, (t : ℕ) % 16, 0] := (by decide +kernel : ∀ t : Fin grid0.N, win0_3.index t = ![(t : ℕ) / 16, (t : ℕ) % 16, 0])
theorem index4 : ∀ t : Fin cfg0.N, win0_4.index t = ![(t : ℕ) / 16, (t : ℕ) % 16, 0] := (by decide +kernel : ∀ t : Fin grid0.N, win0_4.index t = ![(t : ℕ) / 16, (t : ℕ) % 16, 0])
theorem index5 : ∀ t : Fin cfg0.N, win0_5.index t = ![(t : ℕ) / 16, (t : ℕ) % 16, 0] := (by decide +kernel : ∀ t : Fin grid0.N, win0_5.index t = ![(t : ℕ) / 16, (t : ℕ) % 16, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index14 : ∀ t : Fin cfg0.N, win0_14.index t = ![0, 0] := (by decide +kernel : ∀ t : Fin grid0.N, win0_14.index t = ![0, 0])
theorem index15 : ∀ t : Fin cfg0.N, win0_15.index t = ![(t : ℕ) / 16, (t : ℕ) % 16, 0] := (by decide +kernel : ∀ t : Fin grid0.N, win0_15.index t = ![(t : ℕ) / 16, (t : ℕ) % 16, 0])

/-- The numbers in a step's blocks, and the place of its result. -/
theorem block0 (t : Fin cfg0.N) (n : Fin 8) (r : Fin 512) (k : Fin 128) : iblk m c 0 t (ix4 0 n r k) = V m c main_arg0 (ix4 (batch t) n (at' t r) k) := by
  blk_ext [iblk, index0 t]
theorem block1 (t : Fin cfg0.N) (n : Fin 8) (r : Fin 512) (k : Fin 128) : iblk m c 1 t (ix4 0 n r k) = V m c main_arg1 (ix4 (batch t) n (at' t r) k) := by
  blk_ext [iblk, index1 t]
theorem block2 (t : Fin cfg0.N) (r : Fin 512) (k : Fin 1024) : iblk m c 2 t (ix3 0 r k) = V m c main_arg2 (ix3 (batch t) (at' t r) k) := by
  blk_ext [iblk, index2 t]
theorem block3 (t : Fin cfg0.N) (r : Fin 512) (k : Fin 1024) : iblk m c 3 t (ix3 0 r k) = V m c main_arg3 (ix3 (batch t) (at' t r) k) := by
  blk_ext [iblk, index3 t]
theorem block4 (t : Fin cfg0.N) (r : Fin 512) (k : Fin 1024) : iblk m c 4 t (ix3 0 r k) = V m c main_arg4 (ix3 (batch t) (at' t r) k) := by
  blk_ext [iblk, index4 t]
theorem block5 (t : Fin cfg0.N) (r : Fin 512) (k : Fin 1024) : iblk m c 5 t (ix3 0 r k) = V m c main_arg5 (ix3 (batch t) (at' t r) k) := by
  blk_ext [iblk, index5 t]
theorem block6 (t : Fin cfg0.N) : iblk m c 6 t = V m c main_arg6 := by
  funext y; blk_ext [iblk, index6 t]
theorem block7 (t : Fin cfg0.N) : iblk m c 7 t = V m c main_arg7 := by
  funext y; blk_ext [iblk, index7 t]
theorem block8 (t : Fin cfg0.N) : iblk m c 8 t = V m c main_arg8 := by
  funext y; blk_ext [iblk, index8 t]
theorem block9 (t : Fin cfg0.N) : iblk m c 9 t = V m c main_arg9 := by
  funext y; blk_ext [iblk, index9 t]
theorem block10 (t : Fin cfg0.N) : iblk m c 10 t = V m c main_arg10 := by
  funext y; blk_ext [iblk, index10 t]
theorem block11 (t : Fin cfg0.N) : iblk m c 11 t = V m c main_arg11 := by
  funext y; blk_ext [iblk, index11 t]
theorem block12 (t : Fin cfg0.N) : iblk m c 12 t = V m c main_arg12 := by
  funext y; blk_ext [iblk, index12 t]
theorem block13 (t : Fin cfg0.N) : iblk m c 13 t = V m c main_arg13 := by
  funext y; blk_ext [iblk, index13 t]
theorem block14 (t : Fin cfg0.N) : iblk m c 14 t = V m c main_arg14 := by
  funext y; blk_ext [iblk, index14 t]

theorem out15 (t : Fin cfg0.N) (r : Fin 512) (e : Fin 1024) : (win0_15.blk t).view.emb (ix3 0 r e) = ix3 (batch t) (at' t r) e := by
  blk_ext [index15 t]

/-- A step's result is the same function of its blocks at either length. -/
theorem out_eq (x0 x1 : Vec Ideal S1x8x512x128 .bf16) (x2 x3 x4 : Vec Ideal S1x512x1024 .bf16) (x5 : Vec Ideal S1x512x1024 .f32) (x6 : Vec Ideal S1x128 .f32)
    (x7 x8 : Vec Ideal S1024x1024 .bf16) (x9 x10 : Vec Ideal S1x1024 .f32) (x11 : Vec Ideal S1024x5632 .bf16) (x12 : Vec Ideal S2816x1024 .bf16)
    (x13 x14 : Vec Ideal S1x1024 .f32) :
    out0_15 x0 x1 x2 x3 x4 x5 x6 x7 x8 x9 x10 x11 x12 x13 x14 = MergeIdeal.Tile.tile x0 x1 x2 x3 x4 x5 x6 x7 x8 x9 x10 x11 x12 x13 x14 :=
  MergeIdeal.Tile.out_eq x0 x1 x2 x3 x4 x5 x6 x7 x8 x9 x10 x11 x12 x13 x14

/-- The array that the kernel leaves: the token's function at every token. -/
theorem result : (dats m 0 c).arrAt 15 cfg0.N = tokens (V m c main_arg0) (V m c main_arg1) (V m c main_arg2) (V m c main_arg3) (V m c main_arg4)
    (V m c main_arg5) (V m c main_arg6) (V m c main_arg7) (V m c main_arg8) (V m c main_arg9) (V m c main_arg10) (V m c main_arg11) (V m c main_arg12)
    (V m c main_arg13) (V m c main_arg14) := by
  refine (dats m 0 c).arrAt_eq_of_covers 15 _ (by decide +kernel) fun t hf y => ?_
  blk_simp
  rw [after0_15]
  obtain ⟨r, e, rfl⟩ : ∃ (r : Fin 512) (e : Fin 1024), y = ix3 0 r e := ⟨y 1, y 2, (eq_ix3 y).trans (congrArg (fun z => ix3 z (y 1) (y 2)) (Subsingleton.elim (α := Fin 1) _ _))⟩
  rw [out_eq, block6, block7, block8, block9, block10, block11, block12, block13, block14]
  exact (tile_tokens (batch t) (at' t r) r e _ _ _ _ _ _ (V m c main_arg0) (V m c main_arg1) (V m c main_arg2) (V m c main_arg3) (V m c main_arg4)
    (V m c main_arg5) _ _ _ _ _ _ _ _ _ (fun n k => block0 m c t n r k) (fun n k => block1 m c t n r k) (fun k => block2 m c t r k)
    (fun k => block3 m c t r k) (fun k => block4 m c t r k) (fun k => block5 m c t r k)).trans (congrArg (tokens _ _ _ _ _ _ _ _ _ _ _ _ _ _ _) (out15 t r e)).symm

end Cert.MergePromptIdeal.Tile

end
-- ==== Proof.PromptRef.lean ====
/- The reference of the merge and feed-forward call at 8192 tokens: its result is the token's function at every token. -/
module

public import proofs.«01_k».proof.Proof.MergeTokens
public import proofs.«01_k».proof.Proof.Gen.MergePromptReferenceIdeal.Run

@[expose] public section

set_option maxRecDepth 16384

noncomputable section

namespace Cert.MergePromptReferenceIdeal.Value

open Cert.MergePromptReferenceIdeal Cert.MergePromptReferenceIdeal.Gen Cert.Merge.Tokens Idealize.ShloMosaic Idealize.ShloMosaic.TcCoe

/-- The last norm of the stream that the program holds before it. -/
theorem res_eq (m : (ℓ : Loc nD τ sig) → Buf (Elt Ideal) ℓ) (c : Dev nD) :
    (tall (L := 8192) (res_main_v80 (StableHlo.launchContents m c)) (m ((c.tc : Thread nD τ).loc main_arg14)) : FVec Ideal S8x8192x1024 .f32)
    = tokens (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) :=
  all_tokens (L := 8192) _ _ _ _ _ _ _ _ _ _ _ _ _ _ _

end Cert.MergePromptReferenceIdeal.Value

end
-- ==== Proof.PromptSame.lean ====
/- The merge and feed-forward call at 8192 tokens: from equal arguments the kernel and the reference end with equal results. -/
module

public import proofs.«01_k».proof.Defs
public import proofs.«01_k».proof.Proof.PromptValue
public import proofs.«01_k».proof.Proof.PromptRef
public import Idealize.ShloMosaic.Adequacy
public import Idealize.ShloMosaic.Init

@[expose] public section

set_option maxRecDepth 16384

noncomputable section

namespace Cert.Proof.Prompt

open Idealize.ShloMosaic Idealize.SL.Sem

/-- The reference leaves its arguments as they were, and it declares no semaphore. -/
theorem frame_reference : Cert.quiescent_MergePromptReferenceIdeal := fun m ρ _ =>
  (θ_run Cert.MergePromptReferenceIdeal.defs _ _).mono (fun r h => ⟨fun c => (h c).2, sem_eq_zero_of_no_sems (by decide) r.2⟩)
    (Cert.MergePromptReferenceIdeal.Value.run (F := Ideal) m ρ)

/-- Both end with the token's function at every token. -/
theorem same_results : Cert.algebraic_MergePromptIdeal_MergePromptReferenceIdeal := by
  intro m ρ m' ρ' _ heq
  refine ⟨fun c => _, Cert.MergePromptIdeal.Value.run_blocks (F := Ideal) m ρ,
    (θ_run Cert.MergePromptReferenceIdeal.defs _ _).mono (fun r hr c => ?_) (Cert.MergePromptReferenceIdeal.Value.run (F := Ideal) m' ρ')⟩
  obtain ⟨h0, hargs⟩ := hr c
  obtain ⟨e0, e1, e2, e3, e4, e5, e6, e7, e8, e9, e10, e11, e12, e13, e14⟩ := heq c
  refine ⟨h0.trans ((Cert.MergePromptReferenceIdeal.Value.res_eq m' c).trans ?_), hargs⟩
  rw [e0, e1, e2, e3, e4, e5, e6, e7, e8, e9, e10, e11, e12, e13, e14]
  exact (Cert.MergePromptIdeal.Tile.result m c).symm

end Cert.Proof.Prompt

end
-- ==== Proof.GatesToken.lean ====
/- The two gates of a token, and the kernel's stages on a tile of 512 tokens at an index. -/
module

public import proofs.«01_k».proof.Proof.Layer
public import proofs.«01_k».proof.Proof.Gen.GatesIdeal.Skeleton
public import Idealize.ShloMosaic.Lib.Pointwise

@[expose] public section

set_option maxRecDepth 16384

noncomputable section

namespace Cert.Gates

open Cert.GatesIdeal Cert.GatesIdeal.Gen Cert.Layer Idealize.ShloMosaic

/-- The logistic of a number. -/
def logistic (a : EReal) : EReal := Ideal.div 1 (1 + Ideal.exp (0 - a))

/-- What a token is projected to: its row, normed, times the matrix. -/
def projected (x g : Fin 1024 → EReal) (w : Fin 1024 → Fin 3072 → EReal) : Fin 3072 → EReal := times (rms 0x44800000#32 x g) w

/-- The token's gates: of the first 1024 columns and of the next. -/
def first (x g : Fin 1024 → EReal) (w : Fin 1024 → Fin 3072 → EReal) (e : Fin 1024) : EReal := silu (projected x g w ⟨e, by omega⟩)
def second (x g : Fin 1024 → EReal) (w : Fin 1024 → Fin 3072 → EReal) (e : Fin 1024) : EReal := logistic (projected x g w ⟨1024 + e, by omega⟩)

/-- A token of an array of batches. -/
abbrev token {b l d : ℕ} {φ : FTy} (x : FVec Ideal ⟨3, ![b, l, d]⟩ φ) (i : Fin b) (t : Fin l) : Fin d → EReal := fun k => x (ix3 i t k)

theorem normed_at (g : FVec Ideal S1x1024 .f32) (x : FVec Ideal S1x512x1024 .f32) (r : Fin 512) :
    row (r := 512) (d := 1024) (φ := .bf16) (k0_pay3 (F := Ideal) g x) r = rms 0x44800000#32 (token x 0 r) (row g 0) := by
  funext j
  show k0_pay3 (F := Ideal) g x (ix2 r j) = _
  pointwise [k0_pay3]
  rfl

theorem first_panel (x : FVec Ideal S512x1024 .bf16) (w : FVec Ideal S1024x256 .bf16) (r : Fin 512) (y : Fin 256) :
    k0_pay146 (F := Ideal) x w (ix3 0 r y) = silu (times (row x r) (row w) y) := by
  pointwise [k0_pay146]
  rfl

theorem second_panel (x : FVec Ideal S512x1024 .bf16) (w : FVec Ideal S1024x256 .bf16) (r : Fin 512) (y : Fin 256) :
    k0_pay228 (F := Ideal) x w (ix3 0 r y) = logistic (times (row x r) (row w) y) := by
  pointwise [k0_pay228]
  rfl

end Cert.Gates

end
-- ==== Proof.GatesPanels.lean ====
/- The panels that the input projection's body stores into its two gates, four of 256 columns each: the list of the stores, and what it holds
   in each column when read back. -/
module

public import proofs.«01_k».proof.Proof.GatesToken
public import Idealize.ShloMosaic.Lib.Pipeline.ValueKit.Point
public import Idealize.ShloMosaic.Lib.WholeRead

@[expose] public section

set_option maxRecDepth 16384

noncomputable section

namespace Cert.GatesIdeal.Panels

open Cert.GatesIdeal Cert.GatesIdeal.Gen Cert.Layer Cert.Gates Idealize.ShloMosaic Idealize.ShloMosaic.TcCoe Idealize.SL.Sem

section
variable {F : FTy → Type} [FloatOps F]

theorem panel_fits (p : ℕ) : ∀ a, (![0, 256 * (p % 12)] : Fin 2 → ℕ) a + S1024x256.size a ≤ S1024x3072.size a := by
  intro a
  fin_cases a <;> simp [S1024x256, S1024x3072] <;> omega

theorem store_fits (p : ℕ) : ∀ a, (![0, 0, 256 * (p % 4)] : Fin 3 → ℕ) a + S1x512x256.size a ≤ S1x512x1024.size a := by
  intro a
  fin_cases a <;> simp [S1x512x256, S1x512x1024] <;> omega

/-- The columns of the matrix that panel `p` takes. -/
def panel (w : Memref sig .tc .vmem S1024x3072 .bf16) (hw : w.IsWhole) (x : Vec F S1024x3072 .bf16) (p : ℕ) : Vec F S1024x256 .bf16 :=
  View.readAt (Elt F) w.view (Rect.unit (s := S1024x3072) ![0, 256 * (p % 12)] S1024x256.size (panel_fits p)).toLoadRect (hw.unread x)

/-- The tile of tokens, each over the root of its mean square and times the gain. -/
def tile (g : Memref sig .tc .vmem S1x1024 .f32) (hg : g.IsWhole) (xg : Vec F S1x1024 .f32) (h : Memref sig .tc .vmem S1x512x1024 .f32)
    (hh : h.IsWhole) (xh : Vec F S1x512x1024 .f32) : FVec F S512x1024 .bf16 :=
  k0_pay3 (View.readAt (Elt F) g.view (Rect.unit (s := S1x1024) ![0, 0] S1x1024.size inb_S1x1024_S1x1024_0_0).toLoadRect (hg.unread xg))
    (View.readAt (Elt F) h.view (Rect.unit (s := S1x512x1024) ![0, 0, 0] S1x512x1024.size inb_S1x512x1024_S1x512x1024_0_0_0).toLoadRect
      (hh.unread xh))

/-- The first `n` panels stored, newest first. -/
def stores (pay : ℕ → FVec F S1x512x256 .bf16) : ℕ → List (View.Piece (Elt F) S1x512x1024 .bf16)
  | 0 => []
  | n + 1 => ⟨Rect.unit (s := S1x512x1024) ![0, 0, 256 * (n % 4)] S1x512x256.size (store_fits n), pay n⟩ :: stores pay n

end

theorem mem_stores (pay : ℕ → FVec Ideal S1x512x256 .bf16) (n : ℕ) (p : View.Piece (Elt Ideal) S1x512x1024 .bf16) (hp : p ∈ stores pay n) :
    ∃ k, k < n ∧ p = ⟨Rect.unit (s := S1x512x1024) ![0, 0, 256 * (k % 4)] S1x512x256.size (store_fits k), pay k⟩ := by
  induction n with
  | zero => exact absurd hp List.not_mem_nil
  | succ n ih =>
    rcases List.mem_cons.mp hp with h | h
    · exact ⟨n, n.lt_succ_self, h⟩
    · obtain ⟨k, hk, e⟩ := ih h
      exact ⟨k, hk.trans n.lt_succ_self, e⟩

theorem stores_mem (pay : ℕ → FVec Ideal S1x512x256 .bf16) (n k : ℕ) (hk : k < n) : ∃ p ∈ stores pay n,
    p.1 = Rect.unit (s := S1x512x1024) ![0, 0, 256 * (k % 4)] S1x512x256.size (store_fits k) := by
  induction n with
  | zero => omega
  | succ n ih =>
    rcases Nat.lt_succ_iff_lt_or_eq.mp hk with h | rfl
    · obtain ⟨p, hp, e⟩ := ih h
      exact ⟨p, List.mem_cons_of_mem _ hp, e⟩
    · exact ⟨_, List.mem_cons_self, rfl⟩

/-- Four panels stored hold in each column what the column's panel holds. -/
theorem stored (pay : ℕ → FVec Ideal S1x512x256 .bf16) (f : Fin 512 → Fin 1024 → EReal)
    (hf : ∀ (k : ℕ) (hk : k < 4) (r : Fin 512) (y : Fin 256), pay k (ix3 0 r y) = f r ⟨256 * k + y, by omega⟩) (r : Fin 512) (e : Fin 1024) :
    View.canon (stores pay 4) (ix3 0 r e) = f r e := by
  let G : Vec Ideal S1x512x1024 .bf16 := fun y => f (y 1 : Fin 512) (y 2 : Fin 1024)
  refine View.canon_apply_of_pieces G (stores pay 4) (fun p hp x => ?_) (ix3 0 r e) ?_
  · obtain ⟨k, hk, rfl⟩ := mem_stores pay 4 p hp
    obtain ⟨z, s, y, rfl⟩ : ∃ (z : Fin 1) (s : Fin 512) (y : Fin 256), x = ix3 z s y := ⟨x 0, x 1, x 2, eq_ix3 x⟩
    obtain rfl : z = 0 := Subsingleton.elim _ _
    have he : (Rect.unit (s := S1x512x1024) ![0, 0, 256 * (k % 4)] S1x512x256.size (store_fits k)).emb (ix3 0 s y)
        = ix3 (0 : Fin 1) s (⟨256 * k + y, by omega⟩ : Fin 1024) := by
      funext a
      apply Fin.ext
      fin_cases a
      · rfl
      · show 0 + 1 * (s : ℕ) = s
        omega
      · show 256 * (k % 4) + 1 * (y : ℕ) = 256 * k + y
        omega
    rw [he]
    exact hf k hk s y
  · obtain ⟨p, hp, e1⟩ := stores_mem pay 4 (e / 256) (by omega)
    refine ⟨p, hp, ?_⟩
    rw [e1, Rect.mem_set_unit]
    intro a
    fin_cases a <;> simp [S1x512x256] <;> omega

section
variable (g : Memref sig .tc .vmem S1x1024 .f32) (hg : g.IsWhole) (xg : Vec Ideal S1x1024 .f32) (h : Memref sig .tc .vmem S1x512x1024 .f32)
  (hh : h.IsWhole) (xh : Vec Ideal S1x512x1024 .f32) (w : Memref sig .tc .vmem S1024x3072 .bf16) (hw : w.IsWhole) (xw : Vec Ideal S1024x3072 .bf16)

theorem zero2 : (![0, 0] : Fin 2 → ℕ) = fun _ => 0 := by decide
theorem zero3 : (![0, 0, 0] : Fin 3 → ℕ) = fun _ => 0 := by decide

theorem tile_at (r : Fin 512) : row (r := 512) (d := 1024) (φ := .bf16) (tile g hg xg h hh xh) r = rms 0x44800000#32 (token (b := 1) (l := 512) (d := 1024) (φ := .f32) xh 0 r) (row (r := 1) (d := 1024) (φ := .f32) xg 0) := by
  have h1 : View.readAt (Elt Ideal) g.view (Rect.unit (s := S1x1024) ![0, 0] S1x1024.size inb_S1x1024_S1x1024_0_0).toLoadRect (hg.unread xg) = xg :=
    funext fun y => (hg.readAt_unread xg _ _).trans (congrFun (View.ld_unit_zero (Val := Elt Ideal) (S := S1x1024) zero2 _ xg) y)
  have h2 : View.readAt (Elt Ideal) h.view (Rect.unit (s := S1x512x1024) ![0, 0, 0] S1x512x1024.size inb_S1x512x1024_S1x512x1024_0_0_0).toLoadRect (hh.unread xh) = xh :=
    funext fun y => (hh.readAt_unread xh _ _).trans (congrFun (View.ld_unit_zero (Val := Elt Ideal) (S := S1x512x1024) zero3 _ xh) y)
  rw [tile, h1, h2]
  exact normed_at xg xh r

theorem panel_at (p : ℕ) (hp : p < 12) (l : Fin 1024) (y : Fin 256) : panel w hw xw p (ix2 l y) = xw (ix2 l (⟨256 * p + y, by omega⟩ : Fin 3072)) := by
  refine (hw.readAt_unread xw _ _).trans (congrArg xw (funext fun a => Fin.ext ?_))
  fin_cases a
  · show 0 + 1 * (l : ℕ) = l
    omega
  · show 256 * (p % 12) + 1 * (y : ℕ) = 256 * p + y
    omega

theorem product_at (p : ℕ) (hp : p < 12) (r : Fin 512) (y : Fin 256) :
    times (row (r := 512) (d := 1024) (φ := .bf16) (tile g hg xg h hh xh) r) (row (r := 1024) (d := 256) (φ := .bf16) (panel w hw xw p)) y
      = projected (token (b := 1) (l := 512) (d := 1024) (φ := .f32) xh 0 r) (row (r := 1) (d := 1024) (φ := .f32) xg 0) (row (r := 1024) (d := 3072) (φ := .bf16) xw) ⟨256 * p + y, by omega⟩ := by
  rw [tile_at]
  exact Finset.sum_congr rfl fun l _ => congrArg (_ * ·) (panel_at w hw xw p hp l y)

theorem first_stored (r : Fin 512) (e : Fin 1024) :
    View.canon (stores (fun p => k0_pay146 (tile g hg xg h hh xh) (panel w hw xw p)) 4) (ix3 0 r e)
      = first (token (b := 1) (l := 512) (d := 1024) (φ := .f32) xh 0 r) (row (r := 1) (d := 1024) (φ := .f32) xg 0) (row (r := 1024) (d := 3072) (φ := .bf16) xw) e := by
  refine stored _ (fun r e => first (token (b := 1) (l := 512) (d := 1024) (φ := .f32) xh 0 r) (row (r := 1) (d := 1024) (φ := .f32) xg 0) (row (r := 1024) (d := 3072) (φ := .bf16) xw) e) (fun k hk r y => ?_) r e
  exact (first_panel _ _ r y).trans (congrArg silu (product_at g hg xg h hh xh w hw xw k (by omega) r y))

theorem second_stored (r : Fin 512) (e : Fin 1024) :
    View.canon (stores (fun p => k0_pay228 (tile g hg xg h hh xh) (panel w hw xw (4 + p))) 4) (ix3 0 r e)
      = second (token (b := 1) (l := 512) (d := 1024) (φ := .f32) xh 0 r) (row (r := 1) (d := 1024) (φ := .f32) xg 0) (row (r := 1024) (d := 3072) (φ := .bf16) xw) e := by
  refine stored _ (fun r e => second (token (b := 1) (l := 512) (d := 1024) (φ := .f32) xh 0 r) (row (r := 1) (d := 1024) (φ := .f32) xg 0) (row (r := 1024) (d := 3072) (φ := .bf16) xw) e) (fun k hk r y => ?_) r e
  refine (second_panel _ _ r y).trans (congrArg logistic ((product_at g hg xg h hh xh w hw xw (4 + k) (by omega) r y).trans (congrArg _ (Fin.ext ?_))))
  show 256 * (4 + k) + (y : ℕ) = 1024 + (256 * k + y)
  omega

end

end Cert.GatesIdeal.Panels

end
-- ==== Proof.GatesStores.lean ====
/- The stores of the input projection's body into its two gates are four panels each, of the normed tile times the panel's columns of the
   matrix. -/
module

public import proofs.«01_k».proof.Proof.GatesPanels
public import proofs.«01_k».proof.Proof.Gen.GatesIdeal.Frame
import all proofs.«01_k».proof.Proof.Gen.GatesIdeal.Frame.RunA
import all proofs.«01_k».proof.Proof.Gen.GatesIdeal.Skeleton

@[expose] public section

set_option maxRecDepth 16384

noncomputable section

namespace Cert.GatesIdeal.Stores

open Cert.GatesIdeal Cert.GatesIdeal.Gen Cert.GatesIdeal.Panels Idealize.ShloMosaic Idealize.ShloMosaic.TcCoe Idealize.SL.Sem

variable {F : FTy → Type} [FloatOps F]

section
variable (c : Dev nD) (i : grid0.Coords) (arg2 : Memref sig .tc .vmem S1x512x1024 .f32) (harg2 : arg2.IsWhole)
  (arg3 : Memref sig .tc .vmem S1x16x1024 .f32) (harg3 : arg3.IsWhole) (arg4 : Memref sig .tc .vmem S1x16x1024 .f32) (harg4 : arg4.IsWhole)
  (arg5 : Memref sig .tc .vmem S1x1024 .f32) (harg5 : arg5.IsWhole) (arg6 : Memref sig .tc .vmem S1024x3584 .bf16) (harg6 : arg6.IsWhole)
  (arg7 : Memref sig .tc .vmem S1024x3072 .bf16) (harg7 : arg7.IsWhole) (arg8 : Memref sig .tc .vmem S1024x128 .bf16) (harg8 : arg8.IsWhole)
  (arg9 : Memref sig .tc .vmem S32x1024 .bf16) (harg9 : arg9.IsWhole) (arg10 : Memref sig .tc .vmem S5x3072 .f32) (harg10 : arg10.IsWhole)
  (arg11 : Memref sig .tc .vmem S1x128 .f32) (harg11 : arg11.IsWhole) (arg12 : Memref sig .tc .vmem S1x128 .f32) (harg12 : arg12.IsWhole)
  (arg13 : Memref sig .tc .vmem S16x1 .f32) (harg13 : arg13.IsWhole) (arg14 : Memref sig .tc .vmem S16x1 .f32) (harg14 : arg14.IsWhole)
  (arg15 : Memref sig .tc .vmem S4x128x128 .bf16) (harg15 : arg15.IsWhole) (arg16 : Memref sig .tc .vmem S1x512 .f32) (harg16 : arg16.IsWhole)
  (arg17 : Memref sig .tc .vmem S512x1024 .bf16) (harg17 : arg17.IsWhole) (arg18 : Memref sig .tc .vmem S1x8x512x128 .bf16)
  (harg18 : arg18.IsWhole) (arg19 : Memref sig .tc .vmem S1x8x512x128 .bf16) (harg19 : arg19.IsWhole)
  (arg20 : Memref sig .tc .vmem S1x8x512x128 .bf16) (harg20 : arg20.IsWhole) (arg21 : Memref sig .tc .vmem S1x8x128x512 .bf16)
  (harg21 : arg21.IsWhole) (arg22 : Memref sig .tc .vmem S1x512x1024 .bf16) (harg22 : arg22.IsWhole)
  (arg23 : Memref sig .tc .vmem S1x512x1024 .bf16) (harg23 : arg23.IsWhole) (arg24 : Memref sig .tc .vmem S1x512x1024 .bf16)
  (harg24 : arg24.IsWhole) (arg25 : Memref sig .tc .vmem S1x512x128 .f32) (harg25 : arg25.IsWhole)
  (arg26 : Memref sig .tc .vmem S1x48x512 .f32) (harg26 : arg26.IsWhole) (arg27 : Memref sig .tc .vmem S28x544x128 .f32)
  (harg27 : arg27.IsWhole) (arg28 : Memref sig .tc .vmem S4x512x128 .f32) (harg28 : arg28.IsWhole)
  (x0 : Vec F S1x512x1024 .f32) (x1 x2 : Vec F S1x16x1024 .f32) (x3 : Vec F S1x1024 .f32) (x4 : Vec F S1024x3584 .bf16)
  (x5 : Vec F S1024x3072 .bf16) (x6 : Vec F S1024x128 .bf16) (x7 : Vec F S32x1024 .bf16) (x8 : Vec F S5x3072 .f32) (x9 x10 : Vec F S1x128 .f32)
  (x11 x12 : Vec F S16x1 .f32) (x13 : Vec F S4x128x128 .bf16) (x14 : Vec F S1x512 .f32) (x15 : Vec F S512x1024 .bf16)

/-- The first gate's stores: the first four panels, each number times its logistic. -/
theorem first_gate :
    (kernelRun0_A c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21 harg21
      arg22 harg22 arg23 harg23 arg24 harg24 arg25 harg25 arg26 harg26 arg27 harg27 arg28 harg28
      x0 x1 x2 x3 x4 x5 x6 x7 x8 x9 x10 x11 x12 x13 x14 x15).2.2.2.2.1 =
      stores (fun p => k0_pay146 (tile arg5 harg5 x3 arg2 harg2 x0) (panel arg7 harg7 x5 p)) 4 := by
  sl_kernel_rfl

/-- The second gate's: the next four, the logistic alone. -/
theorem second_gate :
    (kernelRun0_A c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21 harg21
      arg22 harg22 arg23 harg23 arg24 harg24 arg25 harg25 arg26 harg26 arg27 harg27 arg28 harg28
      x0 x1 x2 x3 x4 x5 x6 x7 x8 x9 x10 x11 x12 x13 x14 x15).2.2.2.2.2.1 =
      stores (fun p => k0_pay228 (tile arg5 harg5 x3 arg2 harg2 x0) (panel arg7 harg7 x5 (4 + p))) 4 := by
  sl_kernel_rfl

/-- What the body leaves in the two outputs' blocks: its stores read back. -/
theorem first_left :
    out0_A_20 c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21 harg21
      arg22 harg22 arg23 harg23 arg24 harg24 arg25 harg25 arg26 harg26 arg27 harg27 arg28 harg28
      x0 x1 x2 x3 x4 x5 x6 x7 x8 x9 x10 x11 x12 x13 x14 x15 =
      View.canon (stores (fun p => k0_pay146 (tile arg5 harg5 x3 arg2 harg2 x0) (panel arg7 harg7 x5 p)) 4) := by
  rw [out0_A_20, View.read_writes_junk_eq_canon, first_gate]

theorem second_left :
    out0_A_21 c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21 harg21
      arg22 harg22 arg23 harg23 arg24 harg24 arg25 harg25 arg26 harg26 arg27 harg27 arg28 harg28
      x0 x1 x2 x3 x4 x5 x6 x7 x8 x9 x10 x11 x12 x13 x14 x15 =
      View.canon (stores (fun p => k0_pay228 (tile arg5 harg5 x3 arg2 harg2 x0) (panel arg7 harg7 x5 (4 + p))) 4) := by
  rw [out0_A_21, View.read_writes_junk_eq_canon, second_gate]

end

end Cert.GatesIdeal.Stores

end
-- ==== Proof.GatesValue.lean ====
/- The input projection's kernel: every token of the first two row-major outputs is the token's two gates. -/
module

public import proofs.«01_k».proof.Proof.GatesStores
public import proofs.«01_k».proof.Proof.Gen.GatesIdeal.Value
public import Idealize.ShloMosaic.Lib.Pipeline.ValueKit.Point

@[expose] public section

set_option maxRecDepth 16384

noncomputable section

namespace Cert.GatesIdeal.Tile

open Cert.GatesIdeal Cert.GatesIdeal.Gen Cert.GatesIdeal.Panels Cert.GatesIdeal.Stores Cert.Layer Cert.Gates Idealize.ShloMosaic Idealize.ShloMosaic.TcCoe Idealize.SL.Sem
open Idealize.ShloMosaic.Pipeline (Dat)

variable (m : (ℓ : Loc nD τ sig) → Buf (Elt Ideal) ℓ) (c : Dev nD)

/-- The two gates of every token. -/
def firsts (x : FVec Ideal S8x4096x1024 .f32) (g : FVec Ideal S1x1024 .f32) (w : FVec Ideal S1024x3072 .bf16) : FVec Ideal S8x4096x1024 .bf16 :=
  fun y => first (token x (y 0 : Fin 8) (y 1 : Fin 4096)) (row g 0) (row w) (y 2 : Fin 1024)
def seconds (x : FVec Ideal S8x4096x1024 .f32) (g : FVec Ideal S1x1024 .f32) (w : FVec Ideal S1024x3072 .bf16) : FVec Ideal S8x4096x1024 .bf16 :=
  fun y => second (token x (y 0 : Fin 8) (y 1 : Fin 4096)) (row g 0) (row w) (y 2 : Fin 1024)

/-- The batch and the token of a row of a step's tile. -/
abbrev batch (t : Fin cfg0.N) : Fin 8 := ⟨(t : ℕ) / 8, by have : (t : ℕ) < 64 := t.2; omega⟩
abbrev at' (t : Fin cfg0.N) (r : Fin 512) : Fin 4096 := ⟨512 * ((t : ℕ) % 8) + r, by omega⟩

theorem index0 : ∀ t : Fin cfg0.N, win0_0.index t = ![(t : ℕ) / 8, (t : ℕ) % 8, 0] := (by decide +kernel : ∀ t : Fin grid0.N, win0_0.index t = ![(t : ℕ) / 8, (t : ℕ) % 8, 0])
theorem index3 : ∀ t : Fin cfg0.N, win0_3.index t = ![0, 0] := (by decide +kernel : ∀ t : Fin grid0.N, win0_3.index t = ![0, 0])
theorem index5 : ∀ t : Fin cfg0.N, win0_5.index t = ![0, 0] := (by decide +kernel : ∀ t : Fin grid0.N, win0_5.index t = ![0, 0])
theorem index20 : ∀ t : Fin cfg0.N, win0_20.index t = ![(t : ℕ) / 8, (t : ℕ) % 8, 0] := (by decide +kernel : ∀ t : Fin grid0.N, win0_20.index t = ![(t : ℕ) / 8, (t : ℕ) % 8, 0])
theorem index21 : ∀ t : Fin cfg0.N, win0_21.index t = ![(t : ℕ) / 8, (t : ℕ) % 8, 0] := (by decide +kernel : ∀ t : Fin grid0.N, win0_21.index t = ![(t : ℕ) / 8, (t : ℕ) % 8, 0])

theorem block0 (t : Fin cfg0.N) (r : Fin 512) (k : Fin 1024) : iblk m c 0 t (ix3 0 r k) = V m c main_arg0 (ix3 (batch t) (at' t r) k) := by
  blk_ext [iblk, index0 t]
theorem block3 (t : Fin cfg0.N) : iblk m c 3 t = V m c main_arg1 := by
  funext y; blk_ext [iblk, index3 t]
theorem block5 (t : Fin cfg0.N) : iblk m c 5 t = V m c main_arg3 := by
  funext y; blk_ext [iblk, index5 t]

theorem out20 (t : Fin cfg0.N) (r : Fin 512) (e : Fin 1024) : (win0_20.blk t).view.emb (ix3 0 r e) = ix3 (batch t) (at' t r) e := by
  blk_ext [index20 t]
theorem out21 (t : Fin cfg0.N) (r : Fin 512) (e : Fin 1024) : (win0_21.blk t).view.emb (ix3 0 r e) = ix3 (batch t) (at' t r) e := by
  blk_ext [index21 t]

/-- So what a step leaves in them. -/
theorem left_first (t : Fin cfg0.N) : (outsAt0 m c t).2.2.2.2.1
    = View.canon (stores (fun p => k0_pay146 (tile (ms0_3 t) (hs0_3 t) (iblk m c 3 t) (ms0_0 t) (hs0_0 t) (iblk m c 0 t)) (panel (ms0_5 t) (hs0_5 t) (iblk m c 5 t) p)) 4) := by
  dsimp only [outsAt0]
  exact first_left ..
theorem left_second (t : Fin cfg0.N) : (outsAt0 m c t).2.2.2.2.2.1
    = View.canon (stores (fun p => k0_pay228 (tile (ms0_3 t) (hs0_3 t) (iblk m c 3 t) (ms0_0 t) (hs0_0 t) (iblk m c 0 t)) (panel (ms0_5 t) (hs0_5 t) (iblk m c 5 t) (4 + p))) 4) := by
  dsimp only [outsAt0]
  exact second_left ..

theorem token_block (t : Fin cfg0.N) (r : Fin 512) : token (b := 1) (l := 512) (d := 1024) (φ := .f32) (iblk m c 0 t) 0 r
    = token (b := 8) (l := 4096) (d := 1024) (φ := .f32) (V m c main_arg0) (batch t) (at' t r) := funext fun k => block0 m c t r k

/-- The two arrays that the kernel leaves: the gates of every token. -/
theorem result_first : (dats m 0 c).arrAt 20 cfg0.N = firsts (V m c main_arg0) (V m c main_arg1) (V m c main_arg3) := by
  refine (dats m 0 c).arrAt_eq_of_covers 20 _ (by decide +kernel) fun t hf y => ?_
  blk_simp
  rw [after0_20]
  obtain ⟨r, e, rfl⟩ : ∃ (r : Fin 512) (e : Fin 1024), y = ix3 0 r e := ⟨y 1, y 2, (eq_ix3 y).trans (congrArg (fun z => ix3 z (y 1) (y 2)) (Subsingleton.elim (α := Fin 1) _ _))⟩
  refine (congrFun (left_first m c t) _).trans ((first_stored _ _ _ _ _ _ _ _ _ r e).trans (Eq.trans ?_ (congrArg (firsts _ _ _) (out20 t r e)).symm))
  rw [block3, block5, token_block]
  rfl

theorem result_second : (dats m 0 c).arrAt 21 cfg0.N = seconds (V m c main_arg0) (V m c main_arg1) (V m c main_arg3) := by
  refine (dats m 0 c).arrAt_eq_of_covers 21 _ (by decide +kernel) fun t hf y => ?_
  blk_simp
  rw [after0_21]
  obtain ⟨r, e, rfl⟩ : ∃ (r : Fin 512) (e : Fin 1024), y = ix3 0 r e := ⟨y 1, y 2, (eq_ix3 y).trans (congrArg (fun z => ix3 z (y 1) (y 2)) (Subsingleton.elim (α := Fin 1) _ _))⟩
  refine (congrFun (left_second m c t) _).trans ((second_stored _ _ _ _ _ _ _ _ _ r e).trans (Eq.trans ?_ (congrArg (seconds _ _ _) (out21 t r e)).symm))
  rw [block3, block5, token_block]
  rfl

end Cert.GatesIdeal.Tile

end
-- ==== Proof.GatesRef.lean ====
/- The reference of the two gates at an index: the token's gates. -/
module

public import proofs.«01_k».proof.Proof.GatesToken
public import proofs.«01_k».proof.Proof.Gen.GatesReferenceIdeal.Run

@[expose] public section

set_option maxRecDepth 16384

noncomputable section

namespace Cert.GatesReferenceIdeal.Value

open Cert.GatesReferenceIdeal Cert.GatesReferenceIdeal.Gen Cert.Layer Cert.Gates Idealize.ShloMosaic Idealize.ShloMosaic.TcCoe

/-- `rms` of each token. -/
def tall (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf
    (Host.divf (broadcastInDim S8x4096x1 ![0, 1] bcast_S8x4096_S8x4096x1_0_1
      (Host.reduceAdd (mulf x x) (constant S_ .f32 0x00000000#32) reducesTo_S8x4096x1024_S8x4096_d2 h_S_))
      (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![1, 2] bcast_S1x1024_S1x1x1024_1_2 g))

theorem tall_at (x : FVec Ideal S8x4096x1024 .f32) (g : FVec Ideal S1x1024 .f32) (i : Fin 8) (t : Fin 4096) :
    token (tall x g) i t = rms 0x44800000#32 (token x i t) (row g 0) := by
  funext j
  show tall x g (ix3 i t j) = _
  pointwise [tall]
  rfl

/-- The products with the matrix. -/
def products (x : FVec Ideal S8x4096x1024 .f32) (w : FVec Ideal S1024x3072 .bf16) : FVec Ideal S8x4096x3072 .f32 :=
  Host.dotGeneral dot_S8x4096x1024_S1024x3072_S8x4096x3072_2_0_01_1_n_n none x (extf .f32 w bitsLt_bf16_f32)

theorem products_at (x : FVec Ideal S8x4096x1024 .f32) (w : FVec Ideal S1024x3072 .bf16) (i : Fin 8) (t : Fin 4096) :
    token (products x w) i t = times (token x i t) (row w) := by
  funext j
  show products x w (ix3 i t j) = _
  pointwise [products]
  rfl

/-- The logistic of each number of an array. -/
def logistics (a : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf a)))

theorem logistics_at (a : FVec Ideal S8x4096x1024 .f32) (i : Fin 8) (t : Fin 4096) (e : Fin 1024) : logistics a (ix3 i t e) = logistic (a (ix3 i t e)) := by
  pointwise [logistics]
  simp only [Cert.Gates.logistic, zero_sub]

/-- The reference's two results from the products. -/
def one (u : FVec Ideal S8x4096x3072 .f32) : FVec Ideal S8x4096x1024 .bf16 :=
  let a := extractStridedSlice S8x4096x1024 ![0, 0, 0] u slices_S8x4096x3072_S8x4096x1024_0_0_0
  truncf .bf16 (mulf a (logistics a)) bitsLt_bf16_f32
def two (u : FVec Ideal S8x4096x3072 .f32) : FVec Ideal S8x4096x1024 .bf16 :=
  truncf .bf16 (logistics (extractStridedSlice S8x4096x1024 ![0, 0, 1024] u slices_S8x4096x3072_S8x4096x1024_0_0_1024)) bitsLt_bf16_f32

theorem left_slice (u : FVec Ideal S8x4096x3072 .f32) (i : Fin 8) (t : Fin 4096) (e : Fin 1024) :
    extractStridedSlice S8x4096x1024 ![0, 0, 0] u slices_S8x4096x3072_S8x4096x1024_0_0_0 (ix3 i t e) = u (ix3 i t ⟨e, by omega⟩) := by
  pointwise []

theorem right_slice (u : FVec Ideal S8x4096x3072 .f32) (i : Fin 8) (t : Fin 4096) (e : Fin 1024) :
    extractStridedSlice S8x4096x1024 ![0, 0, 1024] u slices_S8x4096x3072_S8x4096x1024_0_0_1024 (ix3 i t e) = u (ix3 i t ⟨1024 + e, by omega⟩) := by
  pointwise []

theorem products_tall (x : FVec Ideal S8x4096x1024 .f32) (g : FVec Ideal S1x1024 .f32) (w : FVec Ideal S1024x3072 .bf16) (i : Fin 8) (t : Fin 4096) (j : Fin 3072) :
    products (tall x g) w (ix3 i t j) = projected (token x i t) (row g 0) (row w) j := by
  have h := congrFun (products_at (tall x g) w i t) j
  rwa [tall_at] at h

theorem one_at (x : FVec Ideal S8x4096x1024 .f32) (g : FVec Ideal S1x1024 .f32) (w : FVec Ideal S1024x3072 .bf16) (i : Fin 8) (t : Fin 4096) (e : Fin 1024) :
    one (products (tall x g) w) (ix3 i t e) = first (token x i t) (row g 0) (row w) e := by
  rw [first, ← products_tall, ← left_slice (products (tall x g) w)]
  exact congrArg (_ * ·) (logistics_at _ i t e)

theorem two_at (x : FVec Ideal S8x4096x1024 .f32) (g : FVec Ideal S1x1024 .f32) (w : FVec Ideal S1024x3072 .bf16) (i : Fin 8) (t : Fin 4096) (e : Fin 1024) :
    two (products (tall x g) w) (ix3 i t e) = second (token x i t) (row g 0) (row w) e := by
  rw [second, ← products_tall, ← right_slice (products (tall x g) w)]
  exact logistics_at _ i t e

end Cert.GatesReferenceIdeal.Value

end
-- ==== Proof.GatesSame.lean ====
/- The two gates of the input projection: from equal arguments the kernel and the reference end with equal results. -/
module

public import proofs.«01_k».proof.Defs
public import proofs.«01_k».proof.Proof.GatesValue
public import proofs.«01_k».proof.Proof.GatesRef
public import Idealize.ShloMosaic.Adequacy
public import Idealize.ShloMosaic.Init

@[expose] public section

set_option maxRecDepth 16384

noncomputable section

namespace Cert.Proof.Gates

open Idealize.ShloMosaic Idealize.SL.Sem

theorem frame_reference : Cert.quiescent_GatesReferenceIdeal := fun m ρ _ =>
  (θ_run Cert.GatesReferenceIdeal.defs _ _).mono (fun r h => ⟨fun c => (h c).2.2, sem_eq_zero_of_no_sems (by decide) r.2⟩)
    (Cert.GatesReferenceIdeal.Value.run (F := Ideal) m ρ)

section
variable (x : FVec Ideal Cert.GatesIdeal.S8x4096x1024 .f32) (g : FVec Ideal Cert.GatesIdeal.S1x1024 .f32) (w : FVec Ideal Cert.GatesIdeal.S1024x3072 .bf16)

open Cert.GatesReferenceIdeal.Value Cert.GatesIdeal.Tile

/-- The reference's results are the gates of every token. -/
theorem all_first : one (products (tall x g) w) = firsts x g w := by
  funext y
  obtain ⟨i, t, e, rfl⟩ : ∃ (i : Fin 8) (t : Fin 4096) (e : Fin 1024), y = ix3 i t e := ⟨y 0, y 1, y 2, eq_ix3 y⟩
  exact one_at x g w i t e

theorem all_second : two (products (tall x g) w) = seconds x g w := by
  funext y
  obtain ⟨i, t, e, rfl⟩ : ∃ (i : Fin 8) (t : Fin 4096) (e : Fin 1024), y = ix3 i t e := ⟨y 0, y 1, y 2, eq_ix3 y⟩
  exact two_at x g w i t e

end

theorem same_results : Cert.algebraic_GatesIdeal_GatesReferenceIdeal := by
  intro m ρ m' ρ' _ heq
  refine ⟨fun c => Cert.GatesIdeal.Tile.firsts (m ((c.tc : Thread Cert.GatesIdeal.nD Cert.GatesIdeal.τ).loc Cert.GatesIdeal.main_arg0))
      (m ((c.tc : Thread Cert.GatesIdeal.nD Cert.GatesIdeal.τ).loc Cert.GatesIdeal.main_arg1)) (m ((c.tc : Thread Cert.GatesIdeal.nD Cert.GatesIdeal.τ).loc Cert.GatesIdeal.main_arg3)),
    fun c => Cert.GatesIdeal.Tile.seconds (m ((c.tc : Thread Cert.GatesIdeal.nD Cert.GatesIdeal.τ).loc Cert.GatesIdeal.main_arg0))
      (m ((c.tc : Thread Cert.GatesIdeal.nD Cert.GatesIdeal.τ).loc Cert.GatesIdeal.main_arg1)) (m ((c.tc : Thread Cert.GatesIdeal.nD Cert.GatesIdeal.τ).loc Cert.GatesIdeal.main_arg3)),
    (θ_run Cert.GatesIdeal.defs _ _).mono (fun r hr c => ?_) (Cert.GatesIdeal.Value.run_blocks (F := Ideal) m ρ),
    (θ_run Cert.GatesReferenceIdeal.defs _ _).mono (fun r hr c => ?_) (Cert.GatesReferenceIdeal.Value.run (F := Ideal) m' ρ')⟩
  · obtain ⟨-, -, -, -, h0, h1, -, -, -, hargs⟩ := hr c
    exact ⟨h0.trans (Cert.GatesIdeal.Tile.result_first m c), h1.trans (Cert.GatesIdeal.Tile.result_second m c), hargs⟩
  obtain ⟨h0, h1, hargs⟩ := hr c
  obtain ⟨e0, e1, e2, e3, e4, e5, e6, e7, e8, e9, e10, e11, e12, e13⟩ := heq c
  refine ⟨h0.trans ?_, h1.trans ?_, hargs⟩
  · rw [e0, e1, e3]
    exact all_first _ _ _
  · rw [e0, e1, e3]
    exact all_second _ _ _

end Cert.Proof.Gates

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.MergePrompt
public import proofs.«01_k».proof.Proof.Gen.MergePrompt.Frame
public import proofs.«01_k».proof.Proof.Gen.MergePromptIdeal
public import proofs.«01_k».proof.Proof.Gen.MergePromptIdeal.Frame
public import proofs.«01_k».proof.Proof.Gen.MergePromptIdeal.Value
public import proofs.«01_k».proof.Proof.Gen.MergePromptReferenceIdeal
public import proofs.«01_k».proof.Proof.Gen.MergePromptReferenceIdeal.Run
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesReferenceIdeal
public import proofs.«01_k».proof.Proof.Gen.GatesReferenceIdeal.Run
public import proofs.«01_k».proof.Proof.RefEntry
public import proofs.«01_k».proof.Proof.Final
public import proofs.«01_k».proof.Proof.Finite
public import proofs.«01_k».proof.Proof.MergeSame
public import proofs.«01_k».proof.Proof.FfnSame
public import proofs.«01_k».proof.Proof.PromptSame
public import proofs.«01_k».proof.Proof.GatesSame
public import Idealize.ShloMosaic.Adequacy
public import Idealize.ShloMosaic.Init

@[expose] public section

set_option maxRecDepth 16384

noncomputable section

namespace Cert.Proof

open Idealize.ShloMosaic Idealize.SL.Sem Cert.Delta Cert.KernelIdeal.Pieces Cert.KernelIdeal.Grid

/-- The reference leaves its arguments as they were, and it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- A head's chain forward is the head itself, and backward it comes eight later. -/
theorem chain_front (h : Fin 8) : (⟨h, by omega⟩ : Fin 16) = chainOf false h := Fin.ext (by show (h : ℕ) = h % 8; omega)
theorem chain_back (h : Fin 8) : (⟨8 + h, by omega⟩ : Fin 16) = chainOf true h := Fin.ext (by show 8 + (h : ℕ) = 8 + h % 8; omega)

section
variable {m : (ℓ : Loc Cert.ReferenceIdeal.nD Cert.ReferenceIdeal.τ Cert.ReferenceIdeal.sig) → Buf (Elt Ideal) ℓ} {c : Dev Cert.ReferenceIdeal.nD}
  {q k v : Fin 8 → Fin 8 → Fin 4096 → Fin 128 → ℝ} {b g : Fin 8 → Fin 4096 → Fin 16 → ℝ}
  {V : Valuation Cert.ReferenceIdeal.τ Cert.ReferenceIdeal.sig (Elt Ideal)}

/-- The reference's two results are the kernel's two arrays. -/
theorem front_is (hV : Cert.ReferenceIdeal.Value.At (row q) (row k) (row v) (gate b) (gate g) 4096 V) :
    Cert.ReferenceIdeal.Value.out_main_v27 V = frontOut q k v b g := by
  funext y
  obtain ⟨i, h, t, e, rfl⟩ : ∃ (i h : Fin 8) (t : Fin 4096) (e : Fin 128), y = ix4 i h t e := ⟨y 0, y 1, y 2, y 3, eq_ix4 y⟩
  refine (Cert.ReferenceIdeal.Value.forward_at hV i h t e).trans ?_
  rw [chain_front]
  rfl

theorem back_is (hV : Cert.ReferenceIdeal.Value.At (row q) (row k) (row v) (gate b) (gate g) 4096 V) :
    Cert.ReferenceIdeal.Value.out_main_v29 V = backOut q k v b g := by
  funext y
  obtain ⟨i, h, t, e, rfl⟩ : ∃ (i h : Fin 8) (t : Fin 4096) (e : Fin 128), y = ix4 i h t e := ⟨y 0, y 1, y 2, y 3, eq_ix4 y⟩
  refine (Cert.ReferenceIdeal.Value.backward_at hV i h t e).trans ?_
  rw [chain_back]
  rfl

end

/-- Kernel and reference end with the same arrays: both are the read-outs of the sixteen chains. -/
theorem same_results [h : Cert.Pre_finite.Facts] : Cert.algebraic_KernelIdeal_ReferenceIdeal_pre_finite := by
  intro m ρ m' ρ' hfin heq
  refine ⟨fun c => _, fun c => _, Cert.KernelIdeal.Value.run_blocks (F := Ideal) m ρ,
    (θ_run Cert.ReferenceIdeal.defs _ _).mono (fun r hr c => ?_) (Cert.ReferenceIdeal.Value.run (F := Ideal) m' ρ')⟩
  obtain ⟨h0, h1, hargs⟩ := hr c
  have H := Cert.Pre_finite.holds hfin c
  obtain ⟨e0, e1, e2, e3, e4⟩ := heq c
  have hV := (Cert.ReferenceIdeal.Value.entry_at (m := m') (c := c) _ _ _ _ _ (fun i h t e => (congrFun e0 _).trans (H.q i h t e))
    (fun i h t e => (congrFun e1 _).trans (H.k i h t e)) (fun i h t e => (congrFun e2 _).trans (H.v i h t e))
    (fun i t j => (congrFun e3 _).trans (H.b i t j)) (fun i t j => (congrFun e4 _).trans (H.g i t j))).steps 4096 le_rfl
  exact ⟨h0.trans ((front_is hV).trans H.front.symm), h1.trans ((back_is hV).trans H.back.symm), hargs⟩

theorem claim : Cert.Claim :=
  ⟨Cert.Kernel.Gen.facts, Cert.KernelIdeal.Gen.facts, Cert.ReferenceIdeal.Gen.facts, Cert.Merge.Gen.facts, Cert.MergeIdeal.Gen.facts,
    Cert.MergeReferenceIdeal.Gen.facts, Cert.Ffn.Gen.facts, Cert.FfnIdeal.Gen.facts, Cert.FfnReferenceIdeal.Gen.facts,
    Cert.MergePrompt.Gen.facts, Cert.MergePromptIdeal.Gen.facts, Cert.MergePromptReferenceIdeal.Gen.facts,
    Cert.Gates.Gen.facts, Cert.GatesIdeal.Gen.facts, Cert.GatesReferenceIdeal.Gen.facts, Cert.Pre_finite.shapes,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Merge.Gen.frame m ρ, fun m ρ _ => Cert.MergeIdeal.Gen.frame m ρ, Merge.frame_reference,
    fun m ρ _ => Cert.Ffn.Gen.frame m ρ, fun m ρ _ => Cert.FfnIdeal.Gen.frame m ρ, Ffn.frame_reference,
    fun m ρ _ => Cert.MergePrompt.Gen.frame m ρ, fun m ρ _ => Cert.MergePromptIdeal.Gen.frame m ρ, Prompt.frame_reference,
    fun m ρ _ => Cert.Gates.Gen.frame m ρ, fun m ρ _ => Cert.GatesIdeal.Gen.frame m ρ, Gates.frame_reference,
    trivial, same_results (h := Cert.Pre_finite.shapes), trivial, Merge.same_results, trivial, Ffn.same_results, trivial, Prompt.same_results,
    trivial, Gates.same_results⟩

end Cert.Proof

end
